-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxReferenceIdeal (m : (ℓ : Loc Cert.CtxReferenceIdeal.nD Cert.CtxReferenceIdeal.τ Cert.CtxReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ctx_CtxIdeal : Prop :=
  True

def algebraic_CtxIdeal_CtxReferenceIdeal [hCtxIdeal : Cert.CtxIdeal.Facts] [hCtxReferenceIdeal : Cert.CtxReferenceIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxIdeal m →
    (∀ c : Dev Cert.CtxIdeal.nD,
      m' ((c.tc : Thread Cert.CtxReferenceIdeal.nD Cert.CtxReferenceIdeal.τ).loc Cert.CtxReferenceIdeal.main_arg0) = m ((c.tc : Thread Cert.CtxIdeal.nD Cert.CtxIdeal.τ).loc Cert.CtxIdeal.main_arg0)) →
    ∃ (v0 : (c : Dev Cert.CtxIdeal.nD) → Buf (Elt Ideal) ((c.tc : Thread Cert.CtxIdeal.nD Cert.CtxIdeal.τ).loc Cert.CtxIdeal.main_v0_0)) (v1 : (c : Dev Cert.CtxIdeal.nD) → Buf (Elt Ideal) ((c.tc : Thread Cert.CtxIdeal.nD Cert.CtxIdeal.τ).loc Cert.CtxIdeal.main_v0_1)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0_0) = v0 c
          ∧ r.2.mem ((c.tc : Thread Cert.CtxIdeal.nD Cert.CtxIdeal.τ).loc Cert.CtxIdeal.main_v0_1) = v1 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v0_0) = v0 c
          ∧ r.2.mem ((c.tc : Thread Cert.CtxReferenceIdeal.nD Cert.CtxReferenceIdeal.τ).loc Cert.CtxReferenceIdeal.main_v0_1) = v1 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v0_0) = v0 c
          ∧ r.2.mem ((c.tc : Thread Cert.FfnReferenceIdeal.nD Cert.FfnReferenceIdeal.τ).loc Cert.FfnReferenceIdeal.main_v0_1) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)) (v2 : (c : Dev Cert.NormIdeal.nD) → Buf (Elt Ideal) ((c.tc : Thread Cert.NormIdeal.nD Cert.NormIdeal.τ).loc Cert.NormIdeal.main_v2_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_v2_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v2_0) = v0 c
          ∧ r.2.mem ((c.tc : Thread Cert.NormReferenceIdeal.nD Cert.NormReferenceIdeal.τ).loc Cert.NormReferenceIdeal.main_v2_1) = v1 c
          ∧ r.2.mem ((c.tc : Thread Cert.NormReferenceIdeal.nD Cert.NormReferenceIdeal.τ).loc Cert.NormReferenceIdeal.main_v2_2) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def Claim : Prop :=
  ∃ (hKernel : Cert.Kernel.Facts) (hKernelIdeal : Cert.KernelIdeal.Facts) (hReferenceIdeal : Cert.ReferenceIdeal.Facts) (hCtx : Cert.Ctx.Facts) (hCtxIdeal : Cert.CtxIdeal.Facts) (hCtxReferenceIdeal : Cert.CtxReferenceIdeal.Facts) (hFfn : Cert.Ffn.Facts) (hFfnIdeal : Cert.FfnIdeal.Facts) (hFfnReferenceIdeal : Cert.FfnReferenceIdeal.Facts) (hNorm : Cert.Norm.Facts) (hNormIdeal : Cert.NormIdeal.Facts) (hNormReferenceIdeal : Cert.NormReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ctx (hCtx := hCtx)
    ∧ quiescent_CtxIdeal (hCtxIdeal := hCtxIdeal)
    ∧ quiescent_CtxReferenceIdeal (hCtxReferenceIdeal := hCtxReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal (hKernelIdeal := hKernelIdeal) (hReferenceIdeal := hReferenceIdeal)
    ∧ preserves_Ctx_CtxIdeal
    ∧ algebraic_CtxIdeal_CtxReferenceIdeal (hCtxIdeal := hCtxIdeal) (hCtxReferenceIdeal := hCtxReferenceIdeal)
    ∧ preserves_Ffn_FfnIdeal
    ∧ algebraic_FfnIdeal_FfnReferenceIdeal (hFfnIdeal := hFfnIdeal) (hFfnReferenceIdeal := hFfnReferenceIdeal)
    ∧ preserves_Norm_NormIdeal
    ∧ algebraic_NormIdeal_NormReferenceIdeal (hNormIdeal := hNormIdeal) (hNormReferenceIdeal := hNormReferenceIdeal)
-- ==== Kernel.lean ====
abbrev S12x8192x2560 : Shape := ⟨3, ![12, 8192, 2560]⟩
abbrev S2560x20x128 : Shape := ⟨3, ![2560, 20, 128]⟩
abbrev S20 : Shape := ⟨1, ![20]⟩
abbrev S20x128 : Shape := ⟨2, ![20, 128]⟩
abbrev S20x2560x128 : Shape := ⟨3, ![20, 2560, 128]⟩
abbrev S12x8192 : Shape := ⟨2, ![12, 8192]⟩
abbrev S12x20x8192x128 : Shape := ⟨4, ![12, 20, 8192, 128]⟩
abbrev S12x20x8192 : Shape := ⟨3, ![12, 20, 8192]⟩
abbrev S1x512x2560 : Shape := ⟨3, ![1, 512, 2560]⟩
abbrev S1x20x512x128 : Shape := ⟨4, ![1, 20, 512, 128]⟩
abbrev S1x20x512 : Shape := ⟨3, ![1, 20, 512]⟩
abbrev S1x32x2560 : Shape := ⟨3, ![1, 32, 2560]⟩
abbrev S32x2560 : Shape := ⟨2, ![32, 2560]⟩
abbrev S32 : Shape := ⟨1, ![32]⟩
abbrev S32x1 : Shape := ⟨2, ![32, 1]⟩
abbrev S512x1 : Shape := ⟨2, ![512, 1]⟩
abbrev S1x512 : Shape := ⟨2, ![1, 512]⟩
abbrev S512x2560 : Shape := ⟨2, ![512, 2560]⟩
abbrev S512x128 : Shape := ⟨2, ![512, 128]⟩
abbrev S1x2560x128 : Shape := ⟨3, ![1, 2560, 128]⟩
abbrev S2560x128 : Shape := ⟨2, ![2560, 128]⟩
abbrev S2560x256 : Shape := ⟨2, ![2560, 256]⟩
abbrev S512x256 : Shape := ⟨2, ![512, 256]⟩
abbrev S1 : Shape := ⟨1, ![1]⟩
abbrev S512 : Shape := ⟨1, ![512]⟩
abbrev S1x1x512x128 : Shape := ⟨4, ![1, 1, 512, 128]⟩
abbrev S1x128 : Shape := ⟨2, ![1, 128]⟩
abbrev S128x512 : Shape := ⟨2, ![128, 512]⟩
abbrev S20x512 : Shape := ⟨2, ![20, 512]⟩

abbrev nBuf : Space → Nat
  | .hbm => 14
  | .vmem => 16
  | .smem => 2
  | _ => 0

abbrev bufTy : (tb : Table) → Fin (tcTables nBuf tb) → BufTy
  | .hbm, ⟨0, _⟩ => ⟨S12x8192x2560, .bf16⟩
  | .hbm, ⟨1, _⟩ => ⟨S2560x20x128, .fp8e4m3⟩
  | .hbm, ⟨2, _⟩ => ⟨S20, .f32⟩
  | .hbm, ⟨3, _⟩ => ⟨S2560x20x128, .fp8e4m3⟩
  | .hbm, ⟨4, _⟩ => ⟨S20, .f32⟩
  | .hbm, ⟨5, _⟩ => ⟨S20x128, .f32⟩
  | .hbm, ⟨6, _⟩ => ⟨S20x2560x128, .fp8e4m3⟩
  | .hbm, ⟨7, _⟩ => ⟨S20x2560x128, .fp8e4m3⟩
  | .hbm, ⟨8, _⟩ => ⟨S12x8192x2560, .fp8e4m3⟩
  | .hbm, ⟨9, _⟩ => ⟨S12x8192, .f32⟩
  | .hbm, ⟨10, _⟩ => ⟨S12x20x8192x128, .fp8e4m3⟩
  | .hbm, ⟨11, _⟩ => ⟨S12x20x8192, .f32⟩
  | .hbm, ⟨12, _⟩ => ⟨S12x20x8192x128, .fp8e4m3⟩
  | .hbm, ⟨13, _⟩ => ⟨S12x20x8192, .f32⟩
  | .local _ .vmem, ⟨0, _⟩ => ⟨S1x512x2560, .bf16⟩
  | .local _ .vmem, ⟨1, _⟩ => ⟨S1x512x2560, .bf16⟩
  | .local _ .vmem, ⟨2, _⟩ => ⟨S20x2560x128, .fp8e4m3⟩
  | .local _ .vmem, ⟨3, _⟩ => ⟨S20x2560x128, .fp8e4m3⟩
  | .local _ .vmem, ⟨4, _⟩ => ⟨S20x128, .f32⟩
  | .local _ .vmem, ⟨5, _⟩ => ⟨S1x512x2560, .fp8e4m3⟩
  | .local _ .vmem, ⟨6, _⟩ => ⟨S1x512x2560, .fp8e4m3⟩
  | .local _ .vmem, ⟨7, _⟩ => ⟨S12x8192, .f32⟩
  | .local _ .vmem, ⟨8, _⟩ => ⟨S1x20x512x128, .fp8e4m3⟩
  | .local _ .vmem, ⟨9, _⟩ => ⟨S1x20x512x128, .fp8e4m3⟩
  | .local _ .vmem, ⟨10, _⟩ => ⟨S1x20x512, .f32⟩
  | .local _ .vmem, ⟨11, _⟩ => ⟨S1x20x512, .f32⟩
  | .local _ .vmem, ⟨12, _⟩ => ⟨S1x20x512x128, .fp8e4m3⟩
  | .local _ .vmem, ⟨13, _⟩ => ⟨S1x20x512x128, .fp8e4m3⟩
  | .local _ .vmem, ⟨14, _⟩ => ⟨S1x20x512, .f32⟩
  | .local _ .vmem, ⟨15, _⟩ => ⟨S1x20x512, .f32⟩
  | .local _ .smem, ⟨0, _⟩ => ⟨S20, .f32⟩
  | .local _ .smem, ⟨1, _⟩ => ⟨S20, .f32⟩
  | _, _ => ⟨S12x8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![12, 16], ![false, false]⟩

def k0_mult1 (i : grid0.Coords) : BitVec 32 :=
  let arg1 : BitVec 32 := BitVec.ofNat 32 (i 1).val
  let c512_i32 : BitVec 32 := 512#32
  let v1138 : BitVec 32 := Scalar.muli arg1 c512_i32
  v1138
def k0_off1 (i : grid0.Coords) : Fin 2 → Nat :=
  let arg0 : BitVec 32 := BitVec.ofNat 32 (i 0).val
  let v1140 : Index := Scalar.indexCast arg0
  let arg1 : BitVec 32 := BitVec.ofNat 32 (i 1).val
  let c512_i32 : BitVec 32 := 512#32
  let v1138 : BitVec 32 := Scalar.muli arg1 c512_i32
  let v1139 : BitVec 32 := v1138
  let v1141 : Index := Scalar.indexCast v1139
  ![v1140.toNat, v1141.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S20x2560x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S20x2560x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S20x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2560 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S12x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x20x512x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x20x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x20x512x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x20x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S12x8192x2560 : Shape := ⟨3, ![12, 8192, 2560]⟩
abbrev S2560x20x128 : Shape := ⟨3, ![2560, 20, 128]⟩
abbrev S20 : Shape := ⟨1, ![20]⟩
abbrev S20x128 : Shape := ⟨2, ![20, 128]⟩
abbrev S12x8192 : Shape := ⟨2, ![12, 8192]⟩
abbrev S12x20x8192x128 : Shape := ⟨4, ![12, 20, 8192, 128]⟩
abbrev S12x20x8192 : Shape := ⟨3, ![12, 20, 8192]⟩
abbrev S12x8192x1 : Shape := ⟨3, ![12, 8192, 1]⟩
abbrev S12x8192x1x1 : Shape := ⟨4, ![12, 8192, 1, 1]⟩
abbrev S98304x2560 : Shape := ⟨2, ![98304, 2560]⟩
abbrev S2560x2560 : Shape := ⟨2, ![2560, 2560]⟩
abbrev S12x8192x20x128 : Shape := ⟨4, ![12, 8192, 20, 128]⟩
abbrev S1x1x20x1 : Shape := ⟨4, ![1, 1, 20, 1]⟩
abbrev S12x8192x20 : Shape := ⟨3, ![12, 8192, 20]⟩
abbrev S12x8192x20x1 : Shape := ⟨4, ![12, 8192, 20, 1]⟩
abbrev S1x1x20x128 : Shape := ⟨4, ![1, 1, 20, 128]⟩

abbrev nBuf : Space → Nat
  | .hbm => 12
  | .vmem => 12
  | .smem => 0
  | _ => 0

abbrev bufTy : (tb : Table) → Fin (tcTables nBuf tb) → BufTy
  | .hbm, ⟨0, _⟩ => ⟨S12x8192x2560, .bf16⟩
  | .hbm, ⟨1, _⟩ => ⟨S2560x20x128, .fp8e4m3⟩
  | .hbm, ⟨2, _⟩ => ⟨S20, .f32⟩
  | .hbm, ⟨3, _⟩ => ⟨S2560x20x128, .fp8e4m3⟩
  | .hbm, ⟨4, _⟩ => ⟨S20, .f32⟩
  | .hbm, ⟨5, _⟩ => ⟨S20x128, .f32⟩
  | .hbm, ⟨6, _⟩ => ⟨S12x8192x2560, .fp8e4m3⟩
  | .hbm, ⟨7, _⟩ => ⟨S12x8192, .f32⟩
  | .hbm, ⟨8, _⟩ => ⟨S12x20x8192x128, .fp8e4m3⟩
  | .hbm, ⟨9, _⟩ => ⟨S12x20x8192, .f32⟩
  | .hbm, ⟨10, _⟩ => ⟨S12x20x8192x128, .fp8e4m3⟩
  | .hbm, ⟨11, _⟩ => ⟨S12x20x8192, .f32⟩
  | .local _ .vmem, ⟨0, _⟩ => ⟨S12x8192x2560, .bf16⟩
  | .local _ .vmem, ⟨1, _⟩ => ⟨S2560x20x128, .fp8e4m3⟩
  | .local _ .vmem, ⟨2, _⟩ => ⟨S20, .f32⟩
  | .local _ .vmem, ⟨3, _⟩ => ⟨S2560x20x128, .fp8e4m3⟩
  | .local _ .vmem, ⟨4, _⟩ => ⟨S20, .f32⟩
  | .local _ .vmem, ⟨5, _⟩ => ⟨S20x128, .f32⟩
  | .local _ .vmem, ⟨6, _⟩ => ⟨S12x8192x2560, .fp8e4m3⟩
  | .local _ .vmem, ⟨7, _⟩ => ⟨S12x8192, .f32⟩
  | .local _ .vmem, ⟨8, _⟩ => ⟨S12x20x8192x128, .fp8e4m3⟩
  | .local _ .vmem, ⟨9, _⟩ => ⟨S12x20x8192, .f32⟩
  | .local _ .vmem, ⟨10, _⟩ => ⟨S12x20x8192x128, .fp8e4m3⟩
  | .local _ .vmem, ⟨11, _⟩ => ⟨S12x20x8192, .f32⟩
  | _, _ => ⟨S12x8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S12x8192x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x20x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x20x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x8192x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x20x8192x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x20x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x20x8192x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x20x8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Ctx.lean ====
abbrev S288x2560 : Shape := ⟨2, ![288, 2560]⟩
abbrev S288x1 : Shape := ⟨2, ![288, 1]⟩
abbrev S288 : Shape := ⟨1, ![288]⟩

abbrev nBuf : Space → Nat
  | .hbm => 3
  | .vmem => 3
  | .smem => 0
  | _ => 0

abbrev bufTy : (tb : Table) → Fin (tcTables nBuf tb) → BufTy
  | .hbm, ⟨0, _⟩ => ⟨S288x2560, .f32⟩
  | .hbm, ⟨1, _⟩ => ⟨S288x2560, .fp8e4m3⟩
  | .hbm, ⟨2, _⟩ => ⟨S288x1, .f32⟩
  | .local _ .vmem, ⟨0, _⟩ => ⟨S288x2560, .f32⟩
  | .local _ .vmem, ⟨1, _⟩ => ⟨S288x2560, .fp8e4m3⟩
  | .local _ .vmem, ⟨2, _⟩ => ⟨S288x1, .f32⟩
  | _, _ => ⟨S288x2560, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S288x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== CtxReferenceIdeal.lean ====
abbrev S288x2560 : Shape := ⟨2, ![288, 2560]⟩
abbrev S288x1 : Shape := ⟨2, ![288, 1]⟩
abbrev S288 : Shape := ⟨1, ![288]⟩

abbrev nBuf : Space → Nat
  | .hbm => 3
  | .vmem => 3
  | .smem => 0
  | _ => 0

abbrev bufTy : (tb : Table) → Fin (tcTables nBuf tb) → BufTy
  | .hbm, ⟨0, _⟩ => ⟨S288x2560, .f32⟩
  | .hbm, ⟨1, _⟩ => ⟨S288x2560, .fp8e4m3⟩
  | .hbm, ⟨2, _⟩ => ⟨S288x1, .f32⟩
  | .local _ .vmem, ⟨0, _⟩ => ⟨S288x2560, .f32⟩
  | .local _ .vmem, ⟨1, _⟩ => ⟨S288x2560, .fp8e4m3⟩
  | .local _ .vmem, ⟨2, _⟩ => ⟨S288x1, .f32⟩
  | _, _ => ⟨S288x2560, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S288x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Ffn.lean ====
abbrev S288x10240 : Shape := ⟨2, ![288, 10240]⟩
abbrev S288x1 : Shape := ⟨2, ![288, 1]⟩
abbrev S288 : Shape := ⟨1, ![288]⟩

abbrev nBuf : Space → Nat
  | .hbm => 3
  | .vmem => 3
  | .smem => 0
  | _ => 0

abbrev bufTy : (tb : Table) → Fin (tcTables nBuf tb) → BufTy
  | .hbm, ⟨0, _⟩ => ⟨S288x10240, .f32⟩
  | .hbm, ⟨1, _⟩ => ⟨S288x10240, .fp8e4m3⟩
  | .hbm, ⟨2, _⟩ => ⟨S288x1, .f32⟩
  | .local _ .vmem, ⟨0, _⟩ => ⟨S288x10240, .f32⟩
  | .local _ .vmem, ⟨1, _⟩ => ⟨S288x10240, .fp8e4m3⟩
  | .local _ .vmem, ⟨2, _⟩ => ⟨S288x1, .f32⟩
  | _, _ => ⟨S288x10240, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S288x10240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== FfnReferenceIdeal.lean ====
abbrev S288x10240 : Shape := ⟨2, ![288, 10240]⟩
abbrev S288x1 : Shape := ⟨2, ![288, 1]⟩
abbrev S288 : Shape := ⟨1, ![288]⟩

abbrev nBuf : Space → Nat
  | .hbm => 3
  | .vmem => 3
  | .smem => 0
  | _ => 0

abbrev bufTy : (tb : Table) → Fin (tcTables nBuf tb) → BufTy
  | .hbm, ⟨0, _⟩ => ⟨S288x10240, .f32⟩
  | .hbm, ⟨1, _⟩ => ⟨S288x10240, .fp8e4m3⟩
  | .hbm, ⟨2, _⟩ => ⟨S288x1, .f32⟩
  | .local _ .vmem, ⟨0, _⟩ => ⟨S288x10240, .f32⟩
  | .local _ .vmem, ⟨1, _⟩ => ⟨S288x10240, .fp8e4m3⟩
  | .local _ .vmem, ⟨2, _⟩ => ⟨S288x1, .f32⟩
  | _, _ => ⟨S288x10240, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S288x10240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Norm.lean ====
abbrev S288x2560 : Shape := ⟨2, ![288, 2560]⟩
abbrev S2560 : Shape := ⟨1, ![2560]⟩
abbrev S1x2560 : Shape := ⟨2, ![1, 2560]⟩
abbrev S288x1 : Shape := ⟨2, ![288, 1]⟩
abbrev S288 : Shape := ⟨1, ![288]⟩

abbrev nBuf : Space → Nat
  | .hbm => 9
  | .vmem => 7
  | .smem => 0
  | _ => 0

abbrev bufTy : (tb : Table) → Fin (tcTables nBuf tb) → BufTy
  | .hbm, ⟨0, _⟩ => ⟨S288x2560, .f32⟩
  | .hbm, ⟨1, _⟩ => ⟨S288x2560, .f32⟩
  | .hbm, ⟨2, _⟩ => ⟨S2560, .f32⟩
  | .hbm, ⟨3, _⟩ => ⟨S2560, .f32⟩
  | .hbm, ⟨4, _⟩ => ⟨S1x2560, .f32⟩
  | .hbm, ⟨5, _⟩ => ⟨S1x2560, .f32⟩
  | .hbm, ⟨6, _⟩ => ⟨S288x2560, .f32⟩
  | .hbm, ⟨7, _⟩ => ⟨S288x2560, .fp8e4m3⟩
  | .hbm, ⟨8, _⟩ => ⟨S288x1, .f32⟩
  | .local _ .vmem, ⟨0, _⟩ => ⟨S288x2560, .f32⟩
  | .local _ .vmem, ⟨1, _⟩ => ⟨S288x2560, .f32⟩
  | .local _ .vmem, ⟨2, _⟩ => ⟨S1x2560, .f32⟩
  | .local _ .vmem, ⟨3, _⟩ => ⟨S1x2560, .f32⟩
  | .local _ .vmem, ⟨4, _⟩ => ⟨S288x2560, .f32⟩
  | .local _ .vmem, ⟨5, _⟩ => ⟨S288x2560, .fp8e4m3⟩
  | .local _ .vmem, ⟨6, _⟩ => ⟨S288x1, .f32⟩
  | _, _ => ⟨S288x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S288x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S288x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S288x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S288x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== NormReferenceIdeal.lean ====
abbrev S288x2560 : Shape := ⟨2, ![288, 2560]⟩
abbrev S2560 : Shape := ⟨1, ![2560]⟩
abbrev S1x2560 : Shape := ⟨2, ![1, 2560]⟩
abbrev S288x1 : Shape := ⟨2, ![288, 1]⟩
abbrev S288 : Shape := ⟨1, ![288]⟩

abbrev nBuf : Space → Nat
  | .hbm => 9
  | .vmem => 7
  | .smem => 0
  | _ => 0

abbrev bufTy : (tb : Table) → Fin (tcTables nBuf tb) → BufTy
  | .hbm, ⟨0, _⟩ => ⟨S288x2560, .f32⟩
  | .hbm, ⟨1, _⟩ => ⟨S288x2560, .f32⟩
  | .hbm, ⟨2, _⟩ => ⟨S2560, .f32⟩
  | .hbm, ⟨3, _⟩ => ⟨S2560, .f32⟩
  | .hbm, ⟨4, _⟩ => ⟨S1x2560, .f32⟩
  | .hbm, ⟨5, _⟩ => ⟨S1x2560, .f32⟩
  | .hbm, ⟨6, _⟩ => ⟨S288x2560, .f32⟩
  | .hbm, ⟨7, _⟩ => ⟨S288x2560, .fp8e4m3⟩
  | .hbm, ⟨8, _⟩ => ⟨S288x1, .f32⟩
  | .local _ .vmem, ⟨0, _⟩ => ⟨S288x2560, .f32⟩
  | .local _ .vmem, ⟨1, _⟩ => ⟨S288x2560, .f32⟩
  | .local _ .vmem, ⟨2, _⟩ => ⟨S1x2560, .f32⟩
  | .local _ .vmem, ⟨3, _⟩ => ⟨S1x2560, .f32⟩
  | .local _ .vmem, ⟨4, _⟩ => ⟨S288x2560, .f32⟩
  | .local _ .vmem, ⟨5, _⟩ => ⟨S288x2560, .fp8e4m3⟩
  | .local _ .vmem, ⟨6, _⟩ => ⟨S288x1, .f32⟩
  | _, _ => ⟨S288x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S288x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S288x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S288x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S288x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Run.lean ====
module

public import proofs.«01_k».proof.Proof.Gen.KernelIdeal.Frame
public import proofs.«01_k».proof.Proof.Gen.KernelIdeal.Skeleton
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2264000 in
/-- The pieces that the body's stores leave in each output's staging memref (last first), with the body's triple: from
    whole staging memrefs, the inputs' at their contents, the row scales' (`arg9`) at `x7`, the other outputs' at
    anything, the body ends with the inputs' unchanged and each output's pieces written, the row scales' over `x7`. -/
noncomputable def bodyRun (c : Dev nD) (i : grid0.Coords) (arg2 : Memref sig .tc .smem S20 .f32) (harg2 : arg2.IsWhole) (arg3 : Memref sig .tc .smem S20 .f32) (harg3 : arg3.IsWhole) (arg4 : Memref sig .tc .vmem S1x512x2560 .bf16) (harg4 : arg4.IsWhole) (arg5 : Memref sig .tc .vmem S20x2560x128 .fp8e4m3) (harg5 : arg5.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (harg8 : arg8.IsWhole) (arg9 : Memref sig .tc .vmem S12x8192 .f32) (harg9 : arg9.IsWhole) (arg10 : Memref sig .tc .vmem S1x20x512x128 .fp8e4m3) (harg10 : arg10.IsWhole) (arg11 : Memref sig .tc .vmem S1x20x512 .f32) (harg11 : arg11.IsWhole) (arg12 : Memref sig .tc .vmem S1x20x512x128 .fp8e4m3) (harg12 : arg12.IsWhole) (arg13 : Memref sig .tc .vmem S1x20x512 .f32) (harg13 : arg13.IsWhole)
    (x0 : Vec F S20 .f32) (x1 : Vec F S20 .f32) (x2 : Vec F S1x512x2560 .bf16) (x3 : Vec F S20x2560x128 .fp8e4m3) (x4 : Vec F S20x2560x128 .fp8e4m3) (x5 : Vec F S20x128 .f32) (x7 : Vec F S12x8192 .f32) :
    Σ' (L6 : List (View.Piece (Elt F) S1x512x2560 .fp8e4m3)), Σ' (L7 : List (View.Piece (Elt F) S12x8192 .f32)), Σ' (L8 : List (View.Piece (Elt F) S1x20x512x128 .fp8e4m3)), Σ' (L9 : List (View.Piece (Elt F) S1x20x512 .f32)), Σ' (L10 : List (View.Piece (Elt F) S1x20x512x128 .fp8e4m3)), { L11 : List (View.Piece (Elt F) S1x20x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread x7) L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc0_kv_project i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_kv_project_eq_skeleton]; unfold cc0_kv_project_skel
    simp only [k0_part100_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexact H7
    isplitl [H8]; · iexists _; iexact H8
    isplitl [H9]; · iexists _; iexact H9
    isplitl [H10]; · iexists _; iexact H10
    iexists _; iexact H11

end Cert.KernelIdeal.Hand

end
-- ==== Proof.Closed.lean ====
module

public import proofs.«01_k».proof.Proof.Run
public import Idealize.ShloMosaic.Lib.Pipeline.ReadBack
public import Idealize.ShloMosaic.Lib.WholeRead
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

/-! ## The kernel's operations on vectors, named -/

/-- One step of the search for the exponent field of `t`: the field `e` found so far, with `bit` set unless that makes it
    the field of a value above `t`. -/
def fieldStep {s : Shape} (t : FVec F s .f32) (bit : BitVec 32) (e : IVec s 32) : IVec s 32 :=
  select (cmpf .olt t (bitcastToFloat .f32 (ori e (broadcast s bit)))) e (ori e (broadcast s bit))

/-- The exponent field of `t`, in place, found bit by bit from the highest. -/
def fieldOf {s : Shape} (t : FVec F s .f32) : IVec s 32 :=
  fieldStep t 8388608#32 (fieldStep t 16777216#32 (fieldStep t 33554432#32 (fieldStep t 67108864#32
    (fieldStep t 134217728#32 (fieldStep t 268435456#32 (fieldStep t 536870912#32 (fieldStep t 1073741824#32 (broadcast s 0#32))))))))

/-- The scale of `t`: the least power of two above it, or one where `t` is below the least normal number. -/
def scaleOf {s : Shape} (t : FVec F s .f32) : FVec F s .f32 :=
  bitcastToFloat .f32 (select (cmpi .eq (fieldOf t) (broadcast s 0#32)) (broadcast s 1065353216#32) (addi (fieldOf t) (broadcast s 8388608#32)))

/-- The reciprocal of the scale. -/
def invOf {s : Shape} (t : FVec F s .f32) : FVec F s .f32 :=
  bitcastToFloat .f32 (select (cmpi .eq (fieldOf t) (broadcast s 0#32)) (broadcast s 1065353216#32) (subi (broadcast s 2122317824#32) (fieldOf t)))

/-- `v` clipped to the format's range and cast to it. -/
def clipOf {s : Shape} (v : FVec F s .f32) : FVec F s .fp8e4m3 :=
  truncf .fp8e4m3 (minimumf (broadcast s (Scalar.ofBits .f32 0x43E00000#32)) (maximumf (broadcast s (Scalar.ofBits .f32 0xC3E00000#32)) v)) bitsLt_fp8e4m3_f32

/-- The largest magnitude of a row, over 448. -/
def byLimit {s : Shape} (a : FVec F s .f32) : FVec F s .f32 := mulf a (broadcast s (Scalar.ofBits .f32 0x3B124925#32))

/-- A chunk of 32 rows of `x`, -/
def chunkX (v : Vec F S1x32x2560 .bf16) : FVec F S32x2560 .f32 := extf .f32 (shapeCast S32x2560 v shapeCasts_S1x32x2560_S32x2560) bitsLt_bf16_f32
/-- its rows' largest magnitudes over 448, -/
def chunkT (v : Vec F S1x32x2560 .bf16) : FVec F S32x1 .f32 :=
  byLimit (shapeCast S32x1 (multiReduction .maximumf [1] S32 (absf (chunkX v)) 0xFF800000#32 reduces_S32x2560_S32 (.inl rfl) rfl) shapeCasts_S32_S32x1)
/-- and its codes. -/
def chunkQ (v : Vec F S1x32x2560 .bf16) : FVec F S1x32x2560 .fp8e4m3 :=
  shapeCast S1x32x2560 (clipOf (mulf (chunkX v) (broadcastTo S32x2560 (invOf (chunkT v)) broadcasts_S32x1_S32x2560))) shapeCasts_S32x2560_S1x32x2560

/-- The scales of the block's 512 rows, chunk by chunk. -/
def xsCol (v : Fin 16 → Vec F S1x32x2560 .bf16) : FVec F S512x1 .f32 :=
  concatenate S512x1 0 [⟨S32x1, scaleOf (chunkT (v 0))⟩, ⟨S32x1, scaleOf (chunkT (v 1))⟩, ⟨S32x1, scaleOf (chunkT (v 2))⟩, ⟨S32x1, scaleOf (chunkT (v 3))⟩, ⟨S32x1, scaleOf (chunkT (v 4))⟩, ⟨S32x1, scaleOf (chunkT (v 5))⟩, ⟨S32x1, scaleOf (chunkT (v 6))⟩, ⟨S32x1, scaleOf (chunkT (v 7))⟩, ⟨S32x1, scaleOf (chunkT (v 8))⟩, ⟨S32x1, scaleOf (chunkT (v 9))⟩, ⟨S32x1, scaleOf (chunkT (v 10))⟩, ⟨S32x1, scaleOf (chunkT (v 11))⟩, ⟨S32x1, scaleOf (chunkT (v 12))⟩, ⟨S32x1, scaleOf (chunkT (v 13))⟩, ⟨S32x1, scaleOf (chunkT (v 14))⟩, ⟨S32x1, scaleOf (chunkT (v 15))⟩] concatenates_S32x1_S32x1_S32x1_S32x1_S32x1_S32x1_S32x1_S32x1_S32x1_S32x1_S32x1_S32x1_S32x1_S32x1_S32x1_S32x1_S512x1_d0

/-- The products of the block's codes with a pair of heads' weights. -/
def pairAcc (xq : FVec F S512x2560 .fp8e4m3) (w w' : Vec F S1x2560x128 .fp8e4m3) : FVec F S512x256 .f32 :=
  matmul dot_S512x2560_S2560x256_S512x256_1_0_0_1_n_n none xq
    (concatenate S2560x256 1 [⟨S2560x128, shapeCast S2560x128 w shapeCasts_S1x2560x128_S2560x128⟩, ⟨S2560x128, shapeCast S2560x128 w' shapeCasts_S1x2560x128_S2560x128⟩] concatenates_S2560x128_S2560x128_S2560x256_d1)
    (constant S512x256 .f32 0x00000000#32)

/-- Head `h`'s half of a pair's products: the left for an even head, the right for an odd one. -/
def half (h : Nat) (acc : FVec F S512x256 .f32) : FVec F S512x128 .f32 :=
  if h % 2 = 0 then extractStridedSlice S512x128 ![0, 0] acc slices_S512x256_o0_0_S512x128
  else extractStridedSlice S512x128 ![0, 128] acc slices_S512x256_o0_128_S512x128

/-- A head's products, scaled by the rows' scales and the head's. -/
def tileK (xs : FVec F S512x1 .f32) (acc : FVec F S512x128 .f32) (s : Elt F .f32) : FVec F S512x128 .f32 :=
  mulf (mulf acc (broadcastTo S512x128 xs broadcasts_S512x1_S512x128)) (broadcast S512x128 s)
/-- The same with the head's bias added. -/
def tileV (xs : FVec F S512x1 .f32) (acc : FVec F S512x128 .f32) (s : Elt F .f32) (b : Vec F S1x128 .f32) : FVec F S512x128 .f32 :=
  addf (tileK xs acc s) (broadcastTo S512x128 b broadcasts_S1x128_S512x128)

/-- The largest magnitudes of a head's rows, -/
def amaxOf (k : FVec F S512x128 .f32) : FVec F S512x1 .f32 :=
  shapeCast S512x1 (multiReduction .maximumf [1] S512 (absf k) 0xFF800000#32 reduces_S512x128_S512 (.inl rfl) rfl) shapeCasts_S512_S512x1
/-- and its codes. -/
def codesOf (k : FVec F S512x128 .f32) : FVec F S1x1x512x128 .fp8e4m3 :=
  shapeCast S1x1x512x128 (clipOf (mulf k (broadcastTo S512x128 (invOf (byLimit (amaxOf k))) broadcasts_S512x1_S512x128))) shapeCasts_S512x128_S1x1x512x128

/-- The first `n` heads' largest magnitudes, head `h`'s in lane `h`, zero in the lanes left. -/
def lanes (am : Nat → FVec F S512x1 .f32) : Nat → FVec F S512x128 .f32
  | 0 => broadcast S512x128 (Scalar.ofBits .f32 0x00000000#32)
  | n + 1 => select (cmpi .eq (iota .tc S512x128 32 [1] iota_S512x128_d1_w32) (broadcast S512x128 (BitVec.ofNat 32 n)))
      (broadcastTo S512x128 (shapeCast S512x1 (am n) shapeCasts_S512x1_S512x1) broadcasts_S512x1_S512x128) (lanes am n)

/-- The heads' scales, one row per head. -/
def headScales (col : FVec F S512x128 .f32) : FVec F S1x20x512 .f32 :=
  shapeCast S1x20x512 (extractStridedSlice S20x512 ![0, 0] (transpose S128x512 [1, 0] (scaleOf (byLimit col)) transposes_S512x128_p1_0_S128x512) slices_S128x512_o0_0_S20x512) shapeCasts_S20x512_S1x20x512

theorem inbX (j : Fin 16) : ∀ a, (![0, 32 * j.val, 0] : Fin 3 → ℕ) a + S1x32x2560.size a ≤ S1x512x2560.size a := by
  have := j.isLt; intro a; fin_cases a <;> simp [Shape.size] <;> omega
theorem inbW (h : Nat) (hh : h < 20) : ∀ a, (![h, 0, 0] : Fin 3 → ℕ) a + S1x2560x128.size a ≤ S20x2560x128.size a := by
  intro a; fin_cases a <;> simp [Shape.size] <;> omega
theorem inbS (h : Nat) (hh : h < 20) : ∀ a, (![h] : Fin 1 → ℕ) a + S1.size a ≤ S20.size a := by
  intro a; fin_cases a <;> simp [Shape.size] <;> omega
theorem inbB (h : Nat) (hh : h < 20) : ∀ a, (![h, 0] : Fin 2 → ℕ) a + S1x128.size a ≤ S20x128.size a := by
  intro a; fin_cases a <;> simp [Shape.size] <;> omega

/-! ## What the body reads of its inputs -/

/-- The chunk of `x` that begins at row `32 j`, as it is read. -/
def rdX (arg4 : Memref sig .tc .vmem S1x512x2560 .bf16) (harg4 : arg4.IsWhole) (x2 : Vec F S1x512x2560 .bf16) (j : Fin 16) : Vec F S1x32x2560 .bf16 :=
  View.readAt (Elt F) arg4.view (Rect.unit (s := S1x512x2560) ![0, 32 * j.val, 0] S1x32x2560.size (inbX j)).toLoadRect (harg4.unread x2)
/-- Head `h`'s weights, as they are read. -/
def rdW (arg5 : Memref sig .tc .vmem S20x2560x128 .fp8e4m3) (harg5 : arg5.IsWhole) (x3 : Vec F S20x2560x128 .fp8e4m3) (h : Nat) (hh : h < 20) : Vec F S1x2560x128 .fp8e4m3 :=
  View.readAt (Elt F) arg5.view (Rect.unit (s := S20x2560x128) ![h, 0, 0] S1x2560x128.size (inbW h hh)).toLoadRect (harg5.unread x3)
/-- Head `h`'s scale, as it is read. -/
def rdS (arg2 : Memref sig .tc .smem S20 .f32) (harg2 : arg2.IsWhole) (x0 : Vec F S20 .f32) (h : Nat) (hh : h < 20) : Elt F .f32 :=
  View.readAt (Elt F) arg2.view (Rect.unit (s := S20) ![h] S1.size (inbS h hh)).toLoadRect (harg2.unread x0) (Shape.Idx.first (show 0 < S1.numel by decide))
/-- Head `h`'s bias, as it is read. -/
def rdB (arg7 : Memref sig .tc .vmem S20x128 .f32) (harg7 : arg7.IsWhole) (x5 : Vec F S20x128 .f32) (h : Nat) (hh : h < 20) : Vec F S1x128 .f32 :=
  View.readAt (Elt F) arg7.view (Rect.unit (s := S20x128) ![h, 0] S1x128.size (inbB h hh)).toLoadRect (harg7.unread x5)

theorem r75_eq (c : Dev nD) (arg4 : Memref sig .tc .vmem S1x512x2560 .bf16) (harg4 : arg4.IsWhole) (x2 : Vec F S1x512x2560 .bf16) :
    bodyRun.sl.r_75 c arg4 harg4 x2 = xsCol (rdX arg4 harg4 x2) := by rfl

theorem chunk_lt (r : Fin (S1x512x2560.size 1)) : r.val / 32 < 16 := by have : r.val < 512 := r.isLt; omega

/-- The chunks' union: row `r` is row `r % 32` of chunk `r / 32`. -/
def rowsOf (g : Fin 16 → Vec F S1x32x2560 .fp8e4m3) : Vec F S1x512x2560 .fp8e4m3 :=
  fun y => g ⟨(y 1).val / 32, chunk_lt (y 1)⟩ (ix3 0 ⟨(y 1).val % 32, Nat.mod_lt _ (by decide)⟩ (y 2))
/-- The heads' union. -/
def headsOf (g : Fin 20 → Vec F S1x1x512x128 .fp8e4m3) : Vec F S1x20x512x128 .fp8e4m3 :=
  fun y => g (y 1) (ix4 0 0 (y 2) (y 3))

/-- A piece stored at row `32 j` is a block of the chunks' union. -/
theorem chunkPiece (g : Fin 16 → Vec F S1x32x2560 .fp8e4m3) (j : Nat) (hj : j < 16)
    (inb : ∀ a, (![0, 32 * j, 0] : Fin 3 → ℕ) a + S1x32x2560.size a ≤ S1x512x2560.size a) (x : S1x32x2560.Idx) :
    g ⟨j, hj⟩ x = rowsOf g ((Rect.unit (s := S1x512x2560) ![0, 32 * j, 0] S1x32x2560.size inb).emb x) := by
  have h0 : (x 0).val = 0 := by have h := (x 0).isLt; simp only [Shape.size] at h; simpa using h
  have h1 : (x 1).val < 32 := (x 1).isLt
  unfold rowsOf
  have e1 : (⟨((Rect.unit (s := S1x512x2560) ![0, 32 * j, 0] S1x32x2560.size inb).emb x 1).val / 32, chunk_lt _⟩ : Fin 16) = ⟨j, hj⟩ := by
    apply Fin.ext; show (32 * j + 1 * (x 1).val) / 32 = j; omega
  rw [e1]
  congr 1
  funext a
  match a with
  | ⟨0, _⟩ => exact Fin.ext h0
  | ⟨1, _⟩ => apply Fin.ext; show (x 1).val = (32 * j + 1 * (x 1).val) % 32; omega
  | ⟨2, _⟩ => apply Fin.ext; show (x 2).val = 0 + 1 * (x 2).val; omega

/-- A piece stored at head `h` is a block of the heads' union. -/
theorem headPiece (g : Fin 20 → Vec F S1x1x512x128 .fp8e4m3) (h : Nat) (hh : h < 20)
    (inb : ∀ a, (![0, h, 0, 0] : Fin 4 → ℕ) a + S1x1x512x128.size a ≤ S1x20x512x128.size a) (x : S1x1x512x128.Idx) :
    g ⟨h, hh⟩ x = headsOf g ((Rect.unit (s := S1x20x512x128) ![0, h, 0, 0] S1x1x512x128.size inb).emb x) := by
  have h0 : (x 0).val = 0 := by have h := (x 0).isLt; simp only [Shape.size] at h; simpa using h
  have h1 : (x 1).val = 0 := by have h := (x 1).isLt; simp only [Shape.size] at h; simpa using h
  unfold headsOf
  have e1 : (Rect.unit (s := S1x20x512x128) ![0, h, 0, 0] S1x1x512x128.size inb).emb x 1 = ⟨h, hh⟩ := by
    apply Fin.ext; show h + 1 * (x 1).val = h; omega
  rw [e1]
  congr 1
  funext a
  match a with
  | ⟨0, _⟩ => exact Fin.ext h0
  | ⟨1, _⟩ => exact Fin.ext h1
  | ⟨2, _⟩ => apply Fin.ext; show (x 2).val = 0 + 1 * (x 2).val; omega
  | ⟨3, _⟩ => apply Fin.ext; show (x 3).val = 0 + 1 * (x 3).val; omega

theorem pay6_15 (c : Dev nD) (arg4 : Memref sig .tc .vmem S1x512x2560 .bf16) (harg4 : arg4.IsWhole) (x2 : Vec F S1x512x2560 .bf16) :
    k0_pay117 (bodyRun.sl.r_72 c arg4 harg4 x2) (bodyRun.sl.r_73 c arg4 harg4 x2) (bodyRun.sl.r_74 c arg4 harg4 x2) 8388608#32 = chunkQ (rdX arg4 harg4 x2 15) := by rfl
theorem pay6_14 (c : Dev nD) (arg4 : Memref sig .tc .vmem S1x512x2560 .bf16) (harg4 : arg4.IsWhole) (x2 : Vec F S1x512x2560 .bf16) :
    k0_pay111 (bodyRun.sl.r_71 c arg4 harg4 x2) = chunkQ (rdX arg4 harg4 x2 14) := by rfl
theorem pay6_13 (c : Dev nD) (arg4 : Memref sig .tc .vmem S1x512x2560 .bf16) (harg4 : arg4.IsWhole) (x2 : Vec F S1x512x2560 .bf16) :
    k0_pay103 (bodyRun.sl.r_61 c arg4 harg4 x2) (bodyRun.sl.r_63 c arg4 harg4 x2) (bodyRun.sl.r_64 c arg4 harg4 x2) = chunkQ (rdX arg4 harg4 x2 13) := by rfl
theorem pay6_12 (c : Dev nD) (arg4 : Memref sig .tc .vmem S1x512x2560 .bf16) (harg4 : arg4.IsWhole) (x2 : Vec F S1x512x2560 .bf16) :
    k0_pay96 (bodyRun.sl.r_57 c arg4 harg4 x2) (bodyRun.sl.r_58 c arg4 harg4 x2) (bodyRun.sl.r_59 c arg4 harg4 x2) 33554432#32 = chunkQ (rdX arg4 harg4 x2 12) := by rfl
theorem pay6_11 (c : Dev nD) (arg4 : Memref sig .tc .vmem S1x512x2560 .bf16) (harg4 : arg4.IsWhole) (x2 : Vec F S1x512x2560 .bf16) :
    k0_pay89 (bodyRun.sl.r_56 c arg4 harg4 x2) = chunkQ (rdX arg4 harg4 x2 11) := by rfl
theorem pay6_10 (c : Dev nD) (arg4 : Memref sig .tc .vmem S1x512x2560 .bf16) (harg4 : arg4.IsWhole) (x2 : Vec F S1x512x2560 .bf16) :
    k0_pay81 (bodyRun.sl.r_48 c arg4 harg4 x2) (bodyRun.sl.r_49 c arg4 harg4 x2) (bodyRun.sl.r_50 c arg4 harg4 x2) 8388608#32 = chunkQ (rdX arg4 harg4 x2 10) := by rfl
theorem pay6_9 (c : Dev nD) (arg4 : Memref sig .tc .vmem S1x512x2560 .bf16) (harg4 : arg4.IsWhole) (x2 : Vec F S1x512x2560 .bf16) :
    k0_pay74 (bodyRun.sl.r_47 c arg4 harg4 x2) = chunkQ (rdX arg4 harg4 x2 9) := by rfl
theorem pay6_8 (c : Dev nD) (arg4 : Memref sig .tc .vmem S1x512x2560 .bf16) (harg4 : arg4.IsWhole) (x2 : Vec F S1x512x2560 .bf16) :
    k0_pay66 (bodyRun.sl.r_37 c arg4 harg4 x2) (bodyRun.sl.r_39 c arg4 harg4 x2) (bodyRun.sl.r_40 c arg4 harg4 x2) = chunkQ (rdX arg4 harg4 x2 8) := by rfl
theorem pay6_7 (c : Dev nD) (arg4 : Memref sig .tc .vmem S1x512x2560 .bf16) (harg4 : arg4.IsWhole) (x2 : Vec F S1x512x2560 .bf16) :
    k0_pay59 (bodyRun.sl.r_33 c arg4 harg4 x2) (bodyRun.sl.r_34 c arg4 harg4 x2) (bodyRun.sl.r_35 c arg4 harg4 x2) 33554432#32 = chunkQ (rdX arg4 harg4 x2 7) := by rfl
theorem pay6_6 (c : Dev nD) (arg4 : Memref sig .tc .vmem S1x512x2560 .bf16) (harg4 : arg4.IsWhole) (x2 : Vec F S1x512x2560 .bf16) :
    k0_pay52 (bodyRun.sl.r_32 c arg4 harg4 x2) = chunkQ (rdX arg4 harg4 x2 6) := by rfl
theorem pay6_5 (c : Dev nD) (arg4 : Memref sig .tc .vmem S1x512x2560 .bf16) (harg4 : arg4.IsWhole) (x2 : Vec F S1x512x2560 .bf16) :
    k0_pay44 (bodyRun.sl.r_24 c arg4 harg4 x2) (bodyRun.sl.r_25 c arg4 harg4 x2) (bodyRun.sl.r_26 c arg4 harg4 x2) 8388608#32 = chunkQ (rdX arg4 harg4 x2 5) := by rfl
theorem pay6_4 (c : Dev nD) (arg4 : Memref sig .tc .vmem S1x512x2560 .bf16) (harg4 : arg4.IsWhole) (x2 : Vec F S1x512x2560 .bf16) :
    k0_pay37 (bodyRun.sl.r_23 c arg4 harg4 x2) = chunkQ (rdX arg4 harg4 x2 4) := by rfl
theorem pay6_3 (c : Dev nD) (arg4 : Memref sig .tc .vmem S1x512x2560 .bf16) (harg4 : arg4.IsWhole) (x2 : Vec F S1x512x2560 .bf16) :
    k0_pay29 (bodyRun.sl.r_13 c arg4 harg4 x2) (bodyRun.sl.r_15 c arg4 harg4 x2) (bodyRun.sl.r_16 c arg4 harg4 x2) = chunkQ (rdX arg4 harg4 x2 3) := by rfl
theorem pay6_2 (c : Dev nD) (arg4 : Memref sig .tc .vmem S1x512x2560 .bf16) (harg4 : arg4.IsWhole) (x2 : Vec F S1x512x2560 .bf16) :
    k0_pay22 (bodyRun.sl.r_9 c arg4 harg4 x2) (bodyRun.sl.r_10 c arg4 harg4 x2) (bodyRun.sl.r_11 c arg4 harg4 x2) 33554432#32 = chunkQ (rdX arg4 harg4 x2 2) := by rfl
theorem pay6_1 (c : Dev nD) (arg4 : Memref sig .tc .vmem S1x512x2560 .bf16) (harg4 : arg4.IsWhole) (x2 : Vec F S1x512x2560 .bf16) :
    k0_pay15 (bodyRun.sl.r_8 c arg4 harg4 x2) = chunkQ (rdX arg4 harg4 x2 1) := by rfl
theorem pay6_0 (c : Dev nD) (arg4 : Memref sig .tc .vmem S1x512x2560 .bf16) (harg4 : arg4.IsWhole) (x2 : Vec F S1x512x2560 .bf16) :
    k0_pay7 (bodyRun.sl.r c arg4 harg4 x2) (bodyRun.sl.r_1 c arg4 harg4 x2) (bodyRun.sl.r_2 c arg4 harg4 x2) 8388608#32 = chunkQ (rdX arg4 harg4 x2 0) := by rfl
/-- The codes that the body stores of its rows are the chunks' codes. -/
theorem pieces6 (c : Dev nD) (arg4 : Memref sig .tc .vmem S1x512x2560 .bf16) (harg4 : arg4.IsWhole) (x2 : Vec F S1x512x2560 .bf16) :
    View.PiecesOf (rowsOf fun j => chunkQ (rdX arg4 harg4 x2 j)) (bodyRun.sl.H6_16 c arg4 harg4 x2) := by
  unfold bodyRun.sl.H6_16
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact (congrFun (pay6_15 c arg4 harg4 x2) x).trans (chunkPiece (fun j => chunkQ (rdX arg4 harg4 x2 j)) 15 (by decide) (inbX 15) x)
  · exact (congrFun (pay6_14 c arg4 harg4 x2) x).trans (chunkPiece (fun j => chunkQ (rdX arg4 harg4 x2 j)) 14 (by decide) (inbX 14) x)
  · exact (congrFun (pay6_13 c arg4 harg4 x2) x).trans (chunkPiece (fun j => chunkQ (rdX arg4 harg4 x2 j)) 13 (by decide) (inbX 13) x)
  · exact (congrFun (pay6_12 c arg4 harg4 x2) x).trans (chunkPiece (fun j => chunkQ (rdX arg4 harg4 x2 j)) 12 (by decide) (inbX 12) x)
  · exact (congrFun (pay6_11 c arg4 harg4 x2) x).trans (chunkPiece (fun j => chunkQ (rdX arg4 harg4 x2 j)) 11 (by decide) (inbX 11) x)
  · exact (congrFun (pay6_10 c arg4 harg4 x2) x).trans (chunkPiece (fun j => chunkQ (rdX arg4 harg4 x2 j)) 10 (by decide) (inbX 10) x)
  · exact (congrFun (pay6_9 c arg4 harg4 x2) x).trans (chunkPiece (fun j => chunkQ (rdX arg4 harg4 x2 j)) 9 (by decide) (inbX 9) x)
  · exact (congrFun (pay6_8 c arg4 harg4 x2) x).trans (chunkPiece (fun j => chunkQ (rdX arg4 harg4 x2 j)) 8 (by decide) (inbX 8) x)
  · exact (congrFun (pay6_7 c arg4 harg4 x2) x).trans (chunkPiece (fun j => chunkQ (rdX arg4 harg4 x2 j)) 7 (by decide) (inbX 7) x)
  · exact (congrFun (pay6_6 c arg4 harg4 x2) x).trans (chunkPiece (fun j => chunkQ (rdX arg4 harg4 x2 j)) 6 (by decide) (inbX 6) x)
  · exact (congrFun (pay6_5 c arg4 harg4 x2) x).trans (chunkPiece (fun j => chunkQ (rdX arg4 harg4 x2 j)) 5 (by decide) (inbX 5) x)
  · exact (congrFun (pay6_4 c arg4 harg4 x2) x).trans (chunkPiece (fun j => chunkQ (rdX arg4 harg4 x2 j)) 4 (by decide) (inbX 4) x)
  · exact (congrFun (pay6_3 c arg4 harg4 x2) x).trans (chunkPiece (fun j => chunkQ (rdX arg4 harg4 x2 j)) 3 (by decide) (inbX 3) x)
  · exact (congrFun (pay6_2 c arg4 harg4 x2) x).trans (chunkPiece (fun j => chunkQ (rdX arg4 harg4 x2 j)) 2 (by decide) (inbX 2) x)
  · exact (congrFun (pay6_1 c arg4 harg4 x2) x).trans (chunkPiece (fun j => chunkQ (rdX arg4 harg4 x2 j)) 1 (by decide) (inbX 1) x)
  · exact (congrFun (pay6_0 c arg4 harg4 x2) x).trans (chunkPiece (fun j => chunkQ (rdX arg4 harg4 x2 j)) 0 (by decide) (inbX 0) x)

theorem cover6 (c : Dev nD) (arg4 : Memref sig .tc .vmem S1x512x2560 .bf16) (harg4 : arg4.IsWhole) (x2 : Vec F S1x512x2560 .bf16) (y : S1x512x2560.Idx) :
    ∃ p ∈ bodyRun.sl.H6_16 c arg4 harg4 x2, y ∈ p.1.set :=
  View.cover_of_tiledL (bodyRun.sl.H6_16 c arg4 harg4 x2) S1x32x2560.size (by sl_kernel_rfl) y

/-- What the block's codes are, once stored. -/
def xqBlk (arg4 : Memref sig .tc .vmem S1x512x2560 .bf16) (harg4 : arg4.IsWhole) (x2 : Vec F S1x512x2560 .bf16) : Vec F S1x512x2560 .fp8e4m3 := rowsOf fun j => chunkQ (rdX arg4 harg4 x2 j)

theorem canon6 (c : Dev nD) (arg4 : Memref sig .tc .vmem S1x512x2560 .bf16) (harg4 : arg4.IsWhole) (x2 : Vec F S1x512x2560 .bf16) :
    View.canon (bodyRun.sl.H6_16 c arg4 harg4 x2) = xqBlk arg4 harg4 x2 := by
  funext y
  have h := View.canon_append_of_piecesOf (rowsOf fun j => chunkQ (rdX arg4 harg4 x2 j)) [] (bodyRun.sl.H6_16 c arg4 harg4 x2)
    (pieces6 c arg4 harg4 x2) y (cover6 c arg4 harg4 x2 y)
  rwa [List.append_nil] at h

/-- The codes read back, as the products take them. -/
theorem r76_eq (c : Dev nD) (arg4 : Memref sig .tc .vmem S1x512x2560 .bf16) (harg4 : arg4.IsWhole) (arg8 : Memref sig .tc .vmem S1x512x2560 .fp8e4m3) (x2 : Vec F S1x512x2560 .bf16) :
    bodyRun.sl.r_76 c arg4 harg4 arg8 x2 = shapeCast S512x2560 (xqBlk arg4 harg4 x2) shapeCasts_S1x512x2560_S512x2560 := by
  have e : bodyRun.sl.v1143 c arg4 harg4 arg8 x2 = xqBlk arg4 harg4 x2 := by
    unfold bodyRun.sl.v1143
    rw [View.readCov_eq_canon_ld _ _ _ (cover6 c arg4 harg4 x2), canon6]
    funext y
    show xqBlk arg4 harg4 x2 ((Rect.unit (s := S1x512x2560) ![0, 0, 0] S1x512x2560.size inb_S1x512x2560_S1x512x2560_0_0_0).idx y) = _
    congr 1
    funext a
    match a with
    | ⟨0, _⟩ => apply Fin.ext; show 0 + 1 * (y 0).val = (y 0).val; omega
    | ⟨1, _⟩ => apply Fin.ext; show 0 + 1 * (y 1).val = (y 1).val; omega
    | ⟨2, _⟩ => apply Fin.ext; show 0 + 1 * (y 2).val = (y 2).val; omega
  show shapeCast S512x2560 (bodyRun.sl.v1143 c arg4 harg4 arg8 x2) shapeCasts_S1x512x2560_S512x2560 = _
  rw [e]

/-- Head `h`'s products, from the codes and the weights as they are read. -/
def headAcc (xq : FVec F S512x2560 .fp8e4m3) (arg5 : Memref sig .tc .vmem S20x2560x128 .fp8e4m3) (harg5 : arg5.IsWhole) (x3 : Vec F S20x2560x128 .fp8e4m3) (h : Nat) (hh : h < 20) : FVec F S512x128 .f32 :=
  half h (pairAcc xq (rdW arg5 harg5 x3 (2 * (h / 2)) (by omega)) (rdW arg5 harg5 x3 (2 * (h / 2) + 1) (by omega)))
/-- Head `h`'s keys. -/
def kRaw (xs : FVec F S512x1 .f32) (xq : FVec F S512x2560 .fp8e4m3) (arg2 : Memref sig .tc .smem S20 .f32) (harg2 : arg2.IsWhole) (x0 : Vec F S20 .f32) (arg5 : Memref sig .tc .vmem S20x2560x128 .fp8e4m3) (harg5 : arg5.IsWhole) (x3 : Vec F S20x2560x128 .fp8e4m3) (h : Nat) (hh : h < 20) : FVec F S512x128 .f32 :=
  tileK xs (headAcc xq arg5 harg5 x3 h hh) (rdS arg2 harg2 x0 h hh)
/-- Head `h`'s values. -/
def vRaw (xs : FVec F S512x1 .f32) (xq : FVec F S512x2560 .fp8e4m3) (arg3 : Memref sig .tc .smem S20 .f32) (harg3 : arg3.IsWhole) (x1 : Vec F S20 .f32) (arg6 : Memref sig .tc .vmem S20x2560x128 .fp8e4m3) (harg6 : arg6.IsWhole) (x4 : Vec F S20x2560x128 .fp8e4m3) (arg7 : Memref sig .tc .vmem S20x128 .f32) (harg7 : arg7.IsWhole) (x5 : Vec F S20x128 .f32) (h : Nat) (hh : h < 20) : FVec F S512x128 .f32 :=
  tileV xs (headAcc xq arg6 harg6 x4 h hh) (rdS arg3 harg3 x1 h hh) (rdB arg7 harg7 x5 h hh)
/-- The largest magnitudes of head `h`'s rows, zero past the last head. -/
def amaxAt (k : (h : Nat) → h < 20 → FVec F S512x128 .f32) (h : Nat) : FVec F S512x1 .f32 :=
  if hh : h < 20 then amaxOf (k h hh) else broadcast S512x1 (Scalar.ofBits .f32 0x00000000#32)

/-- `headPiece`, for a payload known to be the head's. -/
theorem headPiece' (g : Fin 20 → Vec F S1x1x512x128 .fp8e4m3) (h : Nat) (hh : h < 20)
    (inb : ∀ a, (![0, h, 0, 0] : Fin 4 → ℕ) a + S1x1x512x128.size a ≤ S1x20x512x128.size a) (w : Vec F S1x1x512x128 .fp8e4m3)
    (hw : w = g ⟨h, hh⟩) (x : S1x1x512x128.Idx) :
    w x = headsOf g ((Rect.unit (s := S1x20x512x128) ![0, h, 0, 0] S1x1x512x128.size inb).emb x) := by
  rw [hw]; exact headPiece g h hh inb x

theorem lanes_succ (am : Nat → FVec F S512x1 .f32) (n : Nat) : lanes am (n + 1)
    = select (cmpi .eq (iota .tc S512x128 32 [1] iota_S512x128_d1_w32) (broadcast S512x128 (BitVec.ofNat 32 n)))
      (broadcastTo S512x128 (shapeCast S512x1 (am n) shapeCasts_S512x1_S512x1) broadcasts_S512x1_S512x128) (lanes am n) := rfl

theorem inbH (h : Nat) (hh : h < 20) : ∀ a, (![0, h, 0, 0] : Fin 4 → ℕ) a + S1x1x512x128.size a ≤ S1x20x512x128.size a := by
  intro a; fin_cases a <;> simp [Shape.size] <;> omega
theorem lanesK_1 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_85 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 1 := by
  rw [lanes_succ]; rfl
theorem lanesV_1 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_93 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 1 := by
  rw [lanes_succ]; rfl
theorem lanesK_2 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_99 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 2 := by
  rw [lanes_succ, ← lanesK_1]; rfl
theorem lanesV_2 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_106 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 2 := by
  rw [lanes_succ, ← lanesV_1]; rfl
theorem lanesK_3 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_116 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 3 := by
  rw [lanes_succ, ← lanesK_2]; rfl
theorem lanesV_3 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_124 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 3 := by
  rw [lanes_succ, ← lanesV_2]; rfl
theorem lanesK_4 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_130 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 4 := by
  rw [lanes_succ, ← lanesK_3]; rfl
theorem lanesV_4 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_138 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 4 := by
  rw [lanes_succ, ← lanesV_3]; rfl
theorem lanesK_5 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_147 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 5 := by
  rw [lanes_succ, ← lanesK_4]; rfl
theorem lanesV_5 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_153 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 5 := by
  rw [lanes_succ, ← lanesV_4]; rfl
theorem lanesK_6 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_160 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 6 := by
  rw [lanes_succ, ← lanesK_5]; rfl
theorem lanesV_6 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_167 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 6 := by
  rw [lanes_succ, ← lanesV_5]; rfl
theorem lanesK_7 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_177 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 7 := by
  rw [lanes_succ, ← lanesK_6]; rfl
theorem lanesV_7 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_184 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 7 := by
  rw [lanes_succ, ← lanesV_6]; rfl
theorem lanesK_8 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_191 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 8 := by
  rw [lanes_succ, ← lanesK_7]; rfl
theorem lanesV_8 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_198 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 8 := by
  rw [lanes_succ, ← lanesV_7]; rfl
theorem lanesK_9 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_207 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 9 := by
  rw [lanes_succ, ← lanesK_8]; rfl
theorem lanesV_9 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_214 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 9 := by
  rw [lanes_succ, ← lanesV_8]; rfl
theorem lanesK_10 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_225 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 10 := by
  rw [lanes_succ, ← lanesK_9]; rfl
theorem lanesV_10 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_231 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 10 := by
  rw [lanes_succ, ← lanesV_9]; rfl
theorem lanesK_11 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_239 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 11 := by
  rw [lanes_succ, ← lanesK_10]; rfl
theorem lanesV_11 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_246 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 11 := by
  rw [lanes_succ, ← lanesV_10]; rfl
theorem lanesK_12 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_252 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 12 := by
  rw [lanes_succ, ← lanesK_11]; rfl
theorem lanesV_12 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_258 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 12 := by
  rw [lanes_succ, ← lanesV_11]; rfl
theorem lanesK_13 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_265 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 13 := by
  rw [lanes_succ, ← lanesK_12]; rfl
theorem lanesV_13 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_272 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 13 := by
  rw [lanes_succ, ← lanesV_12]; rfl
theorem lanesK_14 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_278 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 14 := by
  rw [lanes_succ, ← lanesK_13]; rfl
theorem lanesV_14 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_284 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 14 := by
  rw [lanes_succ, ← lanesV_13]; rfl
theorem lanesK_15 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_293 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 15 := by
  rw [lanes_succ, ← lanesK_14]; rfl
theorem lanesV_15 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_302 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 15 := by
  rw [lanes_succ, ← lanesV_14]; rfl
theorem lanesK_16 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_310 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 16 := by
  rw [lanes_succ, ← lanesK_15]; rfl
theorem lanesV_16 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_317 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 16 := by
  rw [lanes_succ, ← lanesV_15]; rfl
theorem lanesK_17 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_325 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 17 := by
  rw [lanes_succ, ← lanesK_16]; rfl
theorem lanesV_17 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_332 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 17 := by
  rw [lanes_succ, ← lanesV_16]; rfl
theorem lanesK_18 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_338 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 18 := by
  rw [lanes_succ, ← lanesK_17]; rfl
theorem lanesV_18 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_343 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 18 := by
  rw [lanes_succ, ← lanesV_17]; rfl
theorem lanesK_19 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_354 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 19 := by
  rw [lanes_succ, ← lanesK_18]; rfl
theorem lanesV_19 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_360 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 19 := by
  rw [lanes_succ, ← lanesV_18]; rfl
theorem lanesK_20 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_366 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 20 := by
  rw [lanes_succ, ← lanesK_19]; rfl
theorem lanesV_20 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_372 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 20 := by
  rw [lanes_succ, ← lanesV_19]; rfl

/-! ## What the body's stores leave in each output -/

section Run

variable (c : Dev nD) (i : grid0.Coords) (arg2 : Memref sig .tc .smem S20 .f32) (harg2 : arg2.IsWhole) (arg3 : Memref sig .tc .smem S20 .f32) (harg3 : arg3.IsWhole) (arg4 : Memref sig .tc .vmem S1x512x2560 .bf16) (harg4 : arg4.IsWhole) (arg5 : Memref sig .tc .vmem S20x2560x128 .fp8e4m3) (harg5 : arg5.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (harg8 : arg8.IsWhole) (arg9 : Memref sig .tc .vmem S12x8192 .f32) (harg9 : arg9.IsWhole) (arg10 : Memref sig .tc .vmem S1x20x512x128 .fp8e4m3) (harg10 : arg10.IsWhole) (arg11 : Memref sig .tc .vmem S1x20x512 .f32) (harg11 : arg11.IsWhole) (arg12 : Memref sig .tc .vmem S1x20x512x128 .fp8e4m3) (harg12 : arg12.IsWhole) (arg13 : Memref sig .tc .vmem S1x20x512 .f32) (harg13 : arg13.IsWhole) (x0 : Vec F S20 .f32) (x1 : Vec F S20 .f32) (x2 : Vec F S1x512x2560 .bf16) (x3 : Vec F S20x2560x128 .fp8e4m3) (x4 : Vec F S20x2560x128 .fp8e4m3) (x5 : Vec F S20x128 .f32) (x7 : Vec F S12x8192 .f32)

theorem out6_pieces : (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).1 = bodyRun.sl.H6_16 c arg4 harg4 x2 := by
  unfold bodyRun; dsimp only

theorem out7_pieces : (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.1 = [⟨Rect.unit (s := S12x8192) (k0_off1 i) ![1, 512] (k0_off1_inb i), shapeCast S1x512 (xsCol (rdX arg4 harg4 x2)) shapeCasts_S512x1_S1x512⟩] := by
  rw [← r75_eq c]; unfold bodyRun; dsimp only; rfl

set_option maxHeartbeats 4000000 in
theorem out8_pieces : View.PiecesOf (headsOf (fun h : Fin 20 => codesOf (kRaw (xsCol (rdX arg4 harg4 x2)) (shapeCast S512x2560 (xqBlk arg4 harg4 x2) shapeCasts_S1x512x2560_S512x2560) arg2 harg2 x0 arg5 harg5 x3 h.val h.isLt))) (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.1 := by
  rw [← r75_eq c, ← r76_eq c arg4 harg4 arg8]; unfold bodyRun; dsimp only
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact headPiece' (fun h : Fin 20 => codesOf (kRaw (bodyRun.sl.r_75 c arg4 harg4 x2) (bodyRun.sl.r_76 c arg4 harg4 arg8 x2) arg2 harg2 x0 arg5 harg5 x3 h.val h.isLt)) 19 (by decide) (inbH 19 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 18 (by decide) (inbH 18 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 17 (by decide) (inbH 17 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 16 (by decide) (inbH 16 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 15 (by decide) (inbH 15 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 14 (by decide) (inbH 14 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 13 (by decide) (inbH 13 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 12 (by decide) (inbH 12 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 11 (by decide) (inbH 11 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 10 (by decide) (inbH 10 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 9 (by decide) (inbH 9 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 8 (by decide) (inbH 8 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 7 (by decide) (inbH 7 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 6 (by decide) (inbH 6 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 5 (by decide) (inbH 5 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 4 (by decide) (inbH 4 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 3 (by decide) (inbH 3 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 2 (by decide) (inbH 2 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 1 (by decide) (inbH 1 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 0 (by decide) (inbH 0 (by decide)) _ (by rfl) x

set_option maxHeartbeats 4000000 in
theorem out10_pieces : View.PiecesOf (headsOf (fun h : Fin 20 => codesOf (vRaw (xsCol (rdX arg4 harg4 x2)) (shapeCast S512x2560 (xqBlk arg4 harg4 x2) shapeCasts_S1x512x2560_S512x2560) arg3 harg3 x1 arg6 harg6 x4 arg7 harg7 x5 h.val h.isLt))) (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.2.1 := by
  rw [← r75_eq c, ← r76_eq c arg4 harg4 arg8]; unfold bodyRun; dsimp only
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 19 (by decide) (inbH 19 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 18 (by decide) (inbH 18 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 17 (by decide) (inbH 17 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 16 (by decide) (inbH 16 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 15 (by decide) (inbH 15 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 14 (by decide) (inbH 14 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 13 (by decide) (inbH 13 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 12 (by decide) (inbH 12 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 11 (by decide) (inbH 11 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 10 (by decide) (inbH 10 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 9 (by decide) (inbH 9 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 8 (by decide) (inbH 8 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 7 (by decide) (inbH 7 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 6 (by decide) (inbH 6 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 5 (by decide) (inbH 5 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 4 (by decide) (inbH 4 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 3 (by decide) (inbH 3 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 2 (by decide) (inbH 2 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 1 (by decide) (inbH 1 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 0 (by decide) (inbH 0 (by decide)) _ (by rfl) x

set_option maxHeartbeats 4000000 in
theorem out9_pieces : (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.1 = [⟨Rect.unit (s := S1x20x512) ![0, 0, 0] ![1, 20, 512] inb_S1x20x512_S1x20x512_0_0_0, headScales (lanes (amaxAt (fun h hh => kRaw (xsCol (rdX arg4 harg4 x2)) (shapeCast S512x2560 (xqBlk arg4 harg4 x2) shapeCasts_S1x512x2560_S512x2560) arg2 harg2 x0 arg5 harg5 x3 h hh)) 20)⟩] := by
  rw [← r75_eq c, ← r76_eq c arg4 harg4 arg8, ← lanesK_20]; unfold bodyRun; dsimp only; rfl

set_option maxHeartbeats 4000000 in
theorem out11_pieces : (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.2.2.1 = [⟨Rect.unit (s := S1x20x512) ![0, 0, 0] ![1, 20, 512] inb_S1x20x512_S1x20x512_0_0_0, headScales (lanes (amaxAt (fun h hh => vRaw (xsCol (rdX arg4 harg4 x2)) (shapeCast S512x2560 (xqBlk arg4 harg4 x2) shapeCasts_S1x512x2560_S512x2560) arg3 harg3 x1 arg6 harg6 x4 arg7 harg7 x5 h hh)) 20)⟩] := by
  rw [← r75_eq c, ← r76_eq c arg4 harg4 arg8, ← lanesV_20]; unfold bodyRun; dsimp only; rfl

end Run

end Cert.KernelIdeal.Hand

end
-- ==== Proof.Reads.lean ====
module

public import proofs.«01_k».proof.Proof.Closed
public import Idealize.ShloMosaic.Lib.Pipeline.DatRel
public import Idealize.ShloMosaic.Lib.Pipeline.ArrRel
public import Idealize.ShloMosaic.Lib.VecWindow
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-! ## What a point leaves in the outputs, read off the run's pieces -/

section Run

variable (c : Dev nD) (i : grid0.Coords) (arg2 : Memref sig .tc .smem S20 .f32) (harg2 : arg2.IsWhole) (arg3 : Memref sig .tc .smem S20 .f32) (harg3 : arg3.IsWhole) (arg4 : Memref sig .tc .vmem S1x512x2560 .bf16) (harg4 : arg4.IsWhole) (arg5 : Memref sig .tc .vmem S20x2560x128 .fp8e4m3) (harg5 : arg5.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (harg8 : arg8.IsWhole) (arg9 : Memref sig .tc .vmem S12x8192 .f32) (harg9 : arg9.IsWhole) (arg10 : Memref sig .tc .vmem S1x20x512x128 .fp8e4m3) (harg10 : arg10.IsWhole) (arg11 : Memref sig .tc .vmem S1x20x512 .f32) (harg11 : arg11.IsWhole) (arg12 : Memref sig .tc .vmem S1x20x512x128 .fp8e4m3) (harg12 : arg12.IsWhole) (arg13 : Memref sig .tc .vmem S1x20x512 .f32) (harg13 : arg13.IsWhole)
variable (x0 : Vec F S20 .f32) (x1 : Vec F S20 .f32) (x2 : Vec F S1x512x2560 .bf16) (x3 : Vec F S20x2560x128 .fp8e4m3) (x4 : Vec F S20x2560x128 .fp8e4m3) (x5 : Vec F S20x128 .f32) (x7 : Vec F S12x8192 .f32)

/-- The codes of the rows, whatever the buffer held. -/
theorem read6 (f : arg8.view.ty.Contents (Elt F)) :
    arg8.view.read (Elt F) (arg8.view.writes (Elt F) f (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).1) = xqBlk arg4 harg4 x2 := by
  rw [out6_pieces c i arg2 harg2 arg3 harg3 arg4 harg4 arg5 harg5 arg6 harg6 arg7 harg7 arg8 harg8 arg9 harg9 arg10 harg10 arg11 harg11 arg12 harg12 arg13 harg13 x0 x1 x2 x3 x4 x5 x7, View.read_writes_eq_canon _ _ _ (cover6 c arg4 harg4 x2)]
  exact canon6 c arg4 harg4 x2

set_option maxHeartbeats 2000000 in
/-- The codes of the heads, whatever the buffer held. -/
theorem read8 (f : arg10.view.ty.Contents (Elt F)) :
    arg10.view.read (Elt F) (arg10.view.writes (Elt F) f (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.1)
      = headsOf (fun h : Fin 20 => codesOf (kRaw (xsCol (rdX arg4 harg4 x2)) (shapeCast S512x2560 (xqBlk arg4 harg4 x2) shapeCasts_S1x512x2560_S512x2560) arg2 harg2 x0 arg5 harg5 x3 h.val h.isLt)) := by
  have hc : ∀ y : S1x20x512x128.Idx, ∃ pc ∈ (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.1, y ∈ pc.1.set := fun y =>
    View.cover_of_tiledL (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.1 S1x1x512x128.size (by sl_kernel_rfl) y
  have hp := out8_pieces c i arg2 harg2 arg3 harg3 arg4 harg4 arg5 harg5 arg6 harg6 arg7 harg7 arg8 harg8 arg9 harg9 arg10 harg10 arg11 harg11 arg12 harg12 arg13 harg13 x0 x1 x2 x3 x4 x5 x7
  generalize (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.1 = L at hp hc ⊢
  rw [View.read_writes_eq_canon _ _ _ hc]
  funext y
  have := View.canon_append_of_piecesOf _ [] L hp y (hc y)
  rwa [List.append_nil] at this

set_option maxHeartbeats 2000000 in
/-- The codes of the heads, whatever the buffer held. -/
theorem read10 (f : arg12.view.ty.Contents (Elt F)) :
    arg12.view.read (Elt F) (arg12.view.writes (Elt F) f (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.2.1)
      = headsOf (fun h : Fin 20 => codesOf (vRaw (xsCol (rdX arg4 harg4 x2)) (shapeCast S512x2560 (xqBlk arg4 harg4 x2) shapeCasts_S1x512x2560_S512x2560) arg3 harg3 x1 arg6 harg6 x4 arg7 harg7 x5 h.val h.isLt)) := by
  have hc : ∀ y : S1x20x512x128.Idx, ∃ pc ∈ (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.2.1, y ∈ pc.1.set := fun y =>
    View.cover_of_tiledL (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.2.1 S1x1x512x128.size (by sl_kernel_rfl) y
  have hp := out10_pieces c i arg2 harg2 arg3 harg3 arg4 harg4 arg5 harg5 arg6 harg6 arg7 harg7 arg8 harg8 arg9 harg9 arg10 harg10 arg11 harg11 arg12 harg12 arg13 harg13 x0 x1 x2 x3 x4 x5 x7
  generalize (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.2.1 = L at hp hc ⊢
  rw [View.read_writes_eq_canon _ _ _ hc]
  funext y
  have := View.canon_append_of_piecesOf _ [] L hp y (hc y)
  rwa [List.append_nil] at this

set_option maxHeartbeats 2000000 in
/-- The scales of the heads, whatever the buffer held. -/
theorem read9 (f : arg11.view.ty.Contents (Elt F)) :
    arg11.view.read (Elt F) (arg11.view.writes (Elt F) f (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.1)
      = headScales (lanes (amaxAt (fun h hh => kRaw (xsCol (rdX arg4 harg4 x2)) (shapeCast S512x2560 (xqBlk arg4 harg4 x2) shapeCasts_S1x512x2560_S512x2560) arg2 harg2 x0 arg5 harg5 x3 h hh)) 20) := by
  rw [out9_pieces c i arg2 harg2 arg3 harg3 arg4 harg4 arg5 harg5 arg6 harg6 arg7 harg7 arg8 harg8 arg9 harg9 arg10 harg10 arg11 harg11 arg12 harg12 arg13 harg13 x0 x1 x2 x3 x4 x5 x7]
  funext y
  have h := View.read_writes_cons_emb (Val := Elt F) arg11.view f (Rect.unit (s := S1x20x512) ![0, 0, 0] ![1, 20, 512] inb_S1x20x512_S1x20x512_0_0_0)
    (headScales (lanes (amaxAt (fun h hh => kRaw (xsCol (rdX arg4 harg4 x2)) (shapeCast S512x2560 (xqBlk arg4 harg4 x2) shapeCasts_S1x512x2560_S512x2560) arg2 harg2 x0 arg5 harg5 x3 h hh)) 20)) [] y
  have e : (Rect.unit (s := S1x20x512) ![0, 0, 0] ![1, 20, 512] inb_S1x20x512_S1x20x512_0_0_0).emb y = y :=
    funext fun a => Fin.ext (by
      match a with
      | ⟨0, _⟩ => exact (ValueKit.rect_emb_unit_val (s := S1x20x512) ![0, 0, 0] ![1, 20, 512] inb_S1x20x512_S1x20x512_0_0_0 y 0).trans (Nat.zero_add (y 0).val)
      | ⟨1, _⟩ => exact (ValueKit.rect_emb_unit_val (s := S1x20x512) ![0, 0, 0] ![1, 20, 512] inb_S1x20x512_S1x20x512_0_0_0 y 1).trans (Nat.zero_add (y 1).val)
      | ⟨2, _⟩ => exact (ValueKit.rect_emb_unit_val (s := S1x20x512) ![0, 0, 0] ![1, 20, 512] inb_S1x20x512_S1x20x512_0_0_0 y 2).trans (Nat.zero_add (y 2).val))
  rw [e] at h
  exact h

set_option maxHeartbeats 2000000 in
/-- The scales of the heads, whatever the buffer held. -/
theorem read11 (f : arg13.view.ty.Contents (Elt F)) :
    arg13.view.read (Elt F) (arg13.view.writes (Elt F) f (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.2.2.1)
      = headScales (lanes (amaxAt (fun h hh => vRaw (xsCol (rdX arg4 harg4 x2)) (shapeCast S512x2560 (xqBlk arg4 harg4 x2) shapeCasts_S1x512x2560_S512x2560) arg3 harg3 x1 arg6 harg6 x4 arg7 harg7 x5 h hh)) 20) := by
  rw [out11_pieces c i arg2 harg2 arg3 harg3 arg4 harg4 arg5 harg5 arg6 harg6 arg7 harg7 arg8 harg8 arg9 harg9 arg10 harg10 arg11 harg11 arg12 harg12 arg13 harg13 x0 x1 x2 x3 x4 x5 x7]
  funext y
  have h := View.read_writes_cons_emb (Val := Elt F) arg13.view f (Rect.unit (s := S1x20x512) ![0, 0, 0] ![1, 20, 512] inb_S1x20x512_S1x20x512_0_0_0)
    (headScales (lanes (amaxAt (fun h hh => vRaw (xsCol (rdX arg4 harg4 x2)) (shapeCast S512x2560 (xqBlk arg4 harg4 x2) shapeCasts_S1x512x2560_S512x2560) arg3 harg3 x1 arg6 harg6 x4 arg7 harg7 x5 h hh)) 20)) [] y
  have e : (Rect.unit (s := S1x20x512) ![0, 0, 0] ![1, 20, 512] inb_S1x20x512_S1x20x512_0_0_0).emb y = y :=
    funext fun a => Fin.ext (by
      match a with
      | ⟨0, _⟩ => exact (ValueKit.rect_emb_unit_val (s := S1x20x512) ![0, 0, 0] ![1, 20, 512] inb_S1x20x512_S1x20x512_0_0_0 y 0).trans (Nat.zero_add (y 0).val)
      | ⟨1, _⟩ => exact (ValueKit.rect_emb_unit_val (s := S1x20x512) ![0, 0, 0] ![1, 20, 512] inb_S1x20x512_S1x20x512_0_0_0 y 1).trans (Nat.zero_add (y 1).val)
      | ⟨2, _⟩ => exact (ValueKit.rect_emb_unit_val (s := S1x20x512) ![0, 0, 0] ![1, 20, 512] inb_S1x20x512_S1x20x512_0_0_0 y 2).trans (Nat.zero_add (y 2).val))
  rw [e] at h
  exact h

/-- The row scales of the point, at the place of the point: what is read there afterwards. -/
theorem read7_at (y : S1x512.Idx) :
    arg9.view.read (Elt F) (arg9.view.writes (Elt F) (harg9.unread x7) (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.1) ((Rect.unit (s := S12x8192) (k0_off1 i) ![1, 512] (k0_off1_inb i)).emb y)
      = shapeCast S1x512 (xsCol (rdX arg4 harg4 x2)) shapeCasts_S512x1_S1x512 y := by
  rw [out7_pieces c i arg2 harg2 arg3 harg3 arg4 harg4 arg5 harg5 arg6 harg6 arg7 harg7 arg8 harg8 arg9 harg9 arg10 harg10 arg11 harg11 arg12 harg12 arg13 harg13 x0 x1 x2 x3 x4 x5 x7]
  exact View.read_writes_cons_emb (Val := Elt F) arg9.view _ (Rect.unit (s := S12x8192) (k0_off1 i) ![1, 512] (k0_off1_inb i)) _ [] y

/-- Elsewhere the row scales are what they were. -/
theorem read7_off (z : S12x8192.Idx) (hz : ∀ x, (Rect.unit (s := S12x8192) (k0_off1 i) ![1, 512] (k0_off1_inb i)).emb x ≠ z) :
    arg9.view.read (Elt F) (arg9.view.writes (Elt F) (harg9.unread x7) (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.1) z = x7 z := by
  rw [out7_pieces c i arg2 harg2 arg3 harg3 arg4 harg4 arg5 harg5 arg6 harg6 arg7 harg7 arg8 harg8 arg9 harg9 arg10 harg10 arg11 harg11 arg12 harg12 arg13 harg13 x0 x1 x2 x3 x4 x5 x7, View.writes_cons, View.writes_nil]
  rw [View.read_slice_write_of_not_mem _ _ _ _ fun hm => by
      obtain ⟨x, -, hx⟩ := Finset.mem_map.mp hm
      exact hz x hx, harg9.read_unread]

end Run

end Cert.KernelIdeal.Hand

end
-- ==== Proof.Points.lean ====
module

public import proofs.«01_k».proof.Proof.Reads
public import Idealize.ShloMosaic.Lib.Pipeline.DatRel
public import Idealize.ShloMosaic.Lib.Pipeline.ArrRel
public import Idealize.ShloMosaic.Lib.VecWindow
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-! ## The proof data -/

abbrev ms0_0 (t : Fin cfg0.N) : Memref sig .tc .smem S20 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S20 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x2560 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S20x2560x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S20x2560x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S20x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x2560 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x8192 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x20x512x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x20x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x20x512x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x20x512 .f32 := win0_11.stage (cfg0.slots t 11)
abbrev hs0_11 (t : Fin cfg0.N) : (ms0_11 t).IsWhole := hstage0_11 ((cfg0.slots t 11).cast nbuf0_11)

variable (m : (ℓ : Loc nD τ sig) → Buf (Elt F) ℓ) (ρ : Dev nD → PrngReg)

/-- The scales of the 512 rows of point `t`. -/
def colAt (c : Dev nD) (t : Fin cfg0.N) : FVec F S512x1 .f32 := xsCol (rdX (ms0_2 t) (hs0_2 t) (iblk m c 2 t))

/-- The codes of the rows of point `t`. -/
def codeRows (c : Dev nD) (t : Fin cfg0.N) : Vec F S1x512x2560 .fp8e4m3 := xqBlk (ms0_2 t) (hs0_2 t) (iblk m c 2 t)

/-- The keys of head `h` at point `t`, before they are quantised. -/
def kAt (c : Dev nD) (t : Fin cfg0.N) (h : Nat) (hh : h < 20) : FVec F S512x128 .f32 :=
  kRaw (colAt m c t) (shapeCast S512x2560 (codeRows m c t) shapeCasts_S1x512x2560_S512x2560) (ms0_0 t) (hs0_0 t) (iblk m c 0 t) (ms0_3 t) (hs0_3 t) (iblk m c 3 t) h hh

/-- The values of head `h` at point `t`, before they are quantised. -/
def vAt (c : Dev nD) (t : Fin cfg0.N) (h : Nat) (hh : h < 20) : FVec F S512x128 .f32 :=
  vRaw (colAt m c t) (shapeCast S512x2560 (codeRows m c t) shapeCasts_S1x512x2560_S512x2560) (ms0_1 t) (hs0_1 t) (iblk m c 1 t) (ms0_4 t) (hs0_4 t) (iblk m c 4 t) (ms0_5 t) (hs0_5 t) (iblk m c 5 t) h hh

/-- The row scales of point `t`, laid out as they are stored. -/
def scaleRow (c : Dev nD) (t : Fin cfg0.N) : Vec F S1x512 .f32 := shapeCast S1x512 (colAt m c t) shapeCasts_S512x1_S1x512

/-- Where point `t` stores its row scales. -/
abbrev rowRect (t : Fin cfg0.N) : Rect S12x8192 := Rect.unit (s := S12x8192) (k0_off1 (grid0.coords t)) ![1, 512] (k0_off1_inb (grid0.coords t))

def kCodes (c : Dev nD) (t : Fin cfg0.N) : Vec F S1x20x512x128 .fp8e4m3 := headsOf (fun h : Fin 20 => codesOf (kAt m c t h.val h.isLt))
def vCodes (c : Dev nD) (t : Fin cfg0.N) : Vec F S1x20x512x128 .fp8e4m3 := headsOf (fun h : Fin 20 => codesOf (vAt m c t h.val h.isLt))
def kScales (c : Dev nD) (t : Fin cfg0.N) : Vec F S1x20x512 .f32 := headScales (lanes (amaxAt (fun h hh => kAt m c t h hh)) 20)
def vScales (c : Dev nD) (t : Fin cfg0.N) : Vec F S1x20x512 .f32 := headScales (lanes (amaxAt (fun h hh => vAt m c t h hh)) 20)

/-- The row scales hold the rows of every point so far. -/
def rowsDone (c : Dev nD) (t : Fin cfg0.N) (X : Vec F S12x8192 .f32) : Prop :=
  ∀ u : Fin cfg0.N, u.val ≤ t.val → ∀ y : S1x512.Idx, X ((rowRect u).emb y) = scaleRow m c u y

/-- Only the row scales are held from one point to the next, so only they are stated by a relation. -/
def marked : Fin cfg0.W → Bool := fun w => decide (w = 7)

def rel (c : Dev nD) : (w : Fin cfg0.W) → Fin cfg0.N → ((cfg0.win w).block.Idx → Elt F (cfg0.win w).elt) → Prop :=
  fun w t => match w with
    | ⟨7, _⟩ => fun X => rowsDone m c t X
    | _ => fun _ => True

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codeRows m c t
    | ⟨7, _⟩ => fun _ => Classical.arbitrary _
    | ⟨8, _⟩ => kCodes m c t
    | ⟨9, _⟩ => kScales m c t
    | ⟨10, _⟩ => vCodes m c t
    | ⟨11, _⟩ => vScales m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codeRows m c t := by dsimp only [dats]
theorem after0_8 (c : Dev nD) (t : Fin cfg0.N) : (dats m 0 c).after 8 t = kCodes m c t := by dsimp only [dats]
theorem after0_9 (c : Dev nD) (t : Fin cfg0.N) : (dats m 0 c).after 9 t = kScales m c t := by dsimp only [dats]
theorem after0_10 (c : Dev nD) (t : Fin cfg0.N) : (dats m 0 c).after 10 t = vCodes m c t := by dsimp only [dats]
theorem after0_11 (c : Dev nD) (t : Fin cfg0.N) : (dats m 0 c).after 11 t = vScales m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The rows of distinct points are disjoint -/

/-- The offset of point `t` along the rows of the array. -/
theorem off_val : ∀ t : Fin cfg0.N, k0_off1 (grid0.coords t) = ![t.val / 16, 512 * (t.val % 16)] :=
  (by decide +kernel : ∀ t : Fin grid0.N, k0_off1 (grid0.coords t) = ![t.val / 16, 512 * (t.val % 16)])

/-- The row that point `t` stores its row scales in. -/
theorem rowRect_emb0 (t : Fin cfg0.N) (y : S1x512.Idx) : ((rowRect t).emb y 0).val = t.val / 16 := by
  have h : ((rowRect t).emb y 0).val = k0_off1 (grid0.coords t) 0 + (y 0).val := ValueKit.rect_emb_unit_val (s := S12x8192) (k0_off1 (grid0.coords t)) ![1, 512] (k0_off1_inb (grid0.coords t)) y 0
  have h0 : (y 0).val < 1 := (y 0).isLt
  rw [h, off_val]
  show t.val / 16 + (y 0).val = _
  omega

/-- The columns that point `t` stores its row scales in. -/
theorem rowRect_emb1 (t : Fin cfg0.N) (y : S1x512.Idx) : ((rowRect t).emb y 1).val = 512 * (t.val % 16) + (y 1).val := by
  have h : ((rowRect t).emb y 1).val = k0_off1 (grid0.coords t) 1 + (y 1).val := ValueKit.rect_emb_unit_val (s := S12x8192) (k0_off1 (grid0.coords t)) ![1, 512] (k0_off1_inb (grid0.coords t)) y 1
  rw [h, off_val]
  rfl

theorem rowRect_disj (u t : Fin cfg0.N) (h : u.val ≠ t.val) (y : S1x512.Idx) (z : S1x512.Idx) :
    (rowRect t).emb z ≠ (rowRect u).emb y := by
  intro hz
  have e0 := congrArg (fun f => (f 0).val) hz
  have e1 := congrArg (fun f => (f 1).val) hz
  simp only [rowRect_emb0, rowRect_emb1] at e0 e1
  have hy : (y 1).val < 512 := (y 1).isLt
  have hz' : (z 1).val < 512 := (z 1).isLt
  omega

/-- What the row scales may hold when point `t` starts: the rows of the points before. -/
theorem finds7 (c : Dev nD) (t : Fin cfg0.N) (Y : Vec F S12x8192 .f32)
    (h : ((dats m 0 c).toRRel marked (rel m c)).Finds 7 t Y) (u : Fin cfg0.N) (hu : u.val < t.val) (y : S1x512.Idx) :
    Y ((rowRect u).emb y) = scaleRow m c u y := by
  have hf : (cfg0.win 7).fetch t = false := rfl
  have h' := (((dats m 0 c).toRRel marked (rel m c)).finds_of_pos hf (by omega) Y).mp h
  have hN : t.val < 192 := t.isLt
  rcases h' with h' | h'
  · have := (flush0_7 _).mp h'
    simp only at this
    omega
  · have hr : rowsDone m c ⟨t.val - 1, Nat.lt_of_le_of_lt (Nat.sub_le _ _) t.isLt⟩ Y := (dats m 0 c).toRRel_leaves (w := 7) rfl h'
    exact hr u (by show u.val ≤ t.val - 1; omega) y

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜((dats m 0 c).toRRel marked (rel m c)).Finds 7 t Y⌝ ∗ owns (c : Thread nD τ) (ms0_7 t) fullShare Y)
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜rowsDone m c t X⌝ ∗ owns (c : Thread nD τ) (ms0_7 t) fullShare X)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%Y, %hY, H7⟩, ⟨%d8, H8⟩, ⟨%d9, H9⟩, ⟨%d10, H10⟩, ⟨%d11, H11⟩⟩
  iapply ((bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) Y).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, ⟨%e6, H6⟩, H7, ⟨%e8, H8⟩, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact read6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) Y e6
  isplitl [H7]
  · iexists ((ms0_7 t).view.read (Elt F) ((ms0_7 t).view.writes (Elt F) ((hs0_7 t).unread Y) (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) Y).2.1))
    isplitr
    · ipureintro
      intro u hu y
      by_cases h : u.val = t.val
      · obtain rfl : u = t := Fin.ext h
        exact read7_at c (grid0.coords u) (ms0_0 u) (hs0_0 u) (ms0_1 u) (hs0_1 u) (ms0_2 u) (hs0_2 u) (ms0_3 u) (hs0_3 u) (ms0_4 u) (hs0_4 u) (ms0_5 u) (hs0_5 u) (ms0_6 u) (hs0_6 u) (ms0_7 u) (hs0_7 u) (ms0_8 u) (hs0_8 u) (ms0_9 u) (hs0_9 u) (ms0_10 u) (hs0_10 u) (ms0_11 u) (hs0_11 u) (iblk m c 0 u) (iblk m c 1 u) (iblk m c 2 u) (iblk m c 3 u) (iblk m c 4 u) (iblk m c 5 u) Y y
      · exact (read7_off c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) Y _ (rowRect_disj u t h y)).trans (finds7 m c t Y hY u (by omega) y)
    · unfold owns; iexists _; isplitr
      swap; · iexact H7
      ipureintro; rfl
  isplitl [H8]
  · unfold owns; iexists _; isplitr
    swap; · iexact H8
    ipureintro; exact read8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) Y e8
  isplitl [H9]
  · unfold owns; iexists _; isplitr
    swap; · iexact H9
    ipureintro; exact read9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) Y e9
  isplitl [H10]
  · unfold owns; iexists _; isplitr
    swap; · iexact H10
    ipureintro; exact read10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) Y e10
  unfold owns; iexists _; isplitr
  swap; · iexact H11
  ipureintro; exact read11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) Y e11

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ marked (rel m c) := fun t => by
  rw [bigSep_W0, bigSep_W0, defs₀_row]
  exact triple_restated (sound_body m c t) rfl .rfl fun _ => .rfl

/-- The proof data of the one pipeline. -/
abbrev rdats (c : Dev nD) : RDat τ (Elt F) Unit ℕ (UR sig nD τ) ℕ cfg0 c := (dats m 0 c).toRRel marked (rel m c)

-- the theorem's implicit arguments are found by unifying its conclusion with this one, which takes unfolding plain
-- definitions in a metavariable's type
set_option backward.isDefEq.respectTransparency.types false in
theorem run_main_quiescent : θ_run defs (onTc (τ := τ) (main (F := F))) (s₀ m ρ)
    (fun r => RDat.FramePost cfg0 (rdats m) (V m) r ∧ r.2.sem = fun _ => 0) :=
  RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl) (hQ' := fun _ h => h)

/-- The arguments after a run are what they were. -/
theorem args_of (r : PUnit × MemSt nD τ sig (Elt F)) (h : RDat.FramePost cfg0 (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 2 rfl).trans ((A_eq m c 2).trans (V_main_arg0 m c)),
      ((h c).2 main_arg1 (Pipeline.mem_restRefs_of main_arg1 (by decide) (by decide))).trans (V_main_arg1 m c),
      (RDat.FramePost.arr_in h c 0 rfl).trans ((A_eq m c 0).trans (V_main_arg2 m c)),
      ((h c).2 main_arg3 (Pipeline.mem_restRefs_of main_arg3 (by decide) (by decide))).trans (V_main_arg3 m c),
      (RDat.FramePost.arr_in h c 1 rfl).trans ((A_eq m c 1).trans (V_main_arg4 m c)),
      (RDat.FramePost.arr_in h c 5 rfl).trans ((A_eq m c 5).trans (V_main_arg5 m c))⟩

/-- Every run ends with the arguments unchanged and no transfer outstanding. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_of m r h.1 c, h.2⟩) (run_main_quiescent m ρ)

end Cert.KernelIdeal.Hand

end
-- ==== Proof.PrintedRun.lean ====
module

public import proofs.«01_k».proof.Proof.Gen.Kernel.Frame
public import proofs.«01_k».proof.Proof.Gen.Kernel.Skeleton
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2264000 in
/-- The pieces that the body's stores leave in each output's staging memref (last first), with the body's triple: from
    whole staging memrefs, the inputs' at their contents, the row scales' (`arg9`) at `x7`, the other outputs' at
    anything, the body ends with the inputs' unchanged and each output's pieces written, the row scales' over `x7`. -/
noncomputable def bodyRun (c : Dev nD) (i : grid0.Coords) (arg2 : Memref sig .tc .smem S20 .f32) (harg2 : arg2.IsWhole) (arg3 : Memref sig .tc .smem S20 .f32) (harg3 : arg3.IsWhole) (arg4 : Memref sig .tc .vmem S1x512x2560 .bf16) (harg4 : arg4.IsWhole) (arg5 : Memref sig .tc .vmem S20x2560x128 .fp8e4m3) (harg5 : arg5.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (harg8 : arg8.IsWhole) (arg9 : Memref sig .tc .vmem S12x8192 .f32) (harg9 : arg9.IsWhole) (arg10 : Memref sig .tc .vmem S1x20x512x128 .fp8e4m3) (harg10 : arg10.IsWhole) (arg11 : Memref sig .tc .vmem S1x20x512 .f32) (harg11 : arg11.IsWhole) (arg12 : Memref sig .tc .vmem S1x20x512x128 .fp8e4m3) (harg12 : arg12.IsWhole) (arg13 : Memref sig .tc .vmem S1x20x512 .f32) (harg13 : arg13.IsWhole)
    (x0 : Vec F S20 .f32) (x1 : Vec F S20 .f32) (x2 : Vec F S1x512x2560 .bf16) (x3 : Vec F S20x2560x128 .fp8e4m3) (x4 : Vec F S20x2560x128 .fp8e4m3) (x5 : Vec F S20x128 .f32) (x7 : Vec F S12x8192 .f32) :
    Σ' (L6 : List (View.Piece (Elt F) S1x512x2560 .fp8e4m3)), Σ' (L7 : List (View.Piece (Elt F) S12x8192 .f32)), Σ' (L8 : List (View.Piece (Elt F) S1x20x512x128 .fp8e4m3)), Σ' (L9 : List (View.Piece (Elt F) S1x20x512 .f32)), Σ' (L10 : List (View.Piece (Elt F) S1x20x512x128 .fp8e4m3)), { L11 : List (View.Piece (Elt F) S1x20x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread x7) L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc0_kv_project i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_kv_project_eq_skeleton]; unfold cc0_kv_project_skel
    simp only [k0_part100_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexact H7
    isplitl [H8]; · iexists _; iexact H8
    isplitl [H9]; · iexists _; iexact H9
    isplitl [H10]; · iexists _; iexact H10
    iexists _; iexact H11

end Cert.Kernel.Hand

end
-- ==== Proof.PrintedClosed.lean ====
module

public import proofs.«01_k».proof.Proof.PrintedRun
public import Idealize.ShloMosaic.Lib.Pipeline.ReadBack
public import Idealize.ShloMosaic.Lib.WholeRead
public import Idealize.ShloMosaic.Lib.ValueIdxCore

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx

variable {F : FTy → Type} [FloatOps F]

/-! ## The kernel's operations on vectors, named -/

/-- One step of the search for the exponent field of `t`: the field `e` found so far, with `bit` set unless that makes it
    the field of a value above `t`. -/
def fieldStep {s : Shape} (t : FVec F s .f32) (bit : BitVec 32) (e : IVec s 32) : IVec s 32 :=
  select (cmpf .olt t (bitcastToFloat .f32 (ori e (broadcast s bit)))) e (ori e (broadcast s bit))

/-- The exponent field of `t`, in place, found bit by bit from the highest. -/
def fieldOf {s : Shape} (t : FVec F s .f32) : IVec s 32 :=
  fieldStep t 8388608#32 (fieldStep t 16777216#32 (fieldStep t 33554432#32 (fieldStep t 67108864#32
    (fieldStep t 134217728#32 (fieldStep t 268435456#32 (fieldStep t 536870912#32 (fieldStep t 1073741824#32 (broadcast s 0#32))))))))

/-- The scale of `t`: the least power of two above it, or one where `t` is below the least normal number. -/
def scaleOf {s : Shape} (t : FVec F s .f32) : FVec F s .f32 :=
  bitcastToFloat .f32 (select (cmpi .eq (fieldOf t) (broadcast s 0#32)) (broadcast s 1065353216#32) (addi (fieldOf t) (broadcast s 8388608#32)))

/-- The reciprocal of the scale. -/
def invOf {s : Shape} (t : FVec F s .f32) : FVec F s .f32 :=
  bitcastToFloat .f32 (select (cmpi .eq (fieldOf t) (broadcast s 0#32)) (broadcast s 1065353216#32) (subi (broadcast s 2122317824#32) (fieldOf t)))

/-- `v` clipped to the format's range and cast to it. -/
def clipOf {s : Shape} (v : FVec F s .f32) : FVec F s .fp8e4m3 :=
  truncf .fp8e4m3 (minimumf (broadcast s (Scalar.ofBits .f32 0x43E00000#32)) (maximumf (broadcast s (Scalar.ofBits .f32 0xC3E00000#32)) v)) bitsLt_fp8e4m3_f32

/-- The largest magnitude of a row, over 448. -/
def byLimit {s : Shape} (a : FVec F s .f32) : FVec F s .f32 := mulf a (broadcast s (Scalar.ofBits .f32 0x3B124925#32))

/-- A chunk of 32 rows of `x`, -/
def chunkX (v : Vec F S1x32x2560 .bf16) : FVec F S32x2560 .f32 := extf .f32 (shapeCast S32x2560 v shapeCasts_S1x32x2560_S32x2560) bitsLt_bf16_f32
/-- its rows' largest magnitudes over 448, -/
def chunkT (v : Vec F S1x32x2560 .bf16) : FVec F S32x1 .f32 :=
  byLimit (shapeCast S32x1 (multiReduction .maximumf [1] S32 (absf (chunkX v)) 0xFF800000#32 reduces_S32x2560_S32 (.inl rfl) rfl) shapeCasts_S32_S32x1)
/-- and its codes. -/
def chunkQ (v : Vec F S1x32x2560 .bf16) : FVec F S1x32x2560 .fp8e4m3 :=
  shapeCast S1x32x2560 (clipOf (mulf (chunkX v) (broadcastTo S32x2560 (invOf (chunkT v)) broadcasts_S32x1_S32x2560))) shapeCasts_S32x2560_S1x32x2560

/-- The scales of the block's 512 rows, chunk by chunk. -/
def xsCol (v : Fin 16 → Vec F S1x32x2560 .bf16) : FVec F S512x1 .f32 :=
  concatenate S512x1 0 [⟨S32x1, scaleOf (chunkT (v 0))⟩, ⟨S32x1, scaleOf (chunkT (v 1))⟩, ⟨S32x1, scaleOf (chunkT (v 2))⟩, ⟨S32x1, scaleOf (chunkT (v 3))⟩, ⟨S32x1, scaleOf (chunkT (v 4))⟩, ⟨S32x1, scaleOf (chunkT (v 5))⟩, ⟨S32x1, scaleOf (chunkT (v 6))⟩, ⟨S32x1, scaleOf (chunkT (v 7))⟩, ⟨S32x1, scaleOf (chunkT (v 8))⟩, ⟨S32x1, scaleOf (chunkT (v 9))⟩, ⟨S32x1, scaleOf (chunkT (v 10))⟩, ⟨S32x1, scaleOf (chunkT (v 11))⟩, ⟨S32x1, scaleOf (chunkT (v 12))⟩, ⟨S32x1, scaleOf (chunkT (v 13))⟩, ⟨S32x1, scaleOf (chunkT (v 14))⟩, ⟨S32x1, scaleOf (chunkT (v 15))⟩] concatenates_S32x1_S32x1_S32x1_S32x1_S32x1_S32x1_S32x1_S32x1_S32x1_S32x1_S32x1_S32x1_S32x1_S32x1_S32x1_S32x1_S512x1_d0

/-- The products of the block's codes with a pair of heads' weights. -/
def pairAcc (xq : FVec F S512x2560 .fp8e4m3) (w w' : Vec F S1x2560x128 .fp8e4m3) : FVec F S512x256 .f32 :=
  matmul dot_S512x2560_S2560x256_S512x256_1_0_0_1_n_n none xq
    (concatenate S2560x256 1 [⟨S2560x128, shapeCast S2560x128 w shapeCasts_S1x2560x128_S2560x128⟩, ⟨S2560x128, shapeCast S2560x128 w' shapeCasts_S1x2560x128_S2560x128⟩] concatenates_S2560x128_S2560x128_S2560x256_d1)
    (constant S512x256 .f32 0x00000000#32)

/-- Head `h`'s half of a pair's products: the left for an even head, the right for an odd one. -/
def half (h : Nat) (acc : FVec F S512x256 .f32) : FVec F S512x128 .f32 :=
  if h % 2 = 0 then extractStridedSlice S512x128 ![0, 0] acc slices_S512x256_o0_0_S512x128
  else extractStridedSlice S512x128 ![0, 128] acc slices_S512x256_o0_128_S512x128

/-- A head's products, scaled by the rows' scales and the head's. -/
def tileK (xs : FVec F S512x1 .f32) (acc : FVec F S512x128 .f32) (s : Elt F .f32) : FVec F S512x128 .f32 :=
  mulf (mulf acc (broadcastTo S512x128 xs broadcasts_S512x1_S512x128)) (broadcast S512x128 s)
/-- The same with the head's bias added. -/
def tileV (xs : FVec F S512x1 .f32) (acc : FVec F S512x128 .f32) (s : Elt F .f32) (b : Vec F S1x128 .f32) : FVec F S512x128 .f32 :=
  addf (tileK xs acc s) (broadcastTo S512x128 b broadcasts_S1x128_S512x128)

/-- The largest magnitudes of a head's rows, -/
def amaxOf (k : FVec F S512x128 .f32) : FVec F S512x1 .f32 :=
  shapeCast S512x1 (multiReduction .maximumf [1] S512 (absf k) 0xFF800000#32 reduces_S512x128_S512 (.inl rfl) rfl) shapeCasts_S512_S512x1
/-- and its codes. -/
def codesOf (k : FVec F S512x128 .f32) : FVec F S1x1x512x128 .fp8e4m3 :=
  shapeCast S1x1x512x128 (clipOf (mulf k (broadcastTo S512x128 (invOf (byLimit (amaxOf k))) broadcasts_S512x1_S512x128))) shapeCasts_S512x128_S1x1x512x128

/-- The first `n` heads' largest magnitudes, head `h`'s in lane `h`, zero in the lanes left. -/
def lanes (am : Nat → FVec F S512x1 .f32) : Nat → FVec F S512x128 .f32
  | 0 => broadcast S512x128 (Scalar.ofBits .f32 0x00000000#32)
  | n + 1 => select (cmpi .eq (iota .tc S512x128 32 [1] iota_S512x128_d1_w32) (broadcast S512x128 (BitVec.ofNat 32 n)))
      (broadcastTo S512x128 (shapeCast S512x1 (am n) shapeCasts_S512x1_S512x1) broadcasts_S512x1_S512x128) (lanes am n)

/-- The heads' scales, one row per head. -/
def headScales (col : FVec F S512x128 .f32) : FVec F S1x20x512 .f32 :=
  shapeCast S1x20x512 (extractStridedSlice S20x512 ![0, 0] (transpose S128x512 [1, 0] (scaleOf (byLimit col)) transposes_S512x128_p1_0_S128x512) slices_S128x512_o0_0_S20x512) shapeCasts_S20x512_S1x20x512

theorem inbX (j : Fin 16) : ∀ a, (![0, 32 * j.val, 0] : Fin 3 → ℕ) a + S1x32x2560.size a ≤ S1x512x2560.size a := by
  have := j.isLt; intro a; fin_cases a <;> simp [Shape.size] <;> omega
theorem inbW (h : Nat) (hh : h < 20) : ∀ a, (![h, 0, 0] : Fin 3 → ℕ) a + S1x2560x128.size a ≤ S20x2560x128.size a := by
  intro a; fin_cases a <;> simp [Shape.size] <;> omega
theorem inbS (h : Nat) (hh : h < 20) : ∀ a, (![h] : Fin 1 → ℕ) a + S1.size a ≤ S20.size a := by
  intro a; fin_cases a <;> simp [Shape.size] <;> omega
theorem inbB (h : Nat) (hh : h < 20) : ∀ a, (![h, 0] : Fin 2 → ℕ) a + S1x128.size a ≤ S20x128.size a := by
  intro a; fin_cases a <;> simp [Shape.size] <;> omega

/-! ## What the body reads of its inputs -/

/-- The chunk of `x` that begins at row `32 j`, as it is read. -/
def rdX (arg4 : Memref sig .tc .vmem S1x512x2560 .bf16) (harg4 : arg4.IsWhole) (x2 : Vec F S1x512x2560 .bf16) (j : Fin 16) : Vec F S1x32x2560 .bf16 :=
  View.readAt (Elt F) arg4.view (Rect.unit (s := S1x512x2560) ![0, 32 * j.val, 0] S1x32x2560.size (inbX j)).toLoadRect (harg4.unread x2)
/-- Head `h`'s weights, as they are read. -/
def rdW (arg5 : Memref sig .tc .vmem S20x2560x128 .fp8e4m3) (harg5 : arg5.IsWhole) (x3 : Vec F S20x2560x128 .fp8e4m3) (h : Nat) (hh : h < 20) : Vec F S1x2560x128 .fp8e4m3 :=
  View.readAt (Elt F) arg5.view (Rect.unit (s := S20x2560x128) ![h, 0, 0] S1x2560x128.size (inbW h hh)).toLoadRect (harg5.unread x3)
/-- Head `h`'s scale, as it is read. -/
def rdS (arg2 : Memref sig .tc .smem S20 .f32) (harg2 : arg2.IsWhole) (x0 : Vec F S20 .f32) (h : Nat) (hh : h < 20) : Elt F .f32 :=
  View.readAt (Elt F) arg2.view (Rect.unit (s := S20) ![h] S1.size (inbS h hh)).toLoadRect (harg2.unread x0) (Shape.Idx.first (show 0 < S1.numel by decide))
/-- Head `h`'s bias, as it is read. -/
def rdB (arg7 : Memref sig .tc .vmem S20x128 .f32) (harg7 : arg7.IsWhole) (x5 : Vec F S20x128 .f32) (h : Nat) (hh : h < 20) : Vec F S1x128 .f32 :=
  View.readAt (Elt F) arg7.view (Rect.unit (s := S20x128) ![h, 0] S1x128.size (inbB h hh)).toLoadRect (harg7.unread x5)

theorem r75_eq (c : Dev nD) (arg4 : Memref sig .tc .vmem S1x512x2560 .bf16) (harg4 : arg4.IsWhole) (x2 : Vec F S1x512x2560 .bf16) :
    bodyRun.sl.r_75 c arg4 harg4 x2 = xsCol (rdX arg4 harg4 x2) := by rfl

theorem chunk_lt (r : Fin (S1x512x2560.size 1)) : r.val / 32 < 16 := by have : r.val < 512 := r.isLt; omega

/-- The chunks' union: row `r` is row `r % 32` of chunk `r / 32`. -/
def rowsOf (g : Fin 16 → Vec F S1x32x2560 .fp8e4m3) : Vec F S1x512x2560 .fp8e4m3 :=
  fun y => g ⟨(y 1).val / 32, chunk_lt (y 1)⟩ (ix3 0 ⟨(y 1).val % 32, Nat.mod_lt _ (by decide)⟩ (y 2))
/-- The heads' union. -/
def headsOf (g : Fin 20 → Vec F S1x1x512x128 .fp8e4m3) : Vec F S1x20x512x128 .fp8e4m3 :=
  fun y => g (y 1) (ix4 0 0 (y 2) (y 3))

/-- A piece stored at row `32 j` is a block of the chunks' union. -/
theorem chunkPiece (g : Fin 16 → Vec F S1x32x2560 .fp8e4m3) (j : Nat) (hj : j < 16)
    (inb : ∀ a, (![0, 32 * j, 0] : Fin 3 → ℕ) a + S1x32x2560.size a ≤ S1x512x2560.size a) (x : S1x32x2560.Idx) :
    g ⟨j, hj⟩ x = rowsOf g ((Rect.unit (s := S1x512x2560) ![0, 32 * j, 0] S1x32x2560.size inb).emb x) := by
  have h0 : (x 0).val = 0 := by have h := (x 0).isLt; simp only [Shape.size] at h; simpa using h
  have h1 : (x 1).val < 32 := (x 1).isLt
  unfold rowsOf
  have e1 : (⟨((Rect.unit (s := S1x512x2560) ![0, 32 * j, 0] S1x32x2560.size inb).emb x 1).val / 32, chunk_lt _⟩ : Fin 16) = ⟨j, hj⟩ := by
    apply Fin.ext; show (32 * j + 1 * (x 1).val) / 32 = j; omega
  rw [e1]
  congr 1
  funext a
  match a with
  | ⟨0, _⟩ => exact Fin.ext h0
  | ⟨1, _⟩ => apply Fin.ext; show (x 1).val = (32 * j + 1 * (x 1).val) % 32; omega
  | ⟨2, _⟩ => apply Fin.ext; show (x 2).val = 0 + 1 * (x 2).val; omega

/-- A piece stored at head `h` is a block of the heads' union. -/
theorem headPiece (g : Fin 20 → Vec F S1x1x512x128 .fp8e4m3) (h : Nat) (hh : h < 20)
    (inb : ∀ a, (![0, h, 0, 0] : Fin 4 → ℕ) a + S1x1x512x128.size a ≤ S1x20x512x128.size a) (x : S1x1x512x128.Idx) :
    g ⟨h, hh⟩ x = headsOf g ((Rect.unit (s := S1x20x512x128) ![0, h, 0, 0] S1x1x512x128.size inb).emb x) := by
  have h0 : (x 0).val = 0 := by have h := (x 0).isLt; simp only [Shape.size] at h; simpa using h
  have h1 : (x 1).val = 0 := by have h := (x 1).isLt; simp only [Shape.size] at h; simpa using h
  unfold headsOf
  have e1 : (Rect.unit (s := S1x20x512x128) ![0, h, 0, 0] S1x1x512x128.size inb).emb x 1 = ⟨h, hh⟩ := by
    apply Fin.ext; show h + 1 * (x 1).val = h; omega
  rw [e1]
  congr 1
  funext a
  match a with
  | ⟨0, _⟩ => exact Fin.ext h0
  | ⟨1, _⟩ => exact Fin.ext h1
  | ⟨2, _⟩ => apply Fin.ext; show (x 2).val = 0 + 1 * (x 2).val; omega
  | ⟨3, _⟩ => apply Fin.ext; show (x 3).val = 0 + 1 * (x 3).val; omega

theorem pay6_15 (c : Dev nD) (arg4 : Memref sig .tc .vmem S1x512x2560 .bf16) (harg4 : arg4.IsWhole) (x2 : Vec F S1x512x2560 .bf16) :
    k0_pay117 (bodyRun.sl.r_72 c arg4 harg4 x2) (bodyRun.sl.r_73 c arg4 harg4 x2) (bodyRun.sl.r_74 c arg4 harg4 x2) 8388608#32 = chunkQ (rdX arg4 harg4 x2 15) := by rfl
theorem pay6_14 (c : Dev nD) (arg4 : Memref sig .tc .vmem S1x512x2560 .bf16) (harg4 : arg4.IsWhole) (x2 : Vec F S1x512x2560 .bf16) :
    k0_pay111 (bodyRun.sl.r_71 c arg4 harg4 x2) = chunkQ (rdX arg4 harg4 x2 14) := by rfl
theorem pay6_13 (c : Dev nD) (arg4 : Memref sig .tc .vmem S1x512x2560 .bf16) (harg4 : arg4.IsWhole) (x2 : Vec F S1x512x2560 .bf16) :
    k0_pay103 (bodyRun.sl.r_61 c arg4 harg4 x2) (bodyRun.sl.r_63 c arg4 harg4 x2) (bodyRun.sl.r_64 c arg4 harg4 x2) = chunkQ (rdX arg4 harg4 x2 13) := by rfl
theorem pay6_12 (c : Dev nD) (arg4 : Memref sig .tc .vmem S1x512x2560 .bf16) (harg4 : arg4.IsWhole) (x2 : Vec F S1x512x2560 .bf16) :
    k0_pay96 (bodyRun.sl.r_57 c arg4 harg4 x2) (bodyRun.sl.r_58 c arg4 harg4 x2) (bodyRun.sl.r_59 c arg4 harg4 x2) 33554432#32 = chunkQ (rdX arg4 harg4 x2 12) := by rfl
theorem pay6_11 (c : Dev nD) (arg4 : Memref sig .tc .vmem S1x512x2560 .bf16) (harg4 : arg4.IsWhole) (x2 : Vec F S1x512x2560 .bf16) :
    k0_pay89 (bodyRun.sl.r_56 c arg4 harg4 x2) = chunkQ (rdX arg4 harg4 x2 11) := by rfl
theorem pay6_10 (c : Dev nD) (arg4 : Memref sig .tc .vmem S1x512x2560 .bf16) (harg4 : arg4.IsWhole) (x2 : Vec F S1x512x2560 .bf16) :
    k0_pay81 (bodyRun.sl.r_48 c arg4 harg4 x2) (bodyRun.sl.r_49 c arg4 harg4 x2) (bodyRun.sl.r_50 c arg4 harg4 x2) 8388608#32 = chunkQ (rdX arg4 harg4 x2 10) := by rfl
theorem pay6_9 (c : Dev nD) (arg4 : Memref sig .tc .vmem S1x512x2560 .bf16) (harg4 : arg4.IsWhole) (x2 : Vec F S1x512x2560 .bf16) :
    k0_pay74 (bodyRun.sl.r_47 c arg4 harg4 x2) = chunkQ (rdX arg4 harg4 x2 9) := by rfl
theorem pay6_8 (c : Dev nD) (arg4 : Memref sig .tc .vmem S1x512x2560 .bf16) (harg4 : arg4.IsWhole) (x2 : Vec F S1x512x2560 .bf16) :
    k0_pay66 (bodyRun.sl.r_37 c arg4 harg4 x2) (bodyRun.sl.r_39 c arg4 harg4 x2) (bodyRun.sl.r_40 c arg4 harg4 x2) = chunkQ (rdX arg4 harg4 x2 8) := by rfl
theorem pay6_7 (c : Dev nD) (arg4 : Memref sig .tc .vmem S1x512x2560 .bf16) (harg4 : arg4.IsWhole) (x2 : Vec F S1x512x2560 .bf16) :
    k0_pay59 (bodyRun.sl.r_33 c arg4 harg4 x2) (bodyRun.sl.r_34 c arg4 harg4 x2) (bodyRun.sl.r_35 c arg4 harg4 x2) 33554432#32 = chunkQ (rdX arg4 harg4 x2 7) := by rfl
theorem pay6_6 (c : Dev nD) (arg4 : Memref sig .tc .vmem S1x512x2560 .bf16) (harg4 : arg4.IsWhole) (x2 : Vec F S1x512x2560 .bf16) :
    k0_pay52 (bodyRun.sl.r_32 c arg4 harg4 x2) = chunkQ (rdX arg4 harg4 x2 6) := by rfl
theorem pay6_5 (c : Dev nD) (arg4 : Memref sig .tc .vmem S1x512x2560 .bf16) (harg4 : arg4.IsWhole) (x2 : Vec F S1x512x2560 .bf16) :
    k0_pay44 (bodyRun.sl.r_24 c arg4 harg4 x2) (bodyRun.sl.r_25 c arg4 harg4 x2) (bodyRun.sl.r_26 c arg4 harg4 x2) 8388608#32 = chunkQ (rdX arg4 harg4 x2 5) := by rfl
theorem pay6_4 (c : Dev nD) (arg4 : Memref sig .tc .vmem S1x512x2560 .bf16) (harg4 : arg4.IsWhole) (x2 : Vec F S1x512x2560 .bf16) :
    k0_pay37 (bodyRun.sl.r_23 c arg4 harg4 x2) = chunkQ (rdX arg4 harg4 x2 4) := by rfl
theorem pay6_3 (c : Dev nD) (arg4 : Memref sig .tc .vmem S1x512x2560 .bf16) (harg4 : arg4.IsWhole) (x2 : Vec F S1x512x2560 .bf16) :
    k0_pay29 (bodyRun.sl.r_13 c arg4 harg4 x2) (bodyRun.sl.r_15 c arg4 harg4 x2) (bodyRun.sl.r_16 c arg4 harg4 x2) = chunkQ (rdX arg4 harg4 x2 3) := by rfl
theorem pay6_2 (c : Dev nD) (arg4 : Memref sig .tc .vmem S1x512x2560 .bf16) (harg4 : arg4.IsWhole) (x2 : Vec F S1x512x2560 .bf16) :
    k0_pay22 (bodyRun.sl.r_9 c arg4 harg4 x2) (bodyRun.sl.r_10 c arg4 harg4 x2) (bodyRun.sl.r_11 c arg4 harg4 x2) 33554432#32 = chunkQ (rdX arg4 harg4 x2 2) := by rfl
theorem pay6_1 (c : Dev nD) (arg4 : Memref sig .tc .vmem S1x512x2560 .bf16) (harg4 : arg4.IsWhole) (x2 : Vec F S1x512x2560 .bf16) :
    k0_pay15 (bodyRun.sl.r_8 c arg4 harg4 x2) = chunkQ (rdX arg4 harg4 x2 1) := by rfl
theorem pay6_0 (c : Dev nD) (arg4 : Memref sig .tc .vmem S1x512x2560 .bf16) (harg4 : arg4.IsWhole) (x2 : Vec F S1x512x2560 .bf16) :
    k0_pay7 (bodyRun.sl.r c arg4 harg4 x2) (bodyRun.sl.r_1 c arg4 harg4 x2) (bodyRun.sl.r_2 c arg4 harg4 x2) 8388608#32 = chunkQ (rdX arg4 harg4 x2 0) := by rfl
/-- The codes that the body stores of its rows are the chunks' codes. -/
theorem pieces6 (c : Dev nD) (arg4 : Memref sig .tc .vmem S1x512x2560 .bf16) (harg4 : arg4.IsWhole) (x2 : Vec F S1x512x2560 .bf16) :
    View.PiecesOf (rowsOf fun j => chunkQ (rdX arg4 harg4 x2 j)) (bodyRun.sl.H6_16 c arg4 harg4 x2) := by
  unfold bodyRun.sl.H6_16
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact (congrFun (pay6_15 c arg4 harg4 x2) x).trans (chunkPiece (fun j => chunkQ (rdX arg4 harg4 x2 j)) 15 (by decide) (inbX 15) x)
  · exact (congrFun (pay6_14 c arg4 harg4 x2) x).trans (chunkPiece (fun j => chunkQ (rdX arg4 harg4 x2 j)) 14 (by decide) (inbX 14) x)
  · exact (congrFun (pay6_13 c arg4 harg4 x2) x).trans (chunkPiece (fun j => chunkQ (rdX arg4 harg4 x2 j)) 13 (by decide) (inbX 13) x)
  · exact (congrFun (pay6_12 c arg4 harg4 x2) x).trans (chunkPiece (fun j => chunkQ (rdX arg4 harg4 x2 j)) 12 (by decide) (inbX 12) x)
  · exact (congrFun (pay6_11 c arg4 harg4 x2) x).trans (chunkPiece (fun j => chunkQ (rdX arg4 harg4 x2 j)) 11 (by decide) (inbX 11) x)
  · exact (congrFun (pay6_10 c arg4 harg4 x2) x).trans (chunkPiece (fun j => chunkQ (rdX arg4 harg4 x2 j)) 10 (by decide) (inbX 10) x)
  · exact (congrFun (pay6_9 c arg4 harg4 x2) x).trans (chunkPiece (fun j => chunkQ (rdX arg4 harg4 x2 j)) 9 (by decide) (inbX 9) x)
  · exact (congrFun (pay6_8 c arg4 harg4 x2) x).trans (chunkPiece (fun j => chunkQ (rdX arg4 harg4 x2 j)) 8 (by decide) (inbX 8) x)
  · exact (congrFun (pay6_7 c arg4 harg4 x2) x).trans (chunkPiece (fun j => chunkQ (rdX arg4 harg4 x2 j)) 7 (by decide) (inbX 7) x)
  · exact (congrFun (pay6_6 c arg4 harg4 x2) x).trans (chunkPiece (fun j => chunkQ (rdX arg4 harg4 x2 j)) 6 (by decide) (inbX 6) x)
  · exact (congrFun (pay6_5 c arg4 harg4 x2) x).trans (chunkPiece (fun j => chunkQ (rdX arg4 harg4 x2 j)) 5 (by decide) (inbX 5) x)
  · exact (congrFun (pay6_4 c arg4 harg4 x2) x).trans (chunkPiece (fun j => chunkQ (rdX arg4 harg4 x2 j)) 4 (by decide) (inbX 4) x)
  · exact (congrFun (pay6_3 c arg4 harg4 x2) x).trans (chunkPiece (fun j => chunkQ (rdX arg4 harg4 x2 j)) 3 (by decide) (inbX 3) x)
  · exact (congrFun (pay6_2 c arg4 harg4 x2) x).trans (chunkPiece (fun j => chunkQ (rdX arg4 harg4 x2 j)) 2 (by decide) (inbX 2) x)
  · exact (congrFun (pay6_1 c arg4 harg4 x2) x).trans (chunkPiece (fun j => chunkQ (rdX arg4 harg4 x2 j)) 1 (by decide) (inbX 1) x)
  · exact (congrFun (pay6_0 c arg4 harg4 x2) x).trans (chunkPiece (fun j => chunkQ (rdX arg4 harg4 x2 j)) 0 (by decide) (inbX 0) x)

theorem cover6 (c : Dev nD) (arg4 : Memref sig .tc .vmem S1x512x2560 .bf16) (harg4 : arg4.IsWhole) (x2 : Vec F S1x512x2560 .bf16) (y : S1x512x2560.Idx) :
    ∃ p ∈ bodyRun.sl.H6_16 c arg4 harg4 x2, y ∈ p.1.set :=
  View.cover_of_tiledL (bodyRun.sl.H6_16 c arg4 harg4 x2) S1x32x2560.size (by sl_kernel_rfl) y

/-- What the block's codes are, once stored. -/
def xqBlk (arg4 : Memref sig .tc .vmem S1x512x2560 .bf16) (harg4 : arg4.IsWhole) (x2 : Vec F S1x512x2560 .bf16) : Vec F S1x512x2560 .fp8e4m3 := rowsOf fun j => chunkQ (rdX arg4 harg4 x2 j)

theorem canon6 (c : Dev nD) (arg4 : Memref sig .tc .vmem S1x512x2560 .bf16) (harg4 : arg4.IsWhole) (x2 : Vec F S1x512x2560 .bf16) :
    View.canon (bodyRun.sl.H6_16 c arg4 harg4 x2) = xqBlk arg4 harg4 x2 := by
  funext y
  have h := View.canon_append_of_piecesOf (rowsOf fun j => chunkQ (rdX arg4 harg4 x2 j)) [] (bodyRun.sl.H6_16 c arg4 harg4 x2)
    (pieces6 c arg4 harg4 x2) y (cover6 c arg4 harg4 x2 y)
  rwa [List.append_nil] at h

/-- The codes read back, as the products take them. -/
theorem r76_eq (c : Dev nD) (arg4 : Memref sig .tc .vmem S1x512x2560 .bf16) (harg4 : arg4.IsWhole) (arg8 : Memref sig .tc .vmem S1x512x2560 .fp8e4m3) (x2 : Vec F S1x512x2560 .bf16) :
    bodyRun.sl.r_76 c arg4 harg4 arg8 x2 = shapeCast S512x2560 (xqBlk arg4 harg4 x2) shapeCasts_S1x512x2560_S512x2560 := by
  have e : bodyRun.sl.v1143 c arg4 harg4 arg8 x2 = xqBlk arg4 harg4 x2 := by
    unfold bodyRun.sl.v1143
    rw [View.readCov_eq_canon_ld _ _ _ (cover6 c arg4 harg4 x2), canon6]
    funext y
    show xqBlk arg4 harg4 x2 ((Rect.unit (s := S1x512x2560) ![0, 0, 0] S1x512x2560.size inb_S1x512x2560_S1x512x2560_0_0_0).idx y) = _
    congr 1
    funext a
    match a with
    | ⟨0, _⟩ => apply Fin.ext; show 0 + 1 * (y 0).val = (y 0).val; omega
    | ⟨1, _⟩ => apply Fin.ext; show 0 + 1 * (y 1).val = (y 1).val; omega
    | ⟨2, _⟩ => apply Fin.ext; show 0 + 1 * (y 2).val = (y 2).val; omega
  show shapeCast S512x2560 (bodyRun.sl.v1143 c arg4 harg4 arg8 x2) shapeCasts_S1x512x2560_S512x2560 = _
  rw [e]

/-- Head `h`'s products, from the codes and the weights as they are read. -/
def headAcc (xq : FVec F S512x2560 .fp8e4m3) (arg5 : Memref sig .tc .vmem S20x2560x128 .fp8e4m3) (harg5 : arg5.IsWhole) (x3 : Vec F S20x2560x128 .fp8e4m3) (h : Nat) (hh : h < 20) : FVec F S512x128 .f32 :=
  half h (pairAcc xq (rdW arg5 harg5 x3 (2 * (h / 2)) (by omega)) (rdW arg5 harg5 x3 (2 * (h / 2) + 1) (by omega)))
/-- Head `h`'s keys. -/
def kRaw (xs : FVec F S512x1 .f32) (xq : FVec F S512x2560 .fp8e4m3) (arg2 : Memref sig .tc .smem S20 .f32) (harg2 : arg2.IsWhole) (x0 : Vec F S20 .f32) (arg5 : Memref sig .tc .vmem S20x2560x128 .fp8e4m3) (harg5 : arg5.IsWhole) (x3 : Vec F S20x2560x128 .fp8e4m3) (h : Nat) (hh : h < 20) : FVec F S512x128 .f32 :=
  tileK xs (headAcc xq arg5 harg5 x3 h hh) (rdS arg2 harg2 x0 h hh)
/-- Head `h`'s values. -/
def vRaw (xs : FVec F S512x1 .f32) (xq : FVec F S512x2560 .fp8e4m3) (arg3 : Memref sig .tc .smem S20 .f32) (harg3 : arg3.IsWhole) (x1 : Vec F S20 .f32) (arg6 : Memref sig .tc .vmem S20x2560x128 .fp8e4m3) (harg6 : arg6.IsWhole) (x4 : Vec F S20x2560x128 .fp8e4m3) (arg7 : Memref sig .tc .vmem S20x128 .f32) (harg7 : arg7.IsWhole) (x5 : Vec F S20x128 .f32) (h : Nat) (hh : h < 20) : FVec F S512x128 .f32 :=
  tileV xs (headAcc xq arg6 harg6 x4 h hh) (rdS arg3 harg3 x1 h hh) (rdB arg7 harg7 x5 h hh)
/-- The largest magnitudes of head `h`'s rows, zero past the last head. -/
def amaxAt (k : (h : Nat) → h < 20 → FVec F S512x128 .f32) (h : Nat) : FVec F S512x1 .f32 :=
  if hh : h < 20 then amaxOf (k h hh) else broadcast S512x1 (Scalar.ofBits .f32 0x00000000#32)

/-- `headPiece`, for a payload known to be the head's. -/
theorem headPiece' (g : Fin 20 → Vec F S1x1x512x128 .fp8e4m3) (h : Nat) (hh : h < 20)
    (inb : ∀ a, (![0, h, 0, 0] : Fin 4 → ℕ) a + S1x1x512x128.size a ≤ S1x20x512x128.size a) (w : Vec F S1x1x512x128 .fp8e4m3)
    (hw : w = g ⟨h, hh⟩) (x : S1x1x512x128.Idx) :
    w x = headsOf g ((Rect.unit (s := S1x20x512x128) ![0, h, 0, 0] S1x1x512x128.size inb).emb x) := by
  rw [hw]; exact headPiece g h hh inb x

theorem lanes_succ (am : Nat → FVec F S512x1 .f32) (n : Nat) : lanes am (n + 1)
    = select (cmpi .eq (iota .tc S512x128 32 [1] iota_S512x128_d1_w32) (broadcast S512x128 (BitVec.ofNat 32 n)))
      (broadcastTo S512x128 (shapeCast S512x1 (am n) shapeCasts_S512x1_S512x1) broadcasts_S512x1_S512x128) (lanes am n) := rfl

theorem inbH (h : Nat) (hh : h < 20) : ∀ a, (![0, h, 0, 0] : Fin 4 → ℕ) a + S1x1x512x128.size a ≤ S1x20x512x128.size a := by
  intro a; fin_cases a <;> simp [Shape.size] <;> omega
theorem lanesK_1 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_85 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 1 := by
  rw [lanes_succ]; rfl
theorem lanesV_1 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_93 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 1 := by
  rw [lanes_succ]; rfl
theorem lanesK_2 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_99 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 2 := by
  rw [lanes_succ, ← lanesK_1]; rfl
theorem lanesV_2 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_106 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 2 := by
  rw [lanes_succ, ← lanesV_1]; rfl
theorem lanesK_3 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_116 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 3 := by
  rw [lanes_succ, ← lanesK_2]; rfl
theorem lanesV_3 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_124 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 3 := by
  rw [lanes_succ, ← lanesV_2]; rfl
theorem lanesK_4 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_130 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 4 := by
  rw [lanes_succ, ← lanesK_3]; rfl
theorem lanesV_4 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_138 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 4 := by
  rw [lanes_succ, ← lanesV_3]; rfl
theorem lanesK_5 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_147 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 5 := by
  rw [lanes_succ, ← lanesK_4]; rfl
theorem lanesV_5 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_153 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 5 := by
  rw [lanes_succ, ← lanesV_4]; rfl
theorem lanesK_6 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_160 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 6 := by
  rw [lanes_succ, ← lanesK_5]; rfl
theorem lanesV_6 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_167 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 6 := by
  rw [lanes_succ, ← lanesV_5]; rfl
theorem lanesK_7 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_177 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 7 := by
  rw [lanes_succ, ← lanesK_6]; rfl
theorem lanesV_7 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_184 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 7 := by
  rw [lanes_succ, ← lanesV_6]; rfl
theorem lanesK_8 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_191 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 8 := by
  rw [lanes_succ, ← lanesK_7]; rfl
theorem lanesV_8 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_198 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 8 := by
  rw [lanes_succ, ← lanesV_7]; rfl
theorem lanesK_9 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_207 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 9 := by
  rw [lanes_succ, ← lanesK_8]; rfl
theorem lanesV_9 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_214 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 9 := by
  rw [lanes_succ, ← lanesV_8]; rfl
theorem lanesK_10 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_225 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 10 := by
  rw [lanes_succ, ← lanesK_9]; rfl
theorem lanesV_10 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_231 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 10 := by
  rw [lanes_succ, ← lanesV_9]; rfl
theorem lanesK_11 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_239 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 11 := by
  rw [lanes_succ, ← lanesK_10]; rfl
theorem lanesV_11 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_246 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 11 := by
  rw [lanes_succ, ← lanesV_10]; rfl
theorem lanesK_12 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_252 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 12 := by
  rw [lanes_succ, ← lanesK_11]; rfl
theorem lanesV_12 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_258 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 12 := by
  rw [lanes_succ, ← lanesV_11]; rfl
theorem lanesK_13 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_265 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 13 := by
  rw [lanes_succ, ← lanesK_12]; rfl
theorem lanesV_13 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_272 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 13 := by
  rw [lanes_succ, ← lanesV_12]; rfl
theorem lanesK_14 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_278 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 14 := by
  rw [lanes_succ, ← lanesK_13]; rfl
theorem lanesV_14 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_284 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 14 := by
  rw [lanes_succ, ← lanesV_13]; rfl
theorem lanesK_15 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_293 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 15 := by
  rw [lanes_succ, ← lanesK_14]; rfl
theorem lanesV_15 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_302 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 15 := by
  rw [lanes_succ, ← lanesV_14]; rfl
theorem lanesK_16 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_310 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 16 := by
  rw [lanes_succ, ← lanesK_15]; rfl
theorem lanesV_16 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_317 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 16 := by
  rw [lanes_succ, ← lanesV_15]; rfl
theorem lanesK_17 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_325 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 17 := by
  rw [lanes_succ, ← lanesK_16]; rfl
theorem lanesV_17 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_332 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 17 := by
  rw [lanes_succ, ← lanesV_16]; rfl
theorem lanesK_18 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_338 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 18 := by
  rw [lanes_succ, ← lanesK_17]; rfl
theorem lanesV_18 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_343 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 18 := by
  rw [lanes_succ, ← lanesV_17]; rfl
theorem lanesK_19 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_354 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 19 := by
  rw [lanes_succ, ← lanesK_18]; rfl
theorem lanesV_19 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_360 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 19 := by
  rw [lanes_succ, ← lanesV_18]; rfl
theorem lanesK_20 (c : Dev nD) (arg2 : Memref sig .tc .smem S20 .f32) (harg2 : arg2.IsWhole) (arg4 : Memref sig .tc .vmem S1x512x2560 .bf16) (harg4 : arg4.IsWhole) (arg5 : Memref sig .tc .vmem S20x2560x128 .fp8e4m3) (harg5 : arg5.IsWhole) (arg8 : Memref sig .tc .vmem S1x512x2560 .fp8e4m3) (x0 : Vec F S20 .f32) (x2 : Vec F S1x512x2560 .bf16) (x3 : Vec F S20x2560x128 .fp8e4m3) :
    bodyRun.sl.r_366 c arg2 harg2 arg4 harg4 arg5 harg5 arg8 x0 x2 x3 = lanes (amaxAt (fun h hh => kRaw (bodyRun.sl.r_75 c arg4 harg4 x2) (bodyRun.sl.r_76 c arg4 harg4 arg8 x2) arg2 harg2 x0 arg5 harg5 x3 h hh)) 20 := by
  rw [lanes_succ, ← lanesK_19]; rfl
theorem lanesV_20 (c : Dev nD) (arg3 : Memref sig .tc .smem S20 .f32) (harg3 : arg3.IsWhole) (arg4 : Memref sig .tc .vmem S1x512x2560 .bf16) (harg4 : arg4.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (x1 : Vec F S20 .f32) (x2 : Vec F S1x512x2560 .bf16) (x4 : Vec F S20x2560x128 .fp8e4m3) (x5 : Vec F S20x128 .f32) :
    bodyRun.sl.r_372 c arg3 harg3 arg4 harg4 arg6 harg6 arg7 harg7 arg8 x1 x2 x4 x5 = lanes (amaxAt (fun h hh => vRaw (bodyRun.sl.r_75 c arg4 harg4 x2) (bodyRun.sl.r_76 c arg4 harg4 arg8 x2) arg3 harg3 x1 arg6 harg6 x4 arg7 harg7 x5 h hh)) 20 := by
  rw [lanes_succ, ← lanesV_19]; rfl

/-! ## What the body's stores leave in each output -/

section Run

variable (c : Dev nD) (i : grid0.Coords) (arg2 : Memref sig .tc .smem S20 .f32) (harg2 : arg2.IsWhole) (arg3 : Memref sig .tc .smem S20 .f32) (harg3 : arg3.IsWhole) (arg4 : Memref sig .tc .vmem S1x512x2560 .bf16) (harg4 : arg4.IsWhole) (arg5 : Memref sig .tc .vmem S20x2560x128 .fp8e4m3) (harg5 : arg5.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (harg8 : arg8.IsWhole) (arg9 : Memref sig .tc .vmem S12x8192 .f32) (harg9 : arg9.IsWhole) (arg10 : Memref sig .tc .vmem S1x20x512x128 .fp8e4m3) (harg10 : arg10.IsWhole) (arg11 : Memref sig .tc .vmem S1x20x512 .f32) (harg11 : arg11.IsWhole) (arg12 : Memref sig .tc .vmem S1x20x512x128 .fp8e4m3) (harg12 : arg12.IsWhole) (arg13 : Memref sig .tc .vmem S1x20x512 .f32) (harg13 : arg13.IsWhole) (x0 : Vec F S20 .f32) (x1 : Vec F S20 .f32) (x2 : Vec F S1x512x2560 .bf16) (x3 : Vec F S20x2560x128 .fp8e4m3) (x4 : Vec F S20x2560x128 .fp8e4m3) (x5 : Vec F S20x128 .f32) (x7 : Vec F S12x8192 .f32)

theorem out6_pieces : (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).1 = bodyRun.sl.H6_16 c arg4 harg4 x2 := by
  unfold bodyRun; dsimp only

theorem out7_pieces : (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.1 = [⟨Rect.unit (s := S12x8192) (k0_off1 i) ![1, 512] (k0_off1_inb i), shapeCast S1x512 (xsCol (rdX arg4 harg4 x2)) shapeCasts_S512x1_S1x512⟩] := by
  rw [← r75_eq c]; unfold bodyRun; dsimp only; rfl

set_option maxHeartbeats 4000000 in
theorem out8_pieces : View.PiecesOf (headsOf (fun h : Fin 20 => codesOf (kRaw (xsCol (rdX arg4 harg4 x2)) (shapeCast S512x2560 (xqBlk arg4 harg4 x2) shapeCasts_S1x512x2560_S512x2560) arg2 harg2 x0 arg5 harg5 x3 h.val h.isLt))) (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.1 := by
  rw [← r75_eq c, ← r76_eq c arg4 harg4 arg8]; unfold bodyRun; dsimp only
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact headPiece' (fun h : Fin 20 => codesOf (kRaw (bodyRun.sl.r_75 c arg4 harg4 x2) (bodyRun.sl.r_76 c arg4 harg4 arg8 x2) arg2 harg2 x0 arg5 harg5 x3 h.val h.isLt)) 19 (by decide) (inbH 19 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 18 (by decide) (inbH 18 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 17 (by decide) (inbH 17 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 16 (by decide) (inbH 16 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 15 (by decide) (inbH 15 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 14 (by decide) (inbH 14 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 13 (by decide) (inbH 13 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 12 (by decide) (inbH 12 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 11 (by decide) (inbH 11 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 10 (by decide) (inbH 10 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 9 (by decide) (inbH 9 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 8 (by decide) (inbH 8 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 7 (by decide) (inbH 7 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 6 (by decide) (inbH 6 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 5 (by decide) (inbH 5 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 4 (by decide) (inbH 4 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 3 (by decide) (inbH 3 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 2 (by decide) (inbH 2 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 1 (by decide) (inbH 1 (by decide)) _ (by rfl) x
  · exact headPiece' (fun h : Fin 20 => codesOf (kRaw (bodyRun.sl.r_75 c arg4 harg4 x2) (bodyRun.sl.r_76 c arg4 harg4 arg8 x2) arg2 harg2 x0 arg5 harg5 x3 h.val h.isLt)) 0 (by decide) (inbH 0 (by decide)) _ (by rfl) x

set_option maxHeartbeats 4000000 in
theorem out10_pieces : View.PiecesOf (headsOf (fun h : Fin 20 => codesOf (vRaw (xsCol (rdX arg4 harg4 x2)) (shapeCast S512x2560 (xqBlk arg4 harg4 x2) shapeCasts_S1x512x2560_S512x2560) arg3 harg3 x1 arg6 harg6 x4 arg7 harg7 x5 h.val h.isLt))) (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.2.1 := by
  rw [← r75_eq c, ← r76_eq c arg4 harg4 arg8]; unfold bodyRun; dsimp only
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 19 (by decide) (inbH 19 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 18 (by decide) (inbH 18 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 17 (by decide) (inbH 17 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 16 (by decide) (inbH 16 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 15 (by decide) (inbH 15 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 14 (by decide) (inbH 14 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 13 (by decide) (inbH 13 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 12 (by decide) (inbH 12 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 11 (by decide) (inbH 11 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 10 (by decide) (inbH 10 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 9 (by decide) (inbH 9 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 8 (by decide) (inbH 8 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 7 (by decide) (inbH 7 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 6 (by decide) (inbH 6 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 5 (by decide) (inbH 5 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 4 (by decide) (inbH 4 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 3 (by decide) (inbH 3 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 2 (by decide) (inbH 2 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 1 (by decide) (inbH 1 (by decide)) _ (by rfl) x
  · exact headPiece' (fun h : Fin 20 => codesOf (vRaw (bodyRun.sl.r_75 c arg4 harg4 x2) (bodyRun.sl.r_76 c arg4 harg4 arg8 x2) arg3 harg3 x1 arg6 harg6 x4 arg7 harg7 x5 h.val h.isLt)) 0 (by decide) (inbH 0 (by decide)) _ (by rfl) x

set_option maxHeartbeats 4000000 in
theorem out9_pieces : (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.1 = [⟨Rect.unit (s := S1x20x512) ![0, 0, 0] ![1, 20, 512] inb_S1x20x512_S1x20x512_0_0_0, headScales (lanes (amaxAt (fun h hh => kRaw (xsCol (rdX arg4 harg4 x2)) (shapeCast S512x2560 (xqBlk arg4 harg4 x2) shapeCasts_S1x512x2560_S512x2560) arg2 harg2 x0 arg5 harg5 x3 h hh)) 20)⟩] := by
  rw [← r75_eq c, ← r76_eq c arg4 harg4 arg8, ← lanesK_20]; unfold bodyRun; dsimp only; rfl

set_option maxHeartbeats 4000000 in
theorem out11_pieces : (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.2.2.1 = [⟨Rect.unit (s := S1x20x512) ![0, 0, 0] ![1, 20, 512] inb_S1x20x512_S1x20x512_0_0_0, headScales (lanes (amaxAt (fun h hh => vRaw (xsCol (rdX arg4 harg4 x2)) (shapeCast S512x2560 (xqBlk arg4 harg4 x2) shapeCasts_S1x512x2560_S512x2560) arg3 harg3 x1 arg6 harg6 x4 arg7 harg7 x5 h hh)) 20)⟩] := by
  rw [← r75_eq c, ← r76_eq c arg4 harg4 arg8, ← lanesV_20]; unfold bodyRun; dsimp only; rfl

end Run

end Cert.Kernel.Hand

end
-- ==== Proof.PrintedReads.lean ====
module

public import proofs.«01_k».proof.Proof.PrintedClosed
public import Idealize.ShloMosaic.Lib.Pipeline.DatRel
public import Idealize.ShloMosaic.Lib.Pipeline.ArrRel
public import Idealize.ShloMosaic.Lib.VecWindow
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-! ## What a point leaves in the outputs, read off the run's pieces -/

section Run

variable (c : Dev nD) (i : grid0.Coords) (arg2 : Memref sig .tc .smem S20 .f32) (harg2 : arg2.IsWhole) (arg3 : Memref sig .tc .smem S20 .f32) (harg3 : arg3.IsWhole) (arg4 : Memref sig .tc .vmem S1x512x2560 .bf16) (harg4 : arg4.IsWhole) (arg5 : Memref sig .tc .vmem S20x2560x128 .fp8e4m3) (harg5 : arg5.IsWhole) (arg6 : Memref sig .tc .vmem S20x2560x128 .fp8e4m3) (harg6 : arg6.IsWhole) (arg7 : Memref sig .tc .vmem S20x128 .f32) (harg7 : arg7.IsWhole) (arg8 : Memref sig .tc .vmem S1x512x2560 .fp8e4m3) (harg8 : arg8.IsWhole) (arg9 : Memref sig .tc .vmem S12x8192 .f32) (harg9 : arg9.IsWhole) (arg10 : Memref sig .tc .vmem S1x20x512x128 .fp8e4m3) (harg10 : arg10.IsWhole) (arg11 : Memref sig .tc .vmem S1x20x512 .f32) (harg11 : arg11.IsWhole) (arg12 : Memref sig .tc .vmem S1x20x512x128 .fp8e4m3) (harg12 : arg12.IsWhole) (arg13 : Memref sig .tc .vmem S1x20x512 .f32) (harg13 : arg13.IsWhole)
variable (x0 : Vec F S20 .f32) (x1 : Vec F S20 .f32) (x2 : Vec F S1x512x2560 .bf16) (x3 : Vec F S20x2560x128 .fp8e4m3) (x4 : Vec F S20x2560x128 .fp8e4m3) (x5 : Vec F S20x128 .f32) (x7 : Vec F S12x8192 .f32)

/-- The codes of the rows, whatever the buffer held. -/
theorem read6 (f : arg8.view.ty.Contents (Elt F)) :
    arg8.view.read (Elt F) (arg8.view.writes (Elt F) f (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).1) = xqBlk arg4 harg4 x2 := by
  rw [out6_pieces c i arg2 harg2 arg3 harg3 arg4 harg4 arg5 harg5 arg6 harg6 arg7 harg7 arg8 harg8 arg9 harg9 arg10 harg10 arg11 harg11 arg12 harg12 arg13 harg13 x0 x1 x2 x3 x4 x5 x7, View.read_writes_eq_canon _ _ _ (cover6 c arg4 harg4 x2)]
  exact canon6 c arg4 harg4 x2

set_option maxHeartbeats 2000000 in
/-- The codes of the heads, whatever the buffer held. -/
theorem read8 (f : arg10.view.ty.Contents (Elt F)) :
    arg10.view.read (Elt F) (arg10.view.writes (Elt F) f (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.1)
      = headsOf (fun h : Fin 20 => codesOf (kRaw (xsCol (rdX arg4 harg4 x2)) (shapeCast S512x2560 (xqBlk arg4 harg4 x2) shapeCasts_S1x512x2560_S512x2560) arg2 harg2 x0 arg5 harg5 x3 h.val h.isLt)) := by
  have hc : ∀ y : S1x20x512x128.Idx, ∃ pc ∈ (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.1, y ∈ pc.1.set := fun y =>
    View.cover_of_tiledL (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.1 S1x1x512x128.size (by sl_kernel_rfl) y
  have hp := out8_pieces c i arg2 harg2 arg3 harg3 arg4 harg4 arg5 harg5 arg6 harg6 arg7 harg7 arg8 harg8 arg9 harg9 arg10 harg10 arg11 harg11 arg12 harg12 arg13 harg13 x0 x1 x2 x3 x4 x5 x7
  generalize (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.1 = L at hp hc ⊢
  rw [View.read_writes_eq_canon _ _ _ hc]
  funext y
  have := View.canon_append_of_piecesOf _ [] L hp y (hc y)
  rwa [List.append_nil] at this

set_option maxHeartbeats 2000000 in
/-- The codes of the heads, whatever the buffer held. -/
theorem read10 (f : arg12.view.ty.Contents (Elt F)) :
    arg12.view.read (Elt F) (arg12.view.writes (Elt F) f (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.2.1)
      = headsOf (fun h : Fin 20 => codesOf (vRaw (xsCol (rdX arg4 harg4 x2)) (shapeCast S512x2560 (xqBlk arg4 harg4 x2) shapeCasts_S1x512x2560_S512x2560) arg3 harg3 x1 arg6 harg6 x4 arg7 harg7 x5 h.val h.isLt)) := by
  have hc : ∀ y : S1x20x512x128.Idx, ∃ pc ∈ (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.2.1, y ∈ pc.1.set := fun y =>
    View.cover_of_tiledL (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.2.1 S1x1x512x128.size (by sl_kernel_rfl) y
  have hp := out10_pieces c i arg2 harg2 arg3 harg3 arg4 harg4 arg5 harg5 arg6 harg6 arg7 harg7 arg8 harg8 arg9 harg9 arg10 harg10 arg11 harg11 arg12 harg12 arg13 harg13 x0 x1 x2 x3 x4 x5 x7
  generalize (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.2.1 = L at hp hc ⊢
  rw [View.read_writes_eq_canon _ _ _ hc]
  funext y
  have := View.canon_append_of_piecesOf _ [] L hp y (hc y)
  rwa [List.append_nil] at this

set_option maxHeartbeats 2000000 in
/-- The scales of the heads, whatever the buffer held. -/
theorem read9 (f : arg11.view.ty.Contents (Elt F)) :
    arg11.view.read (Elt F) (arg11.view.writes (Elt F) f (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.1)
      = headScales (lanes (amaxAt (fun h hh => kRaw (xsCol (rdX arg4 harg4 x2)) (shapeCast S512x2560 (xqBlk arg4 harg4 x2) shapeCasts_S1x512x2560_S512x2560) arg2 harg2 x0 arg5 harg5 x3 h hh)) 20) := by
  rw [out9_pieces c i arg2 harg2 arg3 harg3 arg4 harg4 arg5 harg5 arg6 harg6 arg7 harg7 arg8 harg8 arg9 harg9 arg10 harg10 arg11 harg11 arg12 harg12 arg13 harg13 x0 x1 x2 x3 x4 x5 x7]
  funext y
  have h := View.read_writes_cons_emb (Val := Elt F) arg11.view f (Rect.unit (s := S1x20x512) ![0, 0, 0] ![1, 20, 512] inb_S1x20x512_S1x20x512_0_0_0)
    (headScales (lanes (amaxAt (fun h hh => kRaw (xsCol (rdX arg4 harg4 x2)) (shapeCast S512x2560 (xqBlk arg4 harg4 x2) shapeCasts_S1x512x2560_S512x2560) arg2 harg2 x0 arg5 harg5 x3 h hh)) 20)) [] y
  have e : (Rect.unit (s := S1x20x512) ![0, 0, 0] ![1, 20, 512] inb_S1x20x512_S1x20x512_0_0_0).emb y = y :=
    funext fun a => Fin.ext (by
      match a with
      | ⟨0, _⟩ => exact (ValueKit.rect_emb_unit_val (s := S1x20x512) ![0, 0, 0] ![1, 20, 512] inb_S1x20x512_S1x20x512_0_0_0 y 0).trans (Nat.zero_add (y 0).val)
      | ⟨1, _⟩ => exact (ValueKit.rect_emb_unit_val (s := S1x20x512) ![0, 0, 0] ![1, 20, 512] inb_S1x20x512_S1x20x512_0_0_0 y 1).trans (Nat.zero_add (y 1).val)
      | ⟨2, _⟩ => exact (ValueKit.rect_emb_unit_val (s := S1x20x512) ![0, 0, 0] ![1, 20, 512] inb_S1x20x512_S1x20x512_0_0_0 y 2).trans (Nat.zero_add (y 2).val))
  rw [e] at h
  exact h

set_option maxHeartbeats 2000000 in
/-- The scales of the heads, whatever the buffer held. -/
theorem read11 (f : arg13.view.ty.Contents (Elt F)) :
    arg13.view.read (Elt F) (arg13.view.writes (Elt F) f (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.2.2.2.2.1)
      = headScales (lanes (amaxAt (fun h hh => vRaw (xsCol (rdX arg4 harg4 x2)) (shapeCast S512x2560 (xqBlk arg4 harg4 x2) shapeCasts_S1x512x2560_S512x2560) arg3 harg3 x1 arg6 harg6 x4 arg7 harg7 x5 h hh)) 20) := by
  rw [out11_pieces c i arg2 harg2 arg3 harg3 arg4 harg4 arg5 harg5 arg6 harg6 arg7 harg7 arg8 harg8 arg9 harg9 arg10 harg10 arg11 harg11 arg12 harg12 arg13 harg13 x0 x1 x2 x3 x4 x5 x7]
  funext y
  have h := View.read_writes_cons_emb (Val := Elt F) arg13.view f (Rect.unit (s := S1x20x512) ![0, 0, 0] ![1, 20, 512] inb_S1x20x512_S1x20x512_0_0_0)
    (headScales (lanes (amaxAt (fun h hh => vRaw (xsCol (rdX arg4 harg4 x2)) (shapeCast S512x2560 (xqBlk arg4 harg4 x2) shapeCasts_S1x512x2560_S512x2560) arg3 harg3 x1 arg6 harg6 x4 arg7 harg7 x5 h hh)) 20)) [] y
  have e : (Rect.unit (s := S1x20x512) ![0, 0, 0] ![1, 20, 512] inb_S1x20x512_S1x20x512_0_0_0).emb y = y :=
    funext fun a => Fin.ext (by
      match a with
      | ⟨0, _⟩ => exact (ValueKit.rect_emb_unit_val (s := S1x20x512) ![0, 0, 0] ![1, 20, 512] inb_S1x20x512_S1x20x512_0_0_0 y 0).trans (Nat.zero_add (y 0).val)
      | ⟨1, _⟩ => exact (ValueKit.rect_emb_unit_val (s := S1x20x512) ![0, 0, 0] ![1, 20, 512] inb_S1x20x512_S1x20x512_0_0_0 y 1).trans (Nat.zero_add (y 1).val)
      | ⟨2, _⟩ => exact (ValueKit.rect_emb_unit_val (s := S1x20x512) ![0, 0, 0] ![1, 20, 512] inb_S1x20x512_S1x20x512_0_0_0 y 2).trans (Nat.zero_add (y 2).val))
  rw [e] at h
  exact h

/-- The row scales of the point, at the place of the point: what is read there afterwards. -/
theorem read7_at (y : S1x512.Idx) :
    arg9.view.read (Elt F) (arg9.view.writes (Elt F) (harg9.unread x7) (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.1) ((Rect.unit (s := S12x8192) (k0_off1 i) ![1, 512] (k0_off1_inb i)).emb y)
      = shapeCast S1x512 (xsCol (rdX arg4 harg4 x2)) shapeCasts_S512x1_S1x512 y := by
  rw [out7_pieces c i arg2 harg2 arg3 harg3 arg4 harg4 arg5 harg5 arg6 harg6 arg7 harg7 arg8 harg8 arg9 harg9 arg10 harg10 arg11 harg11 arg12 harg12 arg13 harg13 x0 x1 x2 x3 x4 x5 x7]
  exact View.read_writes_cons_emb (Val := Elt F) arg9.view _ (Rect.unit (s := S12x8192) (k0_off1 i) ![1, 512] (k0_off1_inb i)) _ [] y

/-- Elsewhere the row scales are what they were. -/
theorem read7_off (z : S12x8192.Idx) (hz : ∀ x, (Rect.unit (s := S12x8192) (k0_off1 i) ![1, 512] (k0_off1_inb i)).emb x ≠ z) :
    arg9.view.read (Elt F) (arg9.view.writes (Elt F) (harg9.unread x7) (bodyRun c i arg2 harg2 arg3 harg3 arg4 harg4 arg5 harg5 arg6 harg6 arg7 harg7 arg8 harg8 arg9 harg9 arg10 harg10 arg11 harg11 arg12 harg12 arg13 harg13 x0 x1 x2 x3 x4 x5 x7).2.1) z = x7 z := by
  rw [out7_pieces c i arg2 harg2 arg3 harg3 arg4 harg4 arg5 harg5 arg6 harg6 arg7 harg7 arg8 harg8 arg9 harg9 arg10 harg10 arg11 harg11 arg12 harg12 arg13 harg13 x0 x1 x2 x3 x4 x5 x7, View.writes_cons, View.writes_nil]
  rw [View.read_slice_write_of_not_mem _ _ _ _ fun hm => by
      obtain ⟨x, -, hx⟩ := Finset.mem_map.mp hm
      exact hz x hx, harg9.read_unread]

end Run

end Cert.Kernel.Hand

end
-- ==== Proof.PrintedPoints.lean ====
module

public import proofs.«01_k».proof.Proof.PrintedReads
public import Idealize.ShloMosaic.Lib.Pipeline.DatRel
public import Idealize.ShloMosaic.Lib.Pipeline.ArrRel
public import Idealize.ShloMosaic.Lib.VecWindow
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-! ## The proof data -/

abbrev ms0_0 (t : Fin cfg0.N) : Memref sig .tc .smem S20 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S20 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x2560 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S20x2560x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S20x2560x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S20x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x2560 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x8192 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x20x512x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x20x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x20x512x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x20x512 .f32 := win0_11.stage (cfg0.slots t 11)
abbrev hs0_11 (t : Fin cfg0.N) : (ms0_11 t).IsWhole := hstage0_11 ((cfg0.slots t 11).cast nbuf0_11)

variable (m : (ℓ : Loc nD τ sig) → Buf (Elt F) ℓ) (ρ : Dev nD → PrngReg)

/-- The scales of the 512 rows of point `t`. -/
def colAt (c : Dev nD) (t : Fin cfg0.N) : FVec F S512x1 .f32 := xsCol (rdX (ms0_2 t) (hs0_2 t) (iblk m c 2 t))

/-- The codes of the rows of point `t`. -/
def codeRows (c : Dev nD) (t : Fin cfg0.N) : Vec F S1x512x2560 .fp8e4m3 := xqBlk (ms0_2 t) (hs0_2 t) (iblk m c 2 t)

/-- The keys of head `h` at point `t`, before they are quantised. -/
def kAt (c : Dev nD) (t : Fin cfg0.N) (h : Nat) (hh : h < 20) : FVec F S512x128 .f32 :=
  kRaw (colAt m c t) (shapeCast S512x2560 (codeRows m c t) shapeCasts_S1x512x2560_S512x2560) (ms0_0 t) (hs0_0 t) (iblk m c 0 t) (ms0_3 t) (hs0_3 t) (iblk m c 3 t) h hh

/-- The values of head `h` at point `t`, before they are quantised. -/
def vAt (c : Dev nD) (t : Fin cfg0.N) (h : Nat) (hh : h < 20) : FVec F S512x128 .f32 :=
  vRaw (colAt m c t) (shapeCast S512x2560 (codeRows m c t) shapeCasts_S1x512x2560_S512x2560) (ms0_1 t) (hs0_1 t) (iblk m c 1 t) (ms0_4 t) (hs0_4 t) (iblk m c 4 t) (ms0_5 t) (hs0_5 t) (iblk m c 5 t) h hh

/-- The row scales of point `t`, laid out as they are stored. -/
def scaleRow (c : Dev nD) (t : Fin cfg0.N) : Vec F S1x512 .f32 := shapeCast S1x512 (colAt m c t) shapeCasts_S512x1_S1x512

/-- Where point `t` stores its row scales. -/
abbrev rowRect (t : Fin cfg0.N) : Rect S12x8192 := Rect.unit (s := S12x8192) (k0_off1 (grid0.coords t)) ![1, 512] (k0_off1_inb (grid0.coords t))

def kCodes (c : Dev nD) (t : Fin cfg0.N) : Vec F S1x20x512x128 .fp8e4m3 := headsOf (fun h : Fin 20 => codesOf (kAt m c t h.val h.isLt))
def vCodes (c : Dev nD) (t : Fin cfg0.N) : Vec F S1x20x512x128 .fp8e4m3 := headsOf (fun h : Fin 20 => codesOf (vAt m c t h.val h.isLt))
def kScales (c : Dev nD) (t : Fin cfg0.N) : Vec F S1x20x512 .f32 := headScales (lanes (amaxAt (fun h hh => kAt m c t h hh)) 20)
def vScales (c : Dev nD) (t : Fin cfg0.N) : Vec F S1x20x512 .f32 := headScales (lanes (amaxAt (fun h hh => vAt m c t h hh)) 20)

/-- The row scales hold the rows of every point so far. -/
def rowsDone (c : Dev nD) (t : Fin cfg0.N) (X : Vec F S12x8192 .f32) : Prop :=
  ∀ u : Fin cfg0.N, u.val ≤ t.val → ∀ y : S1x512.Idx, X ((rowRect u).emb y) = scaleRow m c u y

/-- Only the row scales are held from one point to the next, so only they are stated by a relation. -/
def marked : Fin cfg0.W → Bool := fun w => decide (w = 7)

def rel (c : Dev nD) : (w : Fin cfg0.W) → Fin cfg0.N → ((cfg0.win w).block.Idx → Elt F (cfg0.win w).elt) → Prop :=
  fun w t => match w with
    | ⟨7, _⟩ => fun X => rowsDone m c t X
    | _ => fun _ => True

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codeRows m c t
    | ⟨7, _⟩ => fun _ => Classical.arbitrary _
    | ⟨8, _⟩ => kCodes m c t
    | ⟨9, _⟩ => kScales m c t
    | ⟨10, _⟩ => vCodes m c t
    | ⟨11, _⟩ => vScales m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codeRows m c t := by dsimp only [dats]
theorem after0_8 (c : Dev nD) (t : Fin cfg0.N) : (dats m 0 c).after 8 t = kCodes m c t := by dsimp only [dats]
theorem after0_9 (c : Dev nD) (t : Fin cfg0.N) : (dats m 0 c).after 9 t = kScales m c t := by dsimp only [dats]
theorem after0_10 (c : Dev nD) (t : Fin cfg0.N) : (dats m 0 c).after 10 t = vCodes m c t := by dsimp only [dats]
theorem after0_11 (c : Dev nD) (t : Fin cfg0.N) : (dats m 0 c).after 11 t = vScales m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The rows of distinct points are disjoint -/

/-- The offset of point `t` along the rows of the array. -/
theorem off_val : ∀ t : Fin cfg0.N, k0_off1 (grid0.coords t) = ![t.val / 16, 512 * (t.val % 16)] :=
  (by decide +kernel : ∀ t : Fin grid0.N, k0_off1 (grid0.coords t) = ![t.val / 16, 512 * (t.val % 16)])

/-- The row that point `t` stores its row scales in. -/
theorem rowRect_emb0 (t : Fin cfg0.N) (y : S1x512.Idx) : ((rowRect t).emb y 0).val = t.val / 16 := by
  have h : ((rowRect t).emb y 0).val = k0_off1 (grid0.coords t) 0 + (y 0).val := ValueKit.rect_emb_unit_val (s := S12x8192) (k0_off1 (grid0.coords t)) ![1, 512] (k0_off1_inb (grid0.coords t)) y 0
  have h0 : (y 0).val < 1 := (y 0).isLt
  rw [h, off_val]
  show t.val / 16 + (y 0).val = _
  omega

/-- The columns that point `t` stores its row scales in. -/
theorem rowRect_emb1 (t : Fin cfg0.N) (y : S1x512.Idx) : ((rowRect t).emb y 1).val = 512 * (t.val % 16) + (y 1).val := by
  have h : ((rowRect t).emb y 1).val = k0_off1 (grid0.coords t) 1 + (y 1).val := ValueKit.rect_emb_unit_val (s := S12x8192) (k0_off1 (grid0.coords t)) ![1, 512] (k0_off1_inb (grid0.coords t)) y 1
  rw [h, off_val]
  rfl

theorem rowRect_disj (u t : Fin cfg0.N) (h : u.val ≠ t.val) (y : S1x512.Idx) (z : S1x512.Idx) :
    (rowRect t).emb z ≠ (rowRect u).emb y := by
  intro hz
  have e0 := congrArg (fun f => (f 0).val) hz
  have e1 := congrArg (fun f => (f 1).val) hz
  simp only [rowRect_emb0, rowRect_emb1] at e0 e1
  have hy : (y 1).val < 512 := (y 1).isLt
  have hz' : (z 1).val < 512 := (z 1).isLt
  omega

/-- What the row scales may hold when point `t` starts: the rows of the points before. -/
theorem finds7 (c : Dev nD) (t : Fin cfg0.N) (Y : Vec F S12x8192 .f32)
    (h : ((dats m 0 c).toRRel marked (rel m c)).Finds 7 t Y) (u : Fin cfg0.N) (hu : u.val < t.val) (y : S1x512.Idx) :
    Y ((rowRect u).emb y) = scaleRow m c u y := by
  have hf : (cfg0.win 7).fetch t = false := rfl
  have h' := (((dats m 0 c).toRRel marked (rel m c)).finds_of_pos hf (by omega) Y).mp h
  have hN : t.val < 192 := t.isLt
  rcases h' with h' | h'
  · have := (flush0_7 _).mp h'
    simp only at this
    omega
  · have hr : rowsDone m c ⟨t.val - 1, Nat.lt_of_le_of_lt (Nat.sub_le _ _) t.isLt⟩ Y := (dats m 0 c).toRRel_leaves (w := 7) rfl h'
    exact hr u (by show u.val ≤ t.val - 1; omega) y

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜((dats m 0 c).toRRel marked (rel m c)).Finds 7 t Y⌝ ∗ owns (c : Thread nD τ) (ms0_7 t) fullShare Y)
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜rowsDone m c t X⌝ ∗ owns (c : Thread nD τ) (ms0_7 t) fullShare X)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%Y, %hY, H7⟩, ⟨%d8, H8⟩, ⟨%d9, H9⟩, ⟨%d10, H10⟩, ⟨%d11, H11⟩⟩
  iapply ((bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) Y).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, ⟨%e6, H6⟩, H7, ⟨%e8, H8⟩, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact read6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) Y e6
  isplitl [H7]
  · iexists ((ms0_7 t).view.read (Elt F) ((ms0_7 t).view.writes (Elt F) ((hs0_7 t).unread Y) (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) Y).2.1))
    isplitr
    · ipureintro
      intro u hu y
      by_cases h : u.val = t.val
      · obtain rfl : u = t := Fin.ext h
        exact read7_at c (grid0.coords u) (ms0_0 u) (hs0_0 u) (ms0_1 u) (hs0_1 u) (ms0_2 u) (hs0_2 u) (ms0_3 u) (hs0_3 u) (ms0_4 u) (hs0_4 u) (ms0_5 u) (hs0_5 u) (ms0_6 u) (hs0_6 u) (ms0_7 u) (hs0_7 u) (ms0_8 u) (hs0_8 u) (ms0_9 u) (hs0_9 u) (ms0_10 u) (hs0_10 u) (ms0_11 u) (hs0_11 u) (iblk m c 0 u) (iblk m c 1 u) (iblk m c 2 u) (iblk m c 3 u) (iblk m c 4 u) (iblk m c 5 u) Y y
      · exact (read7_off c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) Y _ (rowRect_disj u t h y)).trans (finds7 m c t Y hY u (by omega) y)
    · unfold owns; iexists _; isplitr
      swap; · iexact H7
      ipureintro; rfl
  isplitl [H8]
  · unfold owns; iexists _; isplitr
    swap; · iexact H8
    ipureintro; exact read8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) Y e8
  isplitl [H9]
  · unfold owns; iexists _; isplitr
    swap; · iexact H9
    ipureintro; exact read9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) Y e9
  isplitl [H10]
  · unfold owns; iexists _; isplitr
    swap; · iexact H10
    ipureintro; exact read10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) Y e10
  unfold owns; iexists _; isplitr
  swap; · iexact H11
  ipureintro; exact read11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) Y e11

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ marked (rel m c) := fun t => by
  rw [bigSep_W0, bigSep_W0, defs₀_row]
  exact triple_restated (sound_body m c t) rfl .rfl fun _ => .rfl

/-- The proof data of the one pipeline. -/
abbrev rdats (c : Dev nD) : RDat τ (Elt F) Unit ℕ (UR sig nD τ) ℕ cfg0 c := (dats m 0 c).toRRel marked (rel m c)

-- the theorem's implicit arguments are found by unifying its conclusion with this one, which takes unfolding plain
-- definitions in a metavariable's type
set_option backward.isDefEq.respectTransparency.types false in
theorem run_main_quiescent : θ_run defs (onTc (τ := τ) (main (F := F))) (s₀ m ρ)
    (fun r => RDat.FramePost cfg0 (rdats m) (V m) r ∧ r.2.sem = fun _ => 0) :=
  RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl) (hQ' := fun _ h => h)

/-- The arguments after a run are what they were. -/
theorem args_of (r : PUnit × MemSt nD τ sig (Elt F)) (h : RDat.FramePost cfg0 (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 2 rfl).trans ((A_eq m c 2).trans (V_main_arg0 m c)),
      ((h c).2 main_arg1 (Pipeline.mem_restRefs_of main_arg1 (by decide) (by decide))).trans (V_main_arg1 m c),
      (RDat.FramePost.arr_in h c 0 rfl).trans ((A_eq m c 0).trans (V_main_arg2 m c)),
      ((h c).2 main_arg3 (Pipeline.mem_restRefs_of main_arg3 (by decide) (by decide))).trans (V_main_arg3 m c),
      (RDat.FramePost.arr_in h c 1 rfl).trans ((A_eq m c 1).trans (V_main_arg4 m c)),
      (RDat.FramePost.arr_in h c 5 rfl).trans ((A_eq m c 5).trans (V_main_arg5 m c))⟩

/-- Every run ends with the arguments unchanged and no transfer outstanding. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_of m r h.1 c, h.2⟩) (run_main_quiescent m ρ)

end Cert.Kernel.Hand

end
-- ==== Proof.Scales.lean ====
module

public import Idealize.ShloMosaic.PureOps.Ideal.Laws

@[expose] public section

/-!
The quantiser's scale in exact arithmetic: the bisection over the exponent field and the formula with a logarithm's
floor give the same scale and the same inverse for every extended real.
-/

noncomputable section

namespace Cert.Quant

open Idealize.ShloMosaic

/-- The exponent fields below 256 with the bits under `k` cleared. -/
def top (k E : ℕ) : ℕ := E / 2 ^ k * 2 ^ k

/-- The word whose exponent field is `n`, the rest zero. -/
def word (n : ℕ) : BitVec 32 := BitVec.ofNat 32 (n * 8388608)

/-- One step of the bisection. -/
def step (t : EReal) (bit e : BitVec 32) : BitVec 32 :=
  if t < Ideal.ofBits .f32 (e ||| bit) then e else e ||| bit

/-- `E` is the exponent field of `t`: the words up to it read at most `t`, those above it more. -/
def Field (t : EReal) (E : ℕ) : Prop := ∀ n, 1 ≤ n → n < 256 → (t < Ideal.ofBits .f32 (word n) ↔ E < n)

theorem step_word (t : EReal) (k : ℕ) (hk : k < 8) (E : ℕ) (hE : E < 256) (h : Field t E) :
    step t (word (2 ^ k)) (word (top (k + 1) E)) = word (top k E) := by
  have key : ∀ k : Fin 8, ∀ E : Fin 256, word (top (k.val + 1) E.val) ||| word (2 ^ k.val) = word (top (k.val + 1) E.val + 2 ^ k.val)
      ∧ 1 ≤ top (k.val + 1) E.val + 2 ^ k.val ∧ top (k.val + 1) E.val + 2 ^ k.val < 256
      ∧ (if E.val < top (k.val + 1) E.val + 2 ^ k.val then top (k.val + 1) E.val else top (k.val + 1) E.val + 2 ^ k.val) = top k.val E.val := by
    decide +kernel
  obtain ⟨h1, h2, h3, h4⟩ := key ⟨k, hk⟩ ⟨E, hE⟩
  simp only at h1 h2 h3 h4
  unfold step
  rw [h1]
  simp only [h _ h2 h3]
  rw [← h4]
  split <;> rfl

/-- The field found bit by bit from the highest. -/
def field (t : EReal) : BitVec 32 :=
  step t 8388608#32 (step t 16777216#32 (step t 33554432#32 (step t 67108864#32
    (step t 134217728#32 (step t 268435456#32 (step t 536870912#32 (step t 1073741824#32 0#32)))))))

theorem field_eq (t : EReal) (E : ℕ) (hE : E < 256) (h : Field t E) : field t = word E := by
  have h8 : (0#32 : BitVec 32) = word (top 8 E) := by
    have : top 8 E = 0 := by unfold top; omega
    rw [this]; rfl
  have e0 : top 0 E = E := by simp [top]
  unfold field
  rw [h8, show (1073741824#32 : BitVec 32) = word (2 ^ 7) from rfl, step_word t 7 (by omega) E hE h,
    show (536870912#32 : BitVec 32) = word (2 ^ 6) from rfl, step_word t 6 (by omega) E hE h,
    show (268435456#32 : BitVec 32) = word (2 ^ 5) from rfl, step_word t 5 (by omega) E hE h,
    show (134217728#32 : BitVec 32) = word (2 ^ 4) from rfl, step_word t 4 (by omega) E hE h,
    show (67108864#32 : BitVec 32) = word (2 ^ 3) from rfl, step_word t 3 (by omega) E hE h,
    show (33554432#32 : BitVec 32) = word (2 ^ 2) from rfl, step_word t 2 (by omega) E hE h,
    show (16777216#32 : BitVec 32) = word (2 ^ 1) from rfl, step_word t 1 (by omega) E hE h,
    show (8388608#32 : BitVec 32) = word (2 ^ 0) from rfl, step_word t 0 (by omega) E hE h, e0]

/-- A word of a normal number reads as a power of two. -/
theorem ofBits_word (n : ℕ) (h1 : 1 ≤ n) (h2 : n < 255) : Ideal.ofBits .f32 (word n) = (((2 : ℝ) ^ ((n : ℤ) - 127) : ℝ) : EReal) := by
  have key : ∀ n : Fin 256, ((word n.val).extractLsb' 31 1 == 1#1) = false ∧ ((word n.val).extractLsb' 23 8).toNat = n.val
      ∧ ((word n.val).extractLsb' 0 23).toNat = 0 := by decide +kernel
  obtain ⟨a, b, c⟩ := key ⟨n, by omega⟩
  simp only at a b c
  show Ideal.ieee 8 23 (word n) = _
  unfold Ideal.ieee
  simp only [a, b, c]
  rw [if_neg (by norm_num; omega), if_neg (by omega)]
  congr 1
  have : (2 : ℝ) ^ ((n : ℤ) - (2 ^ (8 - 1) - 1) - (23 : ℕ)) = (2 : ℝ) ^ ((n : ℤ) - 127) / 2 ^ (23 : ℕ) := by
    rw [zpow_sub₀ (by norm_num)]
    norm_num
  rw [this]
  push_cast
  norm_num
  ring

theorem ofBits_word_top : Ideal.ofBits .f32 (word 255) = ⊤ := by
  simp [Ideal.ofBits, Ideal.ieee, word]

theorem word_mono {n k : ℕ} (h1 : 1 ≤ n) (h : n ≤ k) (hk : k < 256) : Ideal.ofBits .f32 (word n) ≤ Ideal.ofBits .f32 (word k) := by
  by_cases e : k = 255
  · subst e; rw [ofBits_word_top]; exact le_top
  · rw [ofBits_word n h1 (by omega), ofBits_word k (by omega) (by omega)]
    exact EReal.coe_le_coe_iff.2 (zpow_le_zpow_right₀ (by norm_num) (by omega))

/-- Every extended real has a field: nothing, where it is below the least normal number; else the greatest whose word reads at most it. -/
theorem exists_field (t : EReal) : ∃ E, E < 256 ∧ Field t E ∧ (1 ≤ E → Ideal.ofBits .f32 (word E) ≤ t) := by
  classical
  let p : ℕ → Prop := fun n => n = 0 ∨ Ideal.ofBits .f32 (word n) ≤ t
  have hp : p (Nat.findGreatest p 255) := Nat.findGreatest_spec (P := p) (Nat.zero_le 255) (Or.inl rfl)
  have hle : Nat.findGreatest p 255 ≤ 255 := Nat.findGreatest_le 255
  refine ⟨Nat.findGreatest p 255, by omega, fun n h1 h2 => ⟨fun h => ?_, fun h => ?_⟩, fun h => ?_⟩
  · by_contra hc
    rcases hp with h0 | h0
    · omega
    · exact absurd (lt_of_lt_of_le h (word_mono h1 (by omega) (by omega))) (not_lt.2 h0)
  · have := Nat.findGreatest_is_greatest h (by omega : n ≤ 255)
    by_contra hc
    exact this (Or.inr (not_lt.1 hc))
  · rcases hp with h0 | h0
    · omega
    · exact h0

/-- The bisection's scale, -/
def bisScale (t : EReal) : EReal := Ideal.ofBits .f32 (if field t = 0#32 then 1065353216#32 else field t + 8388608#32)
/-- and its inverse. -/
def bisInv (t : EReal) : EReal := Ideal.ofBits .f32 (if field t = 0#32 then 1065353216#32 else 2122317824#32 - field t)

/-- One more than the floor of the binary logarithm. -/
def expo (t : EReal) : EReal :=
  Ideal.liftRound Int.floor (Ideal.div (Ideal.log t) (Ideal.log (Ideal.ofBits .f32 0x40000000#32))) + Ideal.ofBits .f32 0x3F800000#32

/-- The formula's scale: a power of two, one below the least normal number; past the format, what the words read as. -/
def scale (t : EReal) : EReal :=
  if t < Ideal.ofBits .f32 0x7F000000#32 then (if t < Ideal.ofBits .f32 0x00800000#32 then Ideal.ofBits .f32 0x3F800000#32 else Ideal.exp2 (expo t))
  else if t < Ideal.ofBits .f32 0x7F800000#32 then Ideal.ofBits .f32 0x7F800000#32 else Ideal.ofBits .f32 0x00000000#32

/-- The formula's inverse of the scale. -/
def inv (t : EReal) : EReal :=
  if t < Ideal.ofBits .f32 0x7E800000#32 then
    (if t < Ideal.ofBits .f32 0x00800000#32 then Ideal.ofBits .f32 0x3F800000#32 else Ideal.exp2 (Ideal.ofBits .f32 0x00000000#32 - expo t))
  else if t < Ideal.ofBits .f32 0x7F000000#32 then Ideal.ofBits .f32 0x00000000#32
  else if t < Ideal.ofBits .f32 0x7F800000#32 then Ideal.ofBits .f32 0xFF800000#32 else Ideal.ofBits .f32 0xFF000000#32

theorem floor_logb (r : ℝ) (z : ℤ) (h1 : (2 : ℝ) ^ z ≤ r) (h2 : r < (2 : ℝ) ^ (z + 1)) : ⌊Real.log r * (Real.log 2)⁻¹⌋ = z := by
  have hr : 0 < r := lt_of_lt_of_le (by positivity) h1
  have h := Real.log_pos (by norm_num : (1 : ℝ) < 2)
  have hz (w : ℤ) : Real.log ((2 : ℝ) ^ w) = w * Real.log 2 := Real.log_zpow 2 w
  rw [← div_eq_mul_inv, Int.floor_eq_iff, le_div_iff₀ h, div_lt_iff₀ h]
  constructor
  · rw [← hz]; exact Real.log_le_log (by positivity) h1
  · have := Real.log_lt_log hr h2
    rw [hz] at this; push_cast at this; exact this

theorem two_f32 : Ideal.ofBits .f32 0x40000000#32 = ((2 : ℝ) : EReal) := by
  have := ofBits_word 128 (by omega) (by omega)
  rw [show (0x40000000#32 : BitVec 32) = word 128 from rfl, this]; norm_num
theorem one_f32 : Ideal.ofBits .f32 0x3F800000#32 = ((1 : ℝ) : EReal) := by
  have := ofBits_word 127 (by omega) (by omega)
  rw [show (0x3F800000#32 : BitVec 32) = word 127 from rfl, this]; norm_num
theorem zero_f32 : Ideal.ofBits .f32 0x00000000#32 = ((0 : ℝ) : EReal) := by
  simp [Ideal.ofBits, Ideal.ieee]

theorem expo_eq (r : ℝ) (z : ℤ) (h1 : (2 : ℝ) ^ z ≤ r) (h2 : r < (2 : ℝ) ^ (z + 1)) : expo r = (((z + 1 : ℤ) : ℝ) : EReal) := by
  have hr : 0 < r := lt_of_lt_of_le (by positivity) h1
  have h := Real.log_pos (by norm_num : (1 : ℝ) < 2)
  unfold expo
  rw [two_f32, one_f32]
  have l (x : ℝ) (hx : 0 < x) : Ideal.log (x : EReal) = (Real.log x : EReal) := by
    show (if x ≤ 0 then ⊥ else (Real.log x : EReal)) = _
    rw [if_neg (not_le.2 hx)]
  rw [l r hr, l 2 (by norm_num)]
  unfold Ideal.div
  rw [if_neg (by exact_mod_cast h.ne'), ← EReal.coe_inv, ← EReal.coe_mul, Ideal.liftRound_coe, floor_logb r z h1 h2, ← EReal.coe_add]
  push_cast
  rfl

theorem exp2_int (z : ℤ) : Ideal.exp2 (((z : ℝ)) : EReal) = (((2 : ℝ) ^ z : ℝ) : EReal) := by
  show ((Real.rpow 2 (z : ℝ) : ℝ) : EReal) = _
  congr 1
  exact Real.rpow_intCast 2 z

theorem both_eq (t : EReal) : bisScale t = scale t ∧ bisInv t = inv t := by
  obtain ⟨E, hE, hF, hlow⟩ := exists_field t
  have hw : field t = word E := field_eq t E hE hF
  have c1 : (0x00800000#32 : BitVec 32) = word 1 := rfl
  have c253 : (0x7E800000#32 : BitVec 32) = word 253 := rfl
  have c254 : (0x7F000000#32 : BitVec 32) = word 254 := rfl
  have c255 : (0x7F800000#32 : BitVec 32) = word 255 := rfl
  have key : ∀ E : Fin 256, (word E.val = 0#32 ↔ E.val = 0) ∧ (E.val < 255 → word E.val + word 1 = word (E.val + 1))
      ∧ (E.val < 254 → word 253 - word E.val = word (253 - E.val)) := by decide +kernel
  obtain ⟨k1, k2, k3⟩ := key ⟨E, hE⟩
  simp only at k1 k2 k3
  unfold bisScale bisInv scale inv
  rw [hw, c1, c253, c254, c255]
  simp only [hF 1 (by omega) (by omega), hF 253 (by omega) (by omega), hF 254 (by omega) (by omega), hF 255 (by omega) (by omega), k1]
  by_cases e0 : E = 0
  · subst e0; simp
  rw [if_neg e0, if_neg e0, if_neg (show ¬ E < 1 by omega), if_neg (show ¬ E < 1 by omega)]
  by_cases e255 : E = 255
  · subst e255
    refine ⟨?_, ?_⟩
    · simp only [show ¬ (255 < 254) by omega, show ¬ (255 < 255) by omega, if_false]
      simp [Ideal.ofBits, Ideal.ieee, word]
    · simp only [show ¬ (255 < 253) by omega, show ¬ (255 < 254) by omega, show ¬ (255 < 255) by omega, if_false]
      rfl
  by_cases e254 : E = 254
  · subst e254
    refine ⟨?_, ?_⟩
    · simp only [show ¬ (254 < 254) by omega, show (254 < 255) by omega, if_false, if_true]
      rfl
    · simp only [show ¬ (254 < 253) by omega, show ¬ (254 < 254) by omega, show (254 < 255) by omega, if_false, if_true]
      rfl
  have hlo := hlow (by omega)
  have hhi : t < Ideal.ofBits .f32 (word (E + 1)) := (hF (E + 1) (by omega) (by omega)).2 (by omega)
  rw [ofBits_word E (by omega) (by omega)] at hlo
  rw [ofBits_word (E + 1) (by omega) (by omega)] at hhi
  induction t with
  | bot => simp at hlo
  | top => simp at hhi
  | coe r =>
    have h1 := EReal.coe_le_coe_iff.1 hlo
    have h2 := EReal.coe_lt_coe_iff.1 hhi
    have hx := expo_eq r ((E : ℤ) - 127) h1 (by rw [show (E : ℤ) - 127 + 1 = ((E + 1 : ℕ) : ℤ) - 127 by push_cast; ring]; exact h2)
    rw [hx, zero_f32, ← EReal.coe_sub]
    refine ⟨?_, ?_⟩
    · rw [if_pos (show E < 254 by omega), k2 (by omega), ofBits_word (E + 1) (by omega) (by omega), exp2_int]
      congr 2; push_cast; ring
    · rw [k3 (by omega)]
      by_cases e253 : E = 253
      · subst e253
        simp [word, Ideal.ofBits, Ideal.ieee]
      · rw [if_pos (show E < 253 by omega), ofBits_word (253 - E) (by omega) (by omega),
          show (0 : ℝ) - (((E : ℤ) - 127 + 1 : ℤ) : ℝ) = (((253 - E : ℕ) : ℤ) - 127 : ℤ) by
            rw [Nat.cast_sub (by omega)]; push_cast; ring, exp2_int]

end Cert.Quant
-- ==== Proof.Spec.lean ====
module

public import proofs.«01_k».proof.Proof.Scales
public import Idealize.ShloMosaic.Lib.ValueIdx

@[expose] public section

/-!
The common value of the two programs, coordinate by coordinate: a row's scale and codes, the projections onto keys and
values, and their scales and codes.
-/

noncomputable section

namespace Cert.Quant

open Idealize.ShloMosaic

/-- The greatest magnitude of a row. -/
def amax {n : ℕ} (f : Fin n → EReal) : EReal :=
  (Finset.univ : Finset (Fin n)).fold max (Ideal.ofBits .f32 0xFF800000#32) fun k => max (f k) (-(f k))

/-- The greatest magnitude over the format's limit. -/
def lim {n : ℕ} (f : Fin n → EReal) : EReal := amax f * Ideal.ofBits .f32 0x3B124925#32

/-- A value clipped to the format's range. -/
def clip (v : EReal) : EReal := min (Ideal.ofBits .f32 0x43E00000#32) (max (Ideal.ofBits .f32 0xC3E00000#32) v)

/-- The scale of a row. -/
def rowScale {n : ℕ} (f : Fin n → EReal) : EReal := scale (lim f)

/-- A code of a row. -/
def rowCode {n : ℕ} (f : Fin n → EReal) (k : Fin n) : EReal := clip (f k * inv (lim f))

/-- A row's projection onto one column of weights, dequantised. -/
def key {n : ℕ} (f w : Fin n → EReal) (s : EReal) : EReal := (∑ c, rowCode f c * w c) * rowScale f * s

/-- The formula's scale with its cases as selections. -/
theorem scale_sel (t : EReal) : scale t = Scalar.select (Ideal.cmp .olt t (Ideal.ofBits .f32 0x7F000000#32))
    (Scalar.select (Ideal.cmp .olt t (Ideal.ofBits .f32 0x00800000#32)) (Ideal.ofBits .f32 0x3F800000#32) (Ideal.exp2 (expo t)))
    (Scalar.select (Ideal.cmp .olt t (Ideal.ofBits .f32 0x7F800000#32)) (Ideal.ofBits .f32 0x7F800000#32) (Ideal.ofBits .f32 0x00000000#32)) := by
  have h (a b u v : EReal) : Scalar.select (Ideal.cmp .olt a b) u v = if a < b then u else v := by
    unfold Scalar.select Ideal.cmp
    by_cases hab : a < b <;> simp [hab]
  rw [h, h, h]
  rfl

/-- The formula's inverse with its cases as selections. -/
theorem inv_sel (t : EReal) : inv t = Scalar.select (Ideal.cmp .olt t (Ideal.ofBits .f32 0x7E800000#32))
    (Scalar.select (Ideal.cmp .olt t (Ideal.ofBits .f32 0x00800000#32)) (Ideal.ofBits .f32 0x3F800000#32)
      (Ideal.exp2 (Ideal.ofBits .f32 0x00000000#32 - expo t)))
    (Scalar.select (Ideal.cmp .olt t (Ideal.ofBits .f32 0x7F000000#32)) (Ideal.ofBits .f32 0x00000000#32)
      (Scalar.select (Ideal.cmp .olt t (Ideal.ofBits .f32 0x7F800000#32)) (Ideal.ofBits .f32 0xFF800000#32) (Ideal.ofBits .f32 0xFF000000#32))) := by
  have h (a b u v : EReal) : Scalar.select (Ideal.cmp .olt a b) u v = if a < b then u else v := by
    unfold Scalar.select Ideal.cmp
    by_cases hab : a < b <;> simp [hab]
  rw [h, h, h, h]
  rfl

open Idealize.ShloMosaic.ValueIdx

/-- The codes of the input's rows. -/
def rowCodes (x : (⟨3, ![12, 8192, 2560]⟩ : Shape).Idx → EReal) : (⟨3, ![12, 8192, 2560]⟩ : Shape).Idx → EReal :=
  fun i => rowCode (fun c => x (ix3 (i 0) (i 1) c)) (i 2)

/-- The scales of the input's rows. -/
def rowScales (x : (⟨3, ![12, 8192, 2560]⟩ : Shape).Idx → EReal) : (⟨2, ![12, 8192]⟩ : Shape).Idx → EReal :=
  fun i => rowScale fun c => x (ix3 (i 0) (i 1) c)

/-- The keys: batch, position, head, feature. -/
def keys (x : (⟨3, ![12, 8192, 2560]⟩ : Shape).Idx → EReal) (w : (⟨3, ![2560, 20, 128]⟩ : Shape).Idx → EReal)
    (s : (⟨1, ![20]⟩ : Shape).Idx → EReal) (B : Fin 12) (n : Fin 8192) (h : Fin 20) (d : Fin 128) : EReal :=
  key (fun c => x (ix3 B n c)) (fun c => w (ix3 c h d)) (s (ix1 h))

/-- The values: a projection with a bias. -/
def vals (x : (⟨3, ![12, 8192, 2560]⟩ : Shape).Idx → EReal) (w : (⟨3, ![2560, 20, 128]⟩ : Shape).Idx → EReal)
    (s : (⟨1, ![20]⟩ : Shape).Idx → EReal) (b : (⟨2, ![20, 128]⟩ : Shape).Idx → EReal) (B : Fin 12) (n : Fin 8192) (h : Fin 20) (d : Fin 128) : EReal :=
  keys x w s B n h d + b (ix2 h d)

/-- The codes of keys or values, heads first. -/
def headCodes (f : Fin 12 → Fin 8192 → Fin 20 → Fin 128 → EReal) : (⟨4, ![12, 20, 8192, 128]⟩ : Shape).Idx → EReal :=
  fun i => rowCode (f (i 0) (i 2) (i 1)) (i 3)

/-- The scales of keys or values, heads first. -/
def headScales (f : Fin 12 → Fin 8192 → Fin 20 → Fin 128 → EReal) : (⟨3, ![12, 20, 8192]⟩ : Shape).Idx → EReal :=
  fun i => rowScale (f (i 0) (i 2) (i 1))

end Cert.Quant

end
-- ==== Proof.Tiles.lean ====
module

public import proofs.«01_k».proof.Proof.Closed
public import proofs.«01_k».proof.Proof.Spec
public import Idealize.ShloMosaic.Lib.MatmulPlain

@[expose] public section

/-!
The kernel's operations on vectors read at an index, in exact arithmetic.
-/

noncomputable section

namespace Cert.KernelIdeal.Hand

open Cert.KernelIdeal Cert.KernelIdeal.Gen Idealize.ShloMosaic.ValueIdx
open Idealize.ShloMosaic
open Cert.Quant (step field scale inv clip amax lim rowScale rowCode key bisScale bisInv both_eq zero_f32)

theorem sel_eq {α : Type} {w : ℕ} (a b : BitVec w) (u v : α) : Scalar.select (BitVec.ofBool (a == b)) u v = if a = b then u else v := by
  unfold Scalar.select
  by_cases hab : a = b
  · rw [hab, beq_self_eq_true, if_pos rfl]
    rfl
  · rw [beq_false_of_ne hab, if_neg hab]
    rfl

section
variable {s : Shape}

theorem fieldStep_at (t : FVec Ideal s .f32) (bit : BitVec 32) (e : IVec s 32) (i : s.Idx) :
    fieldStep t bit e i = step (t i) bit (e i) := by
  have h : fieldStep t bit e i = Scalar.select (Ideal.cmp .olt (t i) (Ideal.ofBits .f32 (e i ||| bit))) (e i) (e i ||| bit) := rfl
  rw [h]
  unfold step Scalar.select Ideal.cmp
  by_cases hab : t i < Ideal.ofBits .f32 (e i ||| bit) <;> simp [hab]

theorem fieldOf_at (t : FVec Ideal s .f32) (i : s.Idx) : fieldOf t i = field (t i) := by
  unfold fieldOf field
  simp only [fieldStep_at]
  rfl

theorem scale_text (f : IVec s 32) (i : s.Idx) :
    bitcastToFloat (F := Ideal) .f32 (select (cmpi .eq f (broadcast s 0#32)) (broadcast s 1065353216#32) (addi f (broadcast s 8388608#32))) i
      = Ideal.ofBits .f32 (if f i = 0#32 then 1065353216#32 else f i + 8388608#32) := by
  have h : bitcastToFloat (F := Ideal) .f32 (select (cmpi .eq f (broadcast s 0#32)) (broadcast s 1065353216#32) (addi f (broadcast s 8388608#32))) i
    = Ideal.ofBits .f32 (Scalar.select (BitVec.ofBool (f i == 0#32)) 1065353216#32 (f i + 8388608#32)) := rfl
  rw [h, sel_eq]

theorem inv_text (f : IVec s 32) (i : s.Idx) :
    bitcastToFloat (F := Ideal) .f32 (select (cmpi .eq f (broadcast s 0#32)) (broadcast s 1065353216#32) (subi (broadcast s 2122317824#32) f)) i
      = Ideal.ofBits .f32 (if f i = 0#32 then 1065353216#32 else 2122317824#32 - f i) := by
  have h : bitcastToFloat (F := Ideal) .f32 (select (cmpi .eq f (broadcast s 0#32)) (broadcast s 1065353216#32) (subi (broadcast s 2122317824#32) f)) i
    = Ideal.ofBits .f32 (Scalar.select (BitVec.ofBool (f i == 0#32)) 1065353216#32 (2122317824#32 - f i)) := rfl
  rw [h, sel_eq]

theorem scaleOf_at (t : FVec Ideal s .f32) (i : s.Idx) : scaleOf t i = scale (t i) := by
  refine Eq.trans ?_ (both_eq (t i)).1
  unfold scaleOf bisScale
  rw [← fieldOf_at]
  exact scale_text _ i

theorem invOf_at (t : FVec Ideal s .f32) (i : s.Idx) : invOf t i = inv (t i) := by
  refine Eq.trans ?_ (both_eq (t i)).2
  unfold invOf bisInv
  rw [← fieldOf_at]
  exact inv_text _ i

theorem clipOf_at (t v : FVec Ideal s .f32) (i : s.Idx) : clipOf (mulf t v) i = clip (t i * v i) := by
  rfl

theorem byLimit_at (a : FVec Ideal s .f32) (i : s.Idx) : byLimit a i = a i * Ideal.ofBits .f32 0x3B124925#32 := by
  rfl

end

/-- A fold of magnitudes. -/
theorem fold_amax {n : ℕ} (f g : Fin n → EReal) (h : ∀ k, g k = max (f k) (-(f k))) :
    (Finset.univ : Finset (Fin n)).fold max (FloatOps.ofBits (F := Ideal) .f32 0xFF800000#32) g = amax f := by
  rw [show g = fun k => max (f k) (-(f k)) from funext h]
  rfl

theorem liftX (r : Fin 32) (k : Fin 2560) : reduces_S32x2560_S32.lift (ix1 r) k = ix2 r k := by
  funext a; apply Fin.ext; refine (Shape.Reduces.lift_val _ _ _ _).trans ?_
  match a with
  | ⟨0, _⟩ => rfl
  | ⟨1, _⟩ => rfl

theorem liftH (r : Fin 512) (k : Fin 128) : reduces_S512x128_S512.lift (ix1 r) k = ix2 r k := by
  funext a; apply Fin.ext; refine (Shape.Reduces.lift_val _ _ _ _).trans ?_
  match a with
  | ⟨0, _⟩ => rfl
  | ⟨1, _⟩ => rfl

theorem redX (Y : FVec Ideal S32x2560 .f32) (r : Fin 32) :
    shapeCast S32x1 (multiReduction .maximumf [1] S32 (absf Y) 0xFF800000#32 reduces_S32x2560_S32 (.inl rfl) rfl) shapeCasts_S32_S32x1 (ix2 r 0)
      = amax fun k => Y (ix2 r k) := by
  have e : ∀ Z : FVec Ideal S32 .f32, shapeCast S32x1 Z shapeCasts_S32_S32x1 (ix2 r 0) = Z (ix1 r) := fun Z => by
    refine shapeCast_apply _ _ _ _ ?_
    rw [Shape.rowMajor_val_one, Shape.rowMajor_val_two]
    show r.val = r.val * 1 + 0
    omega
  have q := Ideal.multiReduction_maximumf_single (absf Y) 0xFF800000#32 reduces_S32x2560_S32 (.inl rfl) rfl (ix1 r)
  have g : ∀ k, (absf Y ∘ reduces_S32x2560_S32.lift (ix1 r)) k = max (Y (ix2 r k)) (-(Y (ix2 r k))) := fun k => congrArg (absf Y) (liftX r k)
  exact (e _).trans (q.trans (fold_amax (n := 2560) (fun k => Y (ix2 r k)) _ g))

theorem amaxOf_at (Y : FVec Ideal S512x128 .f32) (r : Fin 512) : amaxOf Y (ix2 r 0) = amax fun k => Y (ix2 r k) := by
  have e : ∀ Z : FVec Ideal S512 .f32, shapeCast S512x1 Z shapeCasts_S512_S512x1 (ix2 r 0) = Z (ix1 r) := fun Z => by
    refine shapeCast_apply _ _ _ _ ?_
    rw [Shape.rowMajor_val_one, Shape.rowMajor_val_two]
    show r.val = r.val * 1 + 0
    omega
  have q := Ideal.multiReduction_maximumf_single (absf Y) 0xFF800000#32 reduces_S512x128_S512 (.inl rfl) rfl (ix1 r)
  have g : ∀ k, (absf Y ∘ reduces_S512x128_S512.lift (ix1 r)) k = max (Y (ix2 r k)) (-(Y (ix2 r k))) := fun k => congrArg (absf Y) (liftH r k)
  unfold amaxOf
  exact (e _).trans (q.trans (fold_amax (n := 128) (fun k => Y (ix2 r k)) _ g))

theorem chunkX_at (v : Vec Ideal S1x32x2560 .bf16) (r : Fin 32) (c : Fin 2560) : chunkX v (ix2 r c) = v (ix3 0 r c) := by
  have e : shapeCast S32x2560 v shapeCasts_S1x32x2560_S32x2560 (ix2 r c) = v (ix3 0 r c) := by
    refine shapeCast_apply _ _ _ _ ?_
    rw [Shape.rowMajor_val_three, Shape.rowMajor_val_two]
    show (0 * 32 + r.val) * 2560 + c.val = r.val * 2560 + c.val
    omega
  unfold chunkX
  exact e

theorem chunkT_at (v : Vec Ideal S1x32x2560 .bf16) (r : Fin 32) : chunkT v (ix2 r 0) = lim fun c => v (ix3 0 r c) := by
  unfold chunkT
  rw [byLimit_at, redX]
  simp only [chunkX_at]
  rfl

theorem bcX (Z : FVec Ideal S32x1 .f32) (r : Fin 32) (c : Fin 2560) :
    broadcastTo S32x2560 Z broadcasts_S32x1_S32x2560 (ix2 r c) = Z (ix2 r 0) := by
  refine broadcastTo_apply _ _ _ _ ?_
  intro a
  match a with
  | ⟨0, _⟩ => rfl
  | ⟨1, _⟩ => rfl

theorem bcH (Z : FVec Ideal S512x1 .f32) (r : Fin 512) (c : Fin 128) :
    broadcastTo S512x128 Z broadcasts_S512x1_S512x128 (ix2 r c) = Z (ix2 r 0) := by
  refine broadcastTo_apply _ _ _ _ ?_
  intro a
  match a with
  | ⟨0, _⟩ => rfl
  | ⟨1, _⟩ => rfl

theorem bcB (Z : Vec Ideal S1x128 .f32) (r : Fin 512) (c : Fin 128) :
    broadcastTo S512x128 Z broadcasts_S1x128_S512x128 (ix2 r c) = Z (ix2 0 c) := by
  refine broadcastTo_apply _ _ _ _ ?_
  intro a
  match a with
  | ⟨0, _⟩ => rfl
  | ⟨1, _⟩ => rfl

theorem chunkQ_at (v : Vec Ideal S1x32x2560 .bf16) (r : Fin 32) (c : Fin 2560) :
    chunkQ v (ix3 0 r c) = rowCode (fun c => v (ix3 0 r c)) c := by
  have e : ∀ Z : FVec Ideal S32x2560 .fp8e4m3, shapeCast S1x32x2560 Z shapeCasts_S32x2560_S1x32x2560 (ix3 0 r c) = Z (ix2 r c) := fun Z => by
    refine shapeCast_apply _ _ _ _ ?_
    rw [Shape.rowMajor_val_three, Shape.rowMajor_val_two]
    show r.val * 2560 + c.val = (0 * 32 + r.val) * 2560 + c.val
    omega
  unfold chunkQ
  rw [e, clipOf_at, bcX, invOf_at, chunkT_at, chunkX_at]
  rfl

theorem codesOf_at (k : FVec Ideal S512x128 .f32) (r : Fin 512) (d : Fin 128) :
    codesOf k (ix4 0 0 r d) = rowCode (fun c => k (ix2 r c)) d := by
  have e : ∀ Z : FVec Ideal S512x128 .fp8e4m3, shapeCast S1x1x512x128 Z shapeCasts_S512x128_S1x1x512x128 (ix4 0 0 r d) = Z (ix2 r d) := fun Z => by
    refine shapeCast_apply _ _ _ _ ?_
    rw [Shape.rowMajor_val_four, Shape.rowMajor_val_two]
    show r.val * 128 + d.val = ((0 * 1 + 0) * 512 + r.val) * 128 + d.val
    omega
  unfold codesOf
  rw [e, clipOf_at, bcH, invOf_at, byLimit_at, amaxOf_at]
  rfl

/-- Lane `h` of the first `n` heads' largest magnitudes. -/
theorem lanes_at (am : Nat → FVec Ideal S512x1 .f32) (r : Fin 512) (h : Fin 128) :
    ∀ n, n ≤ 128 → h.val < n → lanes am n (ix2 r h) = am h.val (ix2 r 0) := by
  intro n
  induction n with
  | zero => exact fun _ hh => absurd hh (Nat.not_lt_zero _)
  | succ n ih =>
    intro hn hh
    have e : lanes am (n + 1) (ix2 r h) = Scalar.select (BitVec.ofBool (iota .tc S512x128 32 [1] iota_S512x128_d1_w32 (ix2 r h) == BitVec.ofNat 32 n))
        (broadcastTo S512x128 (shapeCast S512x1 (am n) shapeCasts_S512x1_S512x1) broadcasts_S512x1_S512x128 (ix2 r h)) (lanes am n (ix2 r h)) := rfl
    have i : iota .tc S512x128 32 [1] iota_S512x128_d1_w32 (ix2 r h) = BitVec.ofNat 32 h.val := iota_single_apply _ _ _ _ _ _
    have sc : shapeCast S512x1 (am n) shapeCasts_S512x1_S512x1 (ix2 r 0) = am n (ix2 r 0) := shapeCast_apply _ _ _ _ rfl
    rw [e, i, bcH, sc, sel_eq]
    by_cases hc : h.val = n
    · rw [hc, if_pos rfl]
    · have hb : BitVec.ofNat 32 h.val ≠ BitVec.ofNat 32 n := by
        intro hb
        have := congrArg BitVec.toNat hb
        simp only [BitVec.toNat_ofNat] at this
        omega
      rw [if_neg hb]
      exact ih (by omega) (by omega)

theorem headScales_at (col : FVec Ideal S512x128 .f32) (h : Fin 20) (r : Fin 512) :
    headScales col (ix3 0 h r) = scale (col (ix2 r ⟨h.val, by omega⟩) * Ideal.ofBits .f32 0x3B124925#32) := by
  have e1 : ∀ Z : FVec Ideal S20x512 .f32, shapeCast S1x20x512 Z shapeCasts_S20x512_S1x20x512 (ix3 0 h r) = Z (ix2 h r) := fun Z => by
    refine shapeCast_apply _ _ _ _ ?_
    rw [Shape.rowMajor_val_three, Shape.rowMajor_val_two]
    show h.val * 512 + r.val = (0 * 20 + h.val) * 512 + r.val
    omega
  have e2 : ∀ Z : FVec Ideal S128x512 .f32, extractStridedSlice S20x512 ![0, 0] Z slices_S128x512_o0_0_S20x512 (ix2 h r) = Z (ix2 ⟨h.val, by omega⟩ r) := fun Z => by
    refine extractStridedSlice_apply _ _ _ _ _ ?_
    intro a
    match a with
    | ⟨0, _⟩ => show h.val = 0 + h.val; omega
    | ⟨1, _⟩ => show r.val = 0 + r.val; omega
  have e3 : ∀ Z : FVec Ideal S512x128 .f32, transpose S128x512 [1, 0] Z transposes_S512x128_p1_0_S128x512 (ix2 ⟨h.val, by omega⟩ r) = Z (ix2 r ⟨h.val, by omega⟩) := fun Z => by
    refine transpose_apply _ _ _ _ _ ?_
    intro a
    match a with
    | ⟨0, _⟩ => rfl
    | ⟨1, _⟩ => rfl
  unfold headScales
  rw [e1, e2, e3, scaleOf_at, byLimit_at]

theorem tileK_at (xs : FVec Ideal S512x1 .f32) (acc : FVec Ideal S512x128 .f32) (s : Elt Ideal .f32) (r : Fin 512) (d : Fin 128) :
    tileK xs acc s (ix2 r d) = acc (ix2 r d) * xs (ix2 r 0) * s := by
  have e : tileK xs acc s (ix2 r d) = acc (ix2 r d) * broadcastTo S512x128 xs broadcasts_S512x1_S512x128 (ix2 r d) * s := rfl
  rw [e, bcH]

theorem tileV_at (xs : FVec Ideal S512x1 .f32) (acc : FVec Ideal S512x128 .f32) (s : Elt Ideal .f32) (b : Vec Ideal S1x128 .f32) (r : Fin 512) (d : Fin 128) :
    tileV xs acc s b (ix2 r d) = acc (ix2 r d) * xs (ix2 r 0) * s + b (ix2 0 d) := by
  have e : tileV xs acc s b (ix2 r d) = tileK xs acc s (ix2 r d) + broadcastTo S512x128 b broadcasts_S1x128_S512x128 (ix2 r d) := rfl
  rw [e, tileK_at, bcB]

theorem castW (w : Vec Ideal S1x2560x128 .fp8e4m3) (c : Fin 2560) (d : Fin 128) :
    shapeCast S2560x128 w shapeCasts_S1x2560x128_S2560x128 (ix2 c d) = w (ix3 0 c d) := by
  refine shapeCast_apply _ _ _ _ ?_
  rw [Shape.rowMajor_val_three, Shape.rowMajor_val_two]
  show (0 * 2560 + c.val) * 128 + d.val = c.val * 128 + d.val
  omega

theorem pair_left (x y : FVec Ideal S2560x128 .fp8e4m3) (c : Fin 2560) (d : Fin 128) :
    concatenate S2560x256 1 [⟨S2560x128, x⟩, ⟨S2560x128, y⟩] concatenates_S2560x128_S2560x128_S2560x256_d1 (ix2 c ⟨d.val, by omega⟩) = x (ix2 c d) := by
  refine concatenate_pair_apply_left (t := S2560x256) (s₁ := S2560x128) (s₂ := S2560x128) 1 x y _ (ix2 c ⟨d.val, by omega⟩) rfl (ix2 c d) ?_
  intro a
  match a with
  | ⟨0, _⟩ => rfl
  | ⟨1, _⟩ => rfl

theorem pair_right (x y : FVec Ideal S2560x128 .fp8e4m3) (c : Fin 2560) (d : Fin 128) :
    concatenate S2560x256 1 [⟨S2560x128, x⟩, ⟨S2560x128, y⟩] concatenates_S2560x128_S2560x128_S2560x256_d1 (ix2 c ⟨128 + d.val, by omega⟩) = y (ix2 c d) := by
  refine concatenate_pair_apply_right (t := S2560x256) (s₁ := S2560x128) (s₂ := S2560x128) 1 x y _ (ix2 c ⟨128 + d.val, by omega⟩) rfl rfl (ix2 c d) ?_ ?_
  · intro a ha
    match a with
    | ⟨0, _⟩ => rfl
    | ⟨1, _⟩ => exact absurd rfl ha
  · show d.val + 128 = 128 + d.val
    omega

theorem mm_at (xq : FVec Ideal S512x2560 .fp8e4m3) (y : FVec Ideal S2560x256 .fp8e4m3) (r : Fin 512) (j : Fin 256) :
    matmul dot_S512x2560_S2560x256_S512x256_1_0_0_1_n_n none xq y (constant S512x256 .f32 0x00000000#32) (ix2 r j)
      = ∑ c, xq (ix2 r c) * y (ix2 c j) := by
  have e : dot_S512x2560_S2560x256_S512x256_1_0_0_1_n_n = DotDims.plain 512 2560 256 := rfl
  rw [e]
  refine (Ideal.matmul_plain_apply _ _ _ _ _ _).trans ?_
  have z : constant (F := Ideal) S512x256 .f32 0x00000000#32 (ix2 r j) = 0 := zero_f32
  rw [z, zero_add]

theorem half_pair_at (xq : FVec Ideal S512x2560 .fp8e4m3) (w w' : Vec Ideal S1x2560x128 .fp8e4m3) (h : ℕ) (r : Fin 512) (d : Fin 128) :
    half h (pairAcc xq w w') (ix2 r d) = ∑ c, xq (ix2 r c) * (if h % 2 = 0 then w else w') (ix3 0 c d) := by
  have e0 : ∀ Z : FVec Ideal S512x256 .f32, extractStridedSlice S512x128 ![0, 0] Z slices_S512x256_o0_0_S512x128 (ix2 r d) = Z (ix2 r ⟨d.val, by omega⟩) := fun Z => by
    refine extractStridedSlice_apply _ _ _ _ _ ?_
    intro a
    match a with
    | ⟨0, _⟩ => show r.val = 0 + r.val; omega
    | ⟨1, _⟩ => show d.val = 0 + d.val; omega
  have e1 : ∀ Z : FVec Ideal S512x256 .f32, extractStridedSlice S512x128 ![0, 128] Z slices_S512x256_o0_128_S512x128 (ix2 r d) = Z (ix2 r ⟨128 + d.val, by omega⟩) := fun Z => by
    refine extractStridedSlice_apply _ _ _ _ _ ?_
    intro a
    match a with
    | ⟨0, _⟩ => show r.val = 0 + r.val; omega
    | ⟨1, _⟩ => rfl
  unfold half pairAcc
  by_cases hh : h % 2 = 0
  · rw [if_pos hh, e0, mm_at, if_pos hh]
    exact Finset.sum_congr rfl fun c _ => by rw [pair_left, castW]
  · rw [if_neg hh, e1, mm_at, if_neg hh]
    exact Finset.sum_congr rfl fun c _ => by rw [pair_right, castW]

theorem xsCol_at (v : Fin 16 → Vec Ideal S1x32x2560 .bf16) (r : Fin 512) :
    xsCol v (ix2 r 0) = rowScale fun c => v ⟨r.val / 32, by omega⟩ (ix3 0 ⟨r.val % 32, by omega⟩ c) := by
  have e : xsCol v (ix2 r 0) = scaleOf (chunkT (v ⟨r.val / 32, by omega⟩)) (ix2 ⟨r.val % 32, by omega⟩ 0) := by
    unfold xsCol
    refine concatenate_ofFn_apply (t := S512x1) (s₁ := S32x1) 0 (N := 16) (fun n => scaleOf (chunkT (v n))) _ rfl 32 rfl (ix2 r 0) ⟨r.val / 32, by omega⟩ rfl (ix2 ⟨r.val % 32, by omega⟩ 0) rfl ?_
    intro b hb
    match b with
    | ⟨0, _⟩ => exact absurd rfl hb
    | ⟨1, _⟩ => rfl
  rw [e, scaleOf_at, chunkT_at]
  rfl

end Cert.KernelIdeal.Hand

end
-- ==== Proof.Values.lean ====
module

public import proofs.«01_k».proof.Proof.Points
public import proofs.«01_k».proof.Proof.Tiles

@[expose] public section

/-!
What the kernel's windows hold at each point, in exact arithmetic: the common value on the point's block.
-/

set_option maxRecDepth 16384

noncomputable section

namespace Cert.KernelIdeal.Hand

open Cert.KernelIdeal Cert.KernelIdeal.Gen Idealize.ShloMosaic.ValueIdx
open Idealize.ShloMosaic Idealize.ShloMosaic.TcCoe Idealize.SL.Sem
open Idealize.ShloMosaic.Pipeline (Dat RDat)
open Cert.Quant (scale lim rowScale rowCode key rowCodes rowScales keys vals headCodes)

/-! ## The body's reads at an index -/

theorem rdX_at (arg4 : Memref sig .tc .vmem S1x512x2560 .bf16) (harg4 : arg4.IsWhole) (x2 : Vec Ideal S1x512x2560 .bf16) (j : Fin 16) (r : Fin 32) (k : Fin 2560) :
    rdX arg4 harg4 x2 j (ix3 0 r k) = x2 (ix3 0 ⟨32 * j.val + r.val, by omega⟩ k) := by
  unfold rdX
  refine (Memref.IsWhole.readAt_unread harg4 x2 _ _).trans (congrArg x2 ?_)
  funext a; apply Fin.ext
  match a with
  | ⟨0, _⟩ => rfl
  | ⟨1, _⟩ => show 32 * j.val + 1 * r.val = 32 * j.val + r.val; omega
  | ⟨2, _⟩ => show 0 + 1 * k.val = k.val; omega

theorem rdW_at (arg5 : Memref sig .tc .vmem S20x2560x128 .fp8e4m3) (harg5 : arg5.IsWhole) (x3 : Vec Ideal S20x2560x128 .fp8e4m3) (h : ℕ) (hh : h < 20) (c : Fin 2560) (d : Fin 128) :
    rdW arg5 harg5 x3 h hh (ix3 0 c d) = x3 (ix3 ⟨h, hh⟩ c d) := by
  unfold rdW
  refine (Memref.IsWhole.readAt_unread harg5 x3 _ _).trans (congrArg x3 ?_)
  funext a; apply Fin.ext
  match a with
  | ⟨0, _⟩ => show h + 1 * 0 = h; omega
  | ⟨1, _⟩ => show 0 + 1 * c.val = c.val; omega
  | ⟨2, _⟩ => show 0 + 1 * d.val = d.val; omega

theorem rdS_at (arg2 : Memref sig .tc .smem S20 .f32) (harg2 : arg2.IsWhole) (x0 : Vec Ideal S20 .f32) (h : ℕ) (hh : h < 20) :
    rdS arg2 harg2 x0 h hh = x0 (ix1 ⟨h, hh⟩) := by
  unfold rdS
  refine (Memref.IsWhole.readAt_unread harg2 x0 _ _).trans (congrArg x0 ?_)
  funext a; apply Fin.ext
  match a with
  | ⟨0, _⟩ => rfl

theorem rdB_at (arg7 : Memref sig .tc .vmem S20x128 .f32) (harg7 : arg7.IsWhole) (x5 : Vec Ideal S20x128 .f32) (h : ℕ) (hh : h < 20) (d : Fin 128) :
    rdB arg7 harg7 x5 h hh (ix2 0 d) = x5 (ix2 ⟨h, hh⟩ d) := by
  unfold rdB
  refine (Memref.IsWhole.readAt_unread harg7 x5 _ _).trans (congrArg x5 ?_)
  funext a; apply Fin.ext
  match a with
  | ⟨0, _⟩ => show h + 1 * 0 = h; omega
  | ⟨1, _⟩ => show 0 + 1 * d.val = d.val; omega

theorem xqBlk_at (arg4 : Memref sig .tc .vmem S1x512x2560 .bf16) (harg4 : arg4.IsWhole) (x2 : Vec Ideal S1x512x2560 .bf16) (n : Fin 512) (k : Fin 2560) :
    xqBlk arg4 harg4 x2 (ix3 0 n k) = rowCode (fun c => x2 (ix3 0 n c)) k := by
  have e : xqBlk arg4 harg4 x2 (ix3 0 n k) = chunkQ (rdX arg4 harg4 x2 ⟨n.val / 32, by omega⟩) (ix3 0 ⟨n.val % 32, by omega⟩ k) := rfl
  have q : (⟨32 * (n.val / 32) + n.val % 32, by omega⟩ : Fin 512) = n := Fin.ext (by show 32 * (n.val / 32) + n.val % 32 = n.val; omega)
  rw [e, chunkQ_at]
  simp only [rdX_at, q]

theorem xsCol_rd_at (arg4 : Memref sig .tc .vmem S1x512x2560 .bf16) (harg4 : arg4.IsWhole) (x2 : Vec Ideal S1x512x2560 .bf16) (n : Fin 512) :
    xsCol (rdX arg4 harg4 x2) (ix2 n 0) = rowScale fun c => x2 (ix3 0 n c) := by
  have q : (⟨32 * (n.val / 32) + n.val % 32, by omega⟩ : Fin 512) = n := Fin.ext (by show 32 * (n.val / 32) + n.val % 32 = n.val; omega)
  rw [xsCol_at]
  simp only [rdX_at, q]

theorem headAcc_at (xq : FVec Ideal S512x2560 .fp8e4m3) (arg5 : Memref sig .tc .vmem S20x2560x128 .fp8e4m3) (harg5 : arg5.IsWhole) (x3 : Vec Ideal S20x2560x128 .fp8e4m3) (h : ℕ) (hh : h < 20)
    (n : Fin 512) (d : Fin 128) :
    headAcc xq arg5 harg5 x3 h hh (ix2 n d) = ∑ c, xq (ix2 n c) * x3 (ix3 ⟨h, hh⟩ c d) := by
  unfold headAcc
  rw [half_pair_at]
  refine Finset.sum_congr rfl fun c _ => ?_
  by_cases hp : h % 2 = 0
  · rw [if_pos hp, rdW_at]
    have q : (⟨2 * (h / 2), by omega⟩ : Fin 20) = ⟨h, hh⟩ := Fin.ext (by show 2 * (h / 2) = h; omega)
    rw [q]
  · rw [if_neg hp, rdW_at]
    have q : (⟨2 * (h / 2) + 1, by omega⟩ : Fin 20) = ⟨h, hh⟩ := Fin.ext (by show 2 * (h / 2) + 1 = h; omega)
    rw [q]

theorem castQ (xq : Vec Ideal S1x512x2560 .fp8e4m3) (n : Fin 512) (c : Fin 2560) :
    shapeCast S512x2560 xq shapeCasts_S1x512x2560_S512x2560 (ix2 n c) = xq (ix3 0 n c) := by
  refine shapeCast_apply _ _ _ _ ?_
  rw [Shape.rowMajor_val_three, Shape.rowMajor_val_two]
  show (0 * 512 + n.val) * 2560 + c.val = n.val * 2560 + c.val
  omega

theorem castRow (col : FVec Ideal S512x1 .f32) (n : Fin 512) :
    shapeCast S1x512 col shapeCasts_S512x1_S1x512 (ix2 0 n) = col (ix2 n 0) := by
  refine shapeCast_apply _ _ _ _ ?_
  rw [Shape.rowMajor_val_two, Shape.rowMajor_val_two]
  show n.val * 1 + 0 = 0 * 512 + n.val
  omega

/-! ## The windows' blocks at an index -/

variable (m : (ℓ : Loc nD τ sig) → Buf (Elt Ideal) ℓ)

/-- The arguments as launched. -/
abbrev X0 (c : Dev nD) : Vec Ideal S12x8192x2560 .bf16 := m ((c : Thread nD τ).loc main_arg0)
abbrev X1 (c : Dev nD) : Vec Ideal S2560x20x128 .fp8e4m3 := m ((c : Thread nD τ).loc main_arg1)
abbrev X2 (c : Dev nD) : Vec Ideal S20 .f32 := m ((c : Thread nD τ).loc main_arg2)
abbrev X3 (c : Dev nD) : Vec Ideal S2560x20x128 .fp8e4m3 := m ((c : Thread nD τ).loc main_arg3)
abbrev X4 (c : Dev nD) : Vec Ideal S20 .f32 := m ((c : Thread nD τ).loc main_arg4)
abbrev X5 (c : Dev nD) : Vec Ideal S20x128 .f32 := m ((c : Thread nD τ).loc main_arg5)

/-- The batch of a point and its rows. -/
abbrev bat (t : Fin cfg0.N) : Fin 12 := ⟨t.val / 16, by have : t.val < 192 := t.isLt; omega⟩
abbrev row (t : Fin cfg0.N) (n : Fin 512) : Fin 8192 := ⟨512 * (t.val % 16) + n.val, by omega⟩

theorem V_main_v0 (c : Dev nD) : V m c main_v0 = transpose S20x2560x128 [1, 0, 2] (X1 m c) transposes_S2560x20x128_S20x2560x128_1_0_2 := by
  show StableHlo.after hostOps0 (fun b => m (c, b)) (Proc.devRef .tc main_v0) = _
  unfold hostOps0
  rw [StableHlo.after_cons, StableHlo.after_cons, StableHlo.after_nil, StableHlo.unary_result_ne _ _ _ _ _ _ (by decide), StableHlo.unary_result]

theorem V_main_v1 (c : Dev nD) : V m c main_v1 = transpose S20x2560x128 [1, 0, 2] (X3 m c) transposes_S2560x20x128_S20x2560x128_1_0_2 := by
  show StableHlo.after hostOps0 (fun b => m (c, b)) (Proc.devRef .tc main_v1) = _
  unfold hostOps0
  rw [StableHlo.after_cons, StableHlo.after_cons, StableHlo.after_nil, StableHlo.unary_result, StableHlo.unary_result_ne _ _ _ _ _ _ (by decide)]

theorem trW (w : Vec Ideal S2560x20x128 .fp8e4m3) (h : Fin 20) (c : Fin 2560) (d : Fin 128) :
    transpose S20x2560x128 [1, 0, 2] w transposes_S2560x20x128_S20x2560x128_1_0_2 (ix3 h c d) = w (ix3 c h d) := by
  refine transpose_apply _ _ _ _ _ ?_
  intro a
  match a with
  | ⟨0, _⟩ => rfl
  | ⟨1, _⟩ => rfl
  | ⟨2, _⟩ => rfl

theorem index0 : ∀ t : Fin cfg0.N, win0_0.index t (0 : Fin 1) = 0 :=
  (by decide +kernel : ∀ t : Fin grid0.N, _)

theorem index1 : ∀ t : Fin cfg0.N, win0_1.index t (0 : Fin 1) = 0 :=
  (by decide +kernel : ∀ t : Fin grid0.N, _)

theorem index2 : ∀ t : Fin cfg0.N, win0_2.index t (0 : Fin 3) = t.val / 16 ∧ win0_2.index t (1 : Fin 3) = t.val % 16 ∧ win0_2.index t (2 : Fin 3) = 0 :=
  (by decide +kernel : ∀ t : Fin grid0.N, _)

theorem index3 : ∀ t : Fin cfg0.N, win0_3.index t (0 : Fin 3) = 0 ∧ win0_3.index t (1 : Fin 3) = 0 ∧ win0_3.index t (2 : Fin 3) = 0 :=
  (by decide +kernel : ∀ t : Fin grid0.N, _)

theorem index4 : ∀ t : Fin cfg0.N, win0_4.index t (0 : Fin 3) = 0 ∧ win0_4.index t (1 : Fin 3) = 0 ∧ win0_4.index t (2 : Fin 3) = 0 :=
  (by decide +kernel : ∀ t : Fin grid0.N, _)

theorem index5 : ∀ t : Fin cfg0.N, win0_5.index t (0 : Fin 2) = 0 ∧ win0_5.index t (1 : Fin 2) = 0 :=
  (by decide +kernel : ∀ t : Fin grid0.N, _)

theorem index6 : ∀ t : Fin cfg0.N, win0_6.index t (0 : Fin 3) = t.val / 16 ∧ win0_6.index t (1 : Fin 3) = t.val % 16 ∧ win0_6.index t (2 : Fin 3) = 0 :=
  (by decide +kernel : ∀ t : Fin grid0.N, _)

theorem index7 : ∀ t : Fin cfg0.N, win0_7.index t (0 : Fin 2) = 0 ∧ win0_7.index t (1 : Fin 2) = 0 :=
  (by decide +kernel : ∀ t : Fin grid0.N, _)

theorem index8 : ∀ t : Fin cfg0.N, win0_8.index t (0 : Fin 4) = t.val / 16 ∧ win0_8.index t (1 : Fin 4) = 0 ∧ win0_8.index t (2 : Fin 4) = t.val % 16 ∧ win0_8.index t (3 : Fin 4) = 0 :=
  (by decide +kernel : ∀ t : Fin grid0.N, _)

theorem index9 : ∀ t : Fin cfg0.N, win0_9.index t (0 : Fin 3) = t.val / 16 ∧ win0_9.index t (1 : Fin 3) = 0 ∧ win0_9.index t (2 : Fin 3) = t.val % 16 :=
  (by decide +kernel : ∀ t : Fin grid0.N, _)

theorem index10 : ∀ t : Fin cfg0.N, win0_10.index t (0 : Fin 4) = t.val / 16 ∧ win0_10.index t (1 : Fin 4) = 0 ∧ win0_10.index t (2 : Fin 4) = t.val % 16 ∧ win0_10.index t (3 : Fin 4) = 0 :=
  (by decide +kernel : ∀ t : Fin grid0.N, _)

theorem index11 : ∀ t : Fin cfg0.N, win0_11.index t (0 : Fin 3) = t.val / 16 ∧ win0_11.index t (1 : Fin 3) = 0 ∧ win0_11.index t (2 : Fin 3) = t.val % 16 :=
  (by decide +kernel : ∀ t : Fin grid0.N, _)

theorem emb0 (t : Fin cfg0.N) (h : Fin 20) : ((cfg0.win 0).blk t).view.emb (ix1 h : S20.Idx) = (ix1 h : S20.Idx) := by
  have e0 := index0 t
  funext a; apply Fin.ext
  match a with
  | ⟨0, _⟩ => show win0_0.index t (0 : Fin 1) * 20 + 1 * h.val = h.val; omega

theorem emb1 (t : Fin cfg0.N) (h : Fin 20) : ((cfg0.win 1).blk t).view.emb (ix1 h : S20.Idx) = (ix1 h : S20.Idx) := by
  have e0 := index1 t
  funext a; apply Fin.ext
  match a with
  | ⟨0, _⟩ => show win0_1.index t (0 : Fin 1) * 20 + 1 * h.val = h.val; omega

theorem emb2 (t : Fin cfg0.N) (n : Fin 512) (k : Fin 2560) :
    ((cfg0.win 2).blk t).view.emb (ix3 0 n k : S1x512x2560.Idx) = (ix3 (bat t) (row t n) k : S12x8192x2560.Idx) := by
  obtain ⟨e0, e1, e2⟩ := index2 t
  funext a; apply Fin.ext
  match a with
  | ⟨0, _⟩ => show win0_2.index t (0 : Fin 3) * 1 + 1 * 0 = t.val / 16; omega
  | ⟨1, _⟩ => show win0_2.index t (1 : Fin 3) * 512 + 1 * n.val = 512 * (t.val % 16) + n.val; omega
  | ⟨2, _⟩ => show win0_2.index t (2 : Fin 3) * 2560 + 1 * k.val = k.val; omega

theorem emb3 (t : Fin cfg0.N) (h : Fin 20) (k : Fin 2560) (d : Fin 128) :
    ((cfg0.win 3).blk t).view.emb (ix3 h k d : S20x2560x128.Idx) = (ix3 h k d : S20x2560x128.Idx) := by
  obtain ⟨e0, e1, e2⟩ := index3 t
  funext a; apply Fin.ext
  match a with
  | ⟨0, _⟩ => show win0_3.index t (0 : Fin 3) * 20 + 1 * h.val = h.val; omega
  | ⟨1, _⟩ => show win0_3.index t (1 : Fin 3) * 2560 + 1 * k.val = k.val; omega
  | ⟨2, _⟩ => show win0_3.index t (2 : Fin 3) * 128 + 1 * d.val = d.val; omega

theorem emb4 (t : Fin cfg0.N) (h : Fin 20) (k : Fin 2560) (d : Fin 128) :
    ((cfg0.win 4).blk t).view.emb (ix3 h k d : S20x2560x128.Idx) = (ix3 h k d : S20x2560x128.Idx) := by
  obtain ⟨e0, e1, e2⟩ := index4 t
  funext a; apply Fin.ext
  match a with
  | ⟨0, _⟩ => show win0_4.index t (0 : Fin 3) * 20 + 1 * h.val = h.val; omega
  | ⟨1, _⟩ => show win0_4.index t (1 : Fin 3) * 2560 + 1 * k.val = k.val; omega
  | ⟨2, _⟩ => show win0_4.index t (2 : Fin 3) * 128 + 1 * d.val = d.val; omega

theorem emb5 (t : Fin cfg0.N) (h : Fin 20) (d : Fin 128) :
    ((cfg0.win 5).blk t).view.emb (ix2 h d : S20x128.Idx) = (ix2 h d : S20x128.Idx) := by
  obtain ⟨e0, e1⟩ := index5 t
  funext a; apply Fin.ext
  match a with
  | ⟨0, _⟩ => show win0_5.index t (0 : Fin 2) * 20 + 1 * h.val = h.val; omega
  | ⟨1, _⟩ => show win0_5.index t (1 : Fin 2) * 128 + 1 * d.val = d.val; omega

theorem iblk0_at (c : Dev nD) (t : Fin cfg0.N) (h : Fin 20) : iblk m c 0 t (ix1 h : S20.Idx) = X2 m c (ix1 h) := by
  show V m c main_arg2 (((cfg0.win 0).blk t).view.emb (ix1 h : S20.Idx)) = _
  rw [emb0, V_main_arg2]

theorem iblk1_at (c : Dev nD) (t : Fin cfg0.N) (h : Fin 20) : iblk m c 1 t (ix1 h : S20.Idx) = X4 m c (ix1 h) := by
  show V m c main_arg4 (((cfg0.win 1).blk t).view.emb (ix1 h : S20.Idx)) = _
  rw [emb1, V_main_arg4]

theorem iblk2_at (c : Dev nD) (t : Fin cfg0.N) (n : Fin 512) (k : Fin 2560) :
    iblk m c 2 t (ix3 0 n k : S1x512x2560.Idx) = X0 m c (ix3 (bat t) (row t n) k) := by
  show V m c main_arg0 (((cfg0.win 2).blk t).view.emb (ix3 0 n k : S1x512x2560.Idx)) = _
  rw [emb2, V_main_arg0]

theorem iblk3_at (c : Dev nD) (t : Fin cfg0.N) (h : Fin 20) (k : Fin 2560) (d : Fin 128) :
    iblk m c 3 t (ix3 h k d : S20x2560x128.Idx) = X1 m c (ix3 k h d) := by
  show V m c main_v0 (((cfg0.win 3).blk t).view.emb (ix3 h k d : S20x2560x128.Idx)) = _
  rw [emb3, V_main_v0]
  exact trW _ h k d

theorem iblk4_at (c : Dev nD) (t : Fin cfg0.N) (h : Fin 20) (k : Fin 2560) (d : Fin 128) :
    iblk m c 4 t (ix3 h k d : S20x2560x128.Idx) = X3 m c (ix3 k h d) := by
  show V m c main_v1 (((cfg0.win 4).blk t).view.emb (ix3 h k d : S20x2560x128.Idx)) = _
  rw [emb4, V_main_v1]
  exact trW _ h k d

theorem iblk5_at (c : Dev nD) (t : Fin cfg0.N) (h : Fin 20) (d : Fin 128) :
    iblk m c 5 t (ix2 h d : S20x128.Idx) = X5 m c (ix2 h d) := by
  show V m c main_arg5 (((cfg0.win 5).blk t).view.emb (ix2 h d : S20x128.Idx)) = _
  rw [emb5, V_main_arg5]

/-! ## What the body leaves at an index -/

theorem colAt_at (c : Dev nD) (t : Fin cfg0.N) (n : Fin 512) :
    colAt m c t (ix2 n 0) = rowScale fun k => X0 m c (ix3 (bat t) (row t n) k) := by
  unfold colAt
  refine (xsCol_rd_at _ _ _ n).trans ?_
  exact congrArg rowScale (funext fun k => iblk2_at m c t n k)

theorem codeRows_at (c : Dev nD) (t : Fin cfg0.N) (n : Fin 512) (k : Fin 2560) :
    codeRows m c t (ix3 0 n k) = rowCode (fun k => X0 m c (ix3 (bat t) (row t n) k)) k := by
  unfold codeRows
  refine (xqBlk_at _ _ _ n k).trans ?_
  exact congrArg (fun f => rowCode f k) (funext fun k => iblk2_at m c t n k)

theorem scaleRow_at (c : Dev nD) (t : Fin cfg0.N) (n : Fin 512) :
    scaleRow m c t (ix2 0 n) = rowScale fun k => X0 m c (ix3 (bat t) (row t n) k) := by
  unfold scaleRow
  exact (castRow _ n).trans (colAt_at m c t n)

theorem acc_at (c : Dev nD) (t : Fin cfg0.N) (arg5 : Memref sig .tc .vmem S20x2560x128 .fp8e4m3) (harg5 : arg5.IsWhole) (x3 : Vec Ideal S20x2560x128 .fp8e4m3)
    (w : Vec Ideal S2560x20x128 .fp8e4m3) (hw : ∀ h k d, x3 (ix3 h k d) = w (ix3 k h d)) (h : ℕ) (hh : h < 20) (n : Fin 512) (d : Fin 128) :
    headAcc (shapeCast S512x2560 (codeRows m c t) shapeCasts_S1x512x2560_S512x2560) arg5 harg5 x3 h hh (ix2 n d)
      = ∑ k, rowCode (fun k => X0 m c (ix3 (bat t) (row t n) k)) k * w (ix3 k ⟨h, hh⟩ d) := by
  rw [headAcc_at]
  exact Finset.sum_congr rfl fun k _ => by rw [castQ, codeRows_at, hw]

theorem kAt_at (c : Dev nD) (t : Fin cfg0.N) (h : ℕ) (hh : h < 20) (n : Fin 512) (d : Fin 128) :
    kAt m c t h hh (ix2 n d) = keys (X0 m c) (X1 m c) (X2 m c) (bat t) (row t n) ⟨h, hh⟩ d := by
  unfold kAt kRaw
  rw [tileK_at, acc_at m c t _ _ _ (X1 m c) (iblk3_at m c t), colAt_at, rdS_at]
  exact congrArg (_ * ·) (iblk0_at m c t ⟨h, hh⟩)

theorem vAt_at (c : Dev nD) (t : Fin cfg0.N) (h : ℕ) (hh : h < 20) (n : Fin 512) (d : Fin 128) :
    vAt m c t h hh (ix2 n d) = vals (X0 m c) (X3 m c) (X4 m c) (X5 m c) (bat t) (row t n) ⟨h, hh⟩ d := by
  unfold vAt vRaw
  rw [tileV_at, acc_at m c t _ _ _ (X3 m c) (iblk4_at m c t), colAt_at, rdS_at, rdB_at]
  exact congrArg₂ (· + ·) (congrArg (_ * ·) (iblk1_at m c t ⟨h, hh⟩)) (iblk5_at m c t ⟨h, hh⟩ d)

theorem headsOf_codes_at (g : (h : ℕ) → h < 20 → FVec Ideal S512x128 .f32) (h : Fin 20) (n : Fin 512) (d : Fin 128) :
    headsOf (fun h : Fin 20 => codesOf (g h.val h.isLt)) (ix4 0 h n d) = rowCode (fun d => g h.val h.isLt (ix2 n d)) d :=
  codesOf_at (g h.val h.isLt) n d

theorem lanes_scale_at (g : (h : ℕ) → h < 20 → FVec Ideal S512x128 .f32) (h : Fin 20) (n : Fin 512) :
    headScales (lanes (amaxAt g) 20) (ix3 0 h n) = rowScale (fun d => g h.val h.isLt (ix2 n d)) := by
  rw [headScales_at, lanes_at _ _ _ 20 (by omega) h.isLt]
  have e : amaxAt g h.val = amaxOf (g h.val h.isLt) := dif_pos h.isLt
  show scale (amaxAt g h.val (ix2 n 0) * _) = _
  rw [e, amaxOf_at]
  rfl

theorem kCodes_at (c : Dev nD) (t : Fin cfg0.N) (h : Fin 20) (n : Fin 512) (d : Fin 128) :
    kCodes m c t (ix4 0 h n d) = rowCode (keys (X0 m c) (X1 m c) (X2 m c) (bat t) (row t n) h) d := by
  unfold kCodes
  refine (headsOf_codes_at (fun h hh => kAt m c t h hh) h n d).trans ?_
  exact congrArg (fun f => rowCode f d) (funext fun d => kAt_at m c t h.val h.isLt n d)

theorem vCodes_at (c : Dev nD) (t : Fin cfg0.N) (h : Fin 20) (n : Fin 512) (d : Fin 128) :
    vCodes m c t (ix4 0 h n d) = rowCode (vals (X0 m c) (X3 m c) (X4 m c) (X5 m c) (bat t) (row t n) h) d := by
  unfold vCodes
  refine (headsOf_codes_at (fun h hh => vAt m c t h hh) h n d).trans ?_
  exact congrArg (fun f => rowCode f d) (funext fun d => vAt_at m c t h.val h.isLt n d)

theorem kScales_at (c : Dev nD) (t : Fin cfg0.N) (h : Fin 20) (n : Fin 512) :
    kScales m c t (ix3 0 h n) = rowScale (keys (X0 m c) (X1 m c) (X2 m c) (bat t) (row t n) h) := by
  unfold kScales
  refine (lanes_scale_at (fun h hh => kAt m c t h hh) h n).trans ?_
  exact congrArg rowScale (funext fun d => kAt_at m c t h.val h.isLt n d)

theorem vScales_at (c : Dev nD) (t : Fin cfg0.N) (h : Fin 20) (n : Fin 512) :
    vScales m c t (ix3 0 h n) = rowScale (vals (X0 m c) (X3 m c) (X4 m c) (X5 m c) (bat t) (row t n) h) := by
  unfold vScales
  refine (lanes_scale_at (fun h hh => vAt m c t h hh) h n).trans ?_
  exact congrArg rowScale (funext fun d => vAt_at m c t h.val h.isLt n d)

end Cert.KernelIdeal.Hand

end
-- ==== Proof.Arrays.lean ====
module

public import proofs.«01_k».proof.Proof.Values
public import Idealize.ShloMosaic.Lib.Pipeline.Value

@[expose] public section

/-!
The kernel's arrays after the run, in exact arithmetic: the common value of the arguments.
-/

set_option maxRecDepth 16384

noncomputable section

namespace Cert.KernelIdeal.Hand

open Cert.KernelIdeal Cert.KernelIdeal.Gen Idealize.ShloMosaic.ValueIdx
open Idealize.ShloMosaic Idealize.ShloMosaic.TcCoe Idealize.SL.Sem
open Idealize.ShloMosaic.Pipeline (Dat RDat)
open Cert.Quant (scale lim rowScale rowCode key rowCodes rowScales keys vals headCodes)

variable (m : (ℓ : Loc nD τ sig) → Buf (Elt Ideal) ℓ)

theorem idx3 (j : S1x512x2560.Idx) : j = ix3 0 (j 1) (j 2) := by
  have h : (j 0).val < 1 := (j 0).isLt
  funext a; apply Fin.ext
  match a with
  | ⟨0, _⟩ => show (j 0).val = 0; omega
  | ⟨1, _⟩ => rfl
  | ⟨2, _⟩ => rfl

theorem idxS (j : S1x20x512.Idx) : j = ix3 0 (j 1) (j 2) := by
  have h : (j 0).val < 1 := (j 0).isLt
  funext a; apply Fin.ext
  match a with
  | ⟨0, _⟩ => show (j 0).val = 0; omega
  | ⟨1, _⟩ => rfl
  | ⟨2, _⟩ => rfl

theorem idx4 (j : S1x20x512x128.Idx) : j = ix4 0 (j 1) (j 2) (j 3) := by
  have h : (j 0).val < 1 := (j 0).isLt
  funext a; apply Fin.ext
  match a with
  | ⟨0, _⟩ => show (j 0).val = 0; omega
  | ⟨1, _⟩ => rfl
  | ⟨2, _⟩ => rfl
  | ⟨3, _⟩ => rfl

/-- The point that holds row `n` of batch `B`, and the row's place in it. -/
abbrev pt (B : Fin 12) (n : Fin 8192) : Fin cfg0.N := ⟨16 * B.val + n.val / 512, by show 16 * B.val + n.val / 512 < 192; omega⟩
abbrev loc (n : Fin 8192) : Fin 512 := ⟨n.val % 512, by omega⟩

theorem bat_pt (B : Fin 12) (n : Fin 8192) : bat (pt B n) = B :=
  Fin.ext (by show (16 * B.val + n.val / 512) / 16 = B.val; omega)

theorem row_pt (B : Fin 12) (n : Fin 8192) : row (pt B n) (loc n) = n :=
  Fin.ext (by show 512 * ((16 * B.val + n.val / 512) % 16) + n.val % 512 = n.val; omega)

theorem emb6 (t : Fin cfg0.N) (n : Fin 512) (k : Fin 2560) :
    ((cfg0.win 6).blk t).view.emb (ix3 0 n k : S1x512x2560.Idx) = (ix3 (bat t) (row t n) k : S12x8192x2560.Idx) := by
  obtain ⟨e0, e1, e2⟩ := index6 t
  funext a; apply Fin.ext
  match a with
  | ⟨0, _⟩ => show win0_6.index t (0 : Fin 3) * 1 + 1 * 0 = t.val / 16; omega
  | ⟨1, _⟩ => show win0_6.index t (1 : Fin 3) * 512 + 1 * n.val = 512 * (t.val % 16) + n.val; omega
  | ⟨2, _⟩ => show win0_6.index t (2 : Fin 3) * 2560 + 1 * k.val = k.val; omega

theorem emb7 (t : Fin cfg0.N) (j : S12x8192.Idx) : ((cfg0.win 7).blk t).view.emb j = j := by
  obtain ⟨e0, e1⟩ := index7 t
  funext a; apply Fin.ext
  match a with
  | ⟨0, _⟩ => show win0_7.index t (0 : Fin 2) * 12 + 1 * (j 0).val = (j 0).val; omega
  | ⟨1, _⟩ => show win0_7.index t (1 : Fin 2) * 8192 + 1 * (j 1).val = (j 1).val; omega

theorem emb8 (t : Fin cfg0.N) (h : Fin 20) (n : Fin 512) (d : Fin 128) :
    ((cfg0.win 8).blk t).view.emb (ix4 0 h n d : S1x20x512x128.Idx) = (ix4 (bat t) h (row t n) d : S12x20x8192x128.Idx) := by
  obtain ⟨e0, e1, e2, e3⟩ := index8 t
  funext a; apply Fin.ext
  match a with
  | ⟨0, _⟩ => show win0_8.index t (0 : Fin 4) * 1 + 1 * 0 = t.val / 16; omega
  | ⟨1, _⟩ => show win0_8.index t (1 : Fin 4) * 20 + 1 * h.val = h.val; omega
  | ⟨2, _⟩ => show win0_8.index t (2 : Fin 4) * 512 + 1 * n.val = 512 * (t.val % 16) + n.val; omega
  | ⟨3, _⟩ => show win0_8.index t (3 : Fin 4) * 128 + 1 * d.val = d.val; omega

theorem emb9 (t : Fin cfg0.N) (h : Fin 20) (n : Fin 512) :
    ((cfg0.win 9).blk t).view.emb (ix3 0 h n : S1x20x512.Idx) = (ix3 (bat t) h (row t n) : S12x20x8192.Idx) := by
  obtain ⟨e0, e1, e2⟩ := index9 t
  funext a; apply Fin.ext
  match a with
  | ⟨0, _⟩ => show win0_9.index t (0 : Fin 3) * 1 + 1 * 0 = t.val / 16; omega
  | ⟨1, _⟩ => show win0_9.index t (1 : Fin 3) * 20 + 1 * h.val = h.val; omega
  | ⟨2, _⟩ => show win0_9.index t (2 : Fin 3) * 512 + 1 * n.val = 512 * (t.val % 16) + n.val; omega

theorem emb10 (t : Fin cfg0.N) (h : Fin 20) (n : Fin 512) (d : Fin 128) :
    ((cfg0.win 10).blk t).view.emb (ix4 0 h n d : S1x20x512x128.Idx) = (ix4 (bat t) h (row t n) d : S12x20x8192x128.Idx) := by
  obtain ⟨e0, e1, e2, e3⟩ := index10 t
  funext a; apply Fin.ext
  match a with
  | ⟨0, _⟩ => show win0_10.index t (0 : Fin 4) * 1 + 1 * 0 = t.val / 16; omega
  | ⟨1, _⟩ => show win0_10.index t (1 : Fin 4) * 20 + 1 * h.val = h.val; omega
  | ⟨2, _⟩ => show win0_10.index t (2 : Fin 4) * 512 + 1 * n.val = 512 * (t.val % 16) + n.val; omega
  | ⟨3, _⟩ => show win0_10.index t (3 : Fin 4) * 128 + 1 * d.val = d.val; omega

theorem emb11 (t : Fin cfg0.N) (h : Fin 20) (n : Fin 512) :
    ((cfg0.win 11).blk t).view.emb (ix3 0 h n : S1x20x512.Idx) = (ix3 (bat t) h (row t n) : S12x20x8192.Idx) := by
  obtain ⟨e0, e1, e2⟩ := index11 t
  funext a; apply Fin.ext
  match a with
  | ⟨0, _⟩ => show win0_11.index t (0 : Fin 3) * 1 + 1 * 0 = t.val / 16; omega
  | ⟨1, _⟩ => show win0_11.index t (1 : Fin 3) * 20 + 1 * h.val = h.val; omega
  | ⟨2, _⟩ => show win0_11.index t (2 : Fin 3) * 512 + 1 * n.val = 512 * (t.val % 16) + n.val; omega

theorem emb6_pt (B : Fin 12) (n : Fin 8192) (k : Fin 2560) :
    ((cfg0.win 6).blk (pt B n)).view.emb (ix3 0 (loc n) k : S1x512x2560.Idx) = (ix3 B n k : S12x8192x2560.Idx) := by
  rw [emb6, bat_pt, row_pt]

theorem scaleRow_pt (c : Dev nD) (B : Fin 12) (n : Fin 8192) :
    scaleRow m c (pt B n) (ix2 0 (loc n)) = rowScale fun k => X0 m c (ix3 B n k) := by
  rw [scaleRow_at, bat_pt, row_pt]

theorem covered6 (i : S12x8192x2560.Idx) : ∃ t : Fin cfg0.N, (cfg0.win 6).flush t = true ∧ i ∈ ((cfg0.win 6).blk t).view.set := by
  refine ⟨pt (i 0) (i 1), flush0_6 _, ?_⟩
  have h := ((cfg0.win 6).blk (pt (i 0) (i 1))).view.emb_mem_set (ix3 0 (loc (i 1)) (i 2) : S1x512x2560.Idx)
  have e := emb6_pt (i 0) (i 1) (i 2)
  exact (congrArg (· ∈ ((cfg0.win 6).blk (pt (i 0) (i 1))).view.set) (e.trans (eq_ix3 i).symm)).mp h

theorem covered7 (i : S12x8192.Idx) : ∃ t : Fin cfg0.N, (cfg0.win 7).flush t = true ∧ i ∈ ((cfg0.win 7).blk t).view.set := by
  refine ⟨⟨191, by decide⟩, (flush0_7 _).mpr rfl, ?_⟩
  have h := ((cfg0.win 7).blk ⟨191, by decide⟩).view.emb_mem_set i
  rwa [emb7] at h

theorem emb8_pt (B : Fin 12) (h : Fin 20) (n : Fin 8192) (d : Fin 128) :
    ((cfg0.win 8).blk (pt B n)).view.emb (ix4 0 h (loc n) d : S1x20x512x128.Idx) = (ix4 B h n d : S12x20x8192x128.Idx) := by
  rw [emb8, bat_pt, row_pt]

theorem emb9_pt (B : Fin 12) (h : Fin 20) (n : Fin 8192) :
    ((cfg0.win 9).blk (pt B n)).view.emb (ix3 0 h (loc n) : S1x20x512.Idx) = (ix3 B h n : S12x20x8192.Idx) := by
  rw [emb9, bat_pt, row_pt]

theorem covered8 (i : S12x20x8192x128.Idx) : ∃ t : Fin cfg0.N, (cfg0.win 8).flush t = true ∧ i ∈ ((cfg0.win 8).blk t).view.set := by
  refine ⟨pt (i 0) (i 2), flush0_8 _, ?_⟩
  have h := ((cfg0.win 8).blk (pt (i 0) (i 2))).view.emb_mem_set (ix4 0 (i 1) (loc (i 2)) (i 3) : S1x20x512x128.Idx)
  have e := emb8_pt (i 0) (i 1) (i 2) (i 3)
  exact (congrArg (· ∈ ((cfg0.win 8).blk (pt (i 0) (i 2))).view.set) (e.trans (eq_ix4 i).symm)).mp h

theorem covered9 (i : S12x20x8192.Idx) : ∃ t : Fin cfg0.N, (cfg0.win 9).flush t = true ∧ i ∈ ((cfg0.win 9).blk t).view.set := by
  refine ⟨pt (i 0) (i 2), flush0_9 _, ?_⟩
  have h := ((cfg0.win 9).blk (pt (i 0) (i 2))).view.emb_mem_set (ix3 0 (i 1) (loc (i 2)) : S1x20x512.Idx)
  have e := emb9_pt (i 0) (i 1) (i 2)
  exact (congrArg (· ∈ ((cfg0.win 9).blk (pt (i 0) (i 2))).view.set) (e.trans (eq_ix3 i).symm)).mp h

theorem emb10_pt (B : Fin 12) (h : Fin 20) (n : Fin 8192) (d : Fin 128) :
    ((cfg0.win 10).blk (pt B n)).view.emb (ix4 0 h (loc n) d : S1x20x512x128.Idx) = (ix4 B h n d : S12x20x8192x128.Idx) := by
  rw [emb10, bat_pt, row_pt]

theorem emb11_pt (B : Fin 12) (h : Fin 20) (n : Fin 8192) :
    ((cfg0.win 11).blk (pt B n)).view.emb (ix3 0 h (loc n) : S1x20x512.Idx) = (ix3 B h n : S12x20x8192.Idx) := by
  rw [emb11, bat_pt, row_pt]

theorem covered10 (i : S12x20x8192x128.Idx) : ∃ t : Fin cfg0.N, (cfg0.win 10).flush t = true ∧ i ∈ ((cfg0.win 10).blk t).view.set := by
  refine ⟨pt (i 0) (i 2), flush0_10 _, ?_⟩
  have h := ((cfg0.win 10).blk (pt (i 0) (i 2))).view.emb_mem_set (ix4 0 (i 1) (loc (i 2)) (i 3) : S1x20x512x128.Idx)
  have e := emb10_pt (i 0) (i 1) (i 2) (i 3)
  exact (congrArg (· ∈ ((cfg0.win 10).blk (pt (i 0) (i 2))).view.set) (e.trans (eq_ix4 i).symm)).mp h

theorem covered11 (i : S12x20x8192.Idx) : ∃ t : Fin cfg0.N, (cfg0.win 11).flush t = true ∧ i ∈ ((cfg0.win 11).blk t).view.set := by
  refine ⟨pt (i 0) (i 2), flush0_11 _, ?_⟩
  have h := ((cfg0.win 11).blk (pt (i 0) (i 2))).view.emb_mem_set (ix3 0 (i 1) (loc (i 2)) : S1x20x512.Idx)
  have e := emb11_pt (i 0) (i 1) (i 2)
  exact (congrArg (· ∈ ((cfg0.win 11).blk (pt (i 0) (i 2))).view.set) (e.trans (eq_ix3 i).symm)).mp h

theorem leaves6 (c : Dev nD) (t : Fin cfg0.N) (X : (cfg0.win 6).block.Idx → Elt Ideal (cfg0.win 6).elt)
    (hL : (rdats m c).Leaves 6 t X) : X = (dats m 0 c).after 6 t := by
  obtain ⟨Y, _, hX⟩ := hL
  rw [(dats m 0 c).toRRel_after_of_eq_false (show marked 6 = false from rfl)] at hX
  exact ((Dat.Leaves.live_iff _ (.inr (flush0_6 t))).mp hX)

theorem leaves8 (c : Dev nD) (t : Fin cfg0.N) (X : (cfg0.win 8).block.Idx → Elt Ideal (cfg0.win 8).elt)
    (hL : (rdats m c).Leaves 8 t X) : X = (dats m 0 c).after 8 t := by
  obtain ⟨Y, _, hX⟩ := hL
  rw [(dats m 0 c).toRRel_after_of_eq_false (show marked 8 = false from rfl)] at hX
  exact ((Dat.Leaves.live_iff _ (.inr (flush0_8 t))).mp hX)

theorem leaves9 (c : Dev nD) (t : Fin cfg0.N) (X : (cfg0.win 9).block.Idx → Elt Ideal (cfg0.win 9).elt)
    (hL : (rdats m c).Leaves 9 t X) : X = (dats m 0 c).after 9 t := by
  obtain ⟨Y, _, hX⟩ := hL
  rw [(dats m 0 c).toRRel_after_of_eq_false (show marked 9 = false from rfl)] at hX
  exact ((Dat.Leaves.live_iff _ (.inr (flush0_9 t))).mp hX)

theorem leaves10 (c : Dev nD) (t : Fin cfg0.N) (X : (cfg0.win 10).block.Idx → Elt Ideal (cfg0.win 10).elt)
    (hL : (rdats m c).Leaves 10 t X) : X = (dats m 0 c).after 10 t := by
  obtain ⟨Y, _, hX⟩ := hL
  rw [(dats m 0 c).toRRel_after_of_eq_false (show marked 10 = false from rfl)] at hX
  exact ((Dat.Leaves.live_iff _ (.inr (flush0_10 t))).mp hX)

theorem leaves11 (c : Dev nD) (t : Fin cfg0.N) (X : (cfg0.win 11).block.Idx → Elt Ideal (cfg0.win 11).elt)
    (hL : (rdats m c).Leaves 11 t X) : X = (dats m 0 c).after 11 t := by
  obtain ⟨Y, _, hX⟩ := hL
  rw [(dats m 0 c).toRRel_after_of_eq_false (show marked 11 = false from rfl)] at hX
  exact ((Dat.Leaves.live_iff _ (.inr (flush0_11 t))).mp hX)

theorem array6 (c : Dev nD) (after : (w' : Fin cfg0.W) → Fin cfg0.N → (cfg0.win w').block.Idx → Elt Ideal (cfg0.win w').elt)
    (hL : ∀ t, after 6 t = (dats m 0 c).after 6 t) : ((rdats m c).withAfter after).arrAt 6 cfg0.N = rowCodes (X0 m c) := by
  refine Dat.arrAt_eq_of_cover ((rdats m c).withAfter after) 6 (rowCodes (X0 m c)) (fun t _ => ?_) covered6
  funext j
  show after 6 t j = (rowCodes (X0 m c)) (((cfg0.win 6).blk t).view.emb j)
  rw [hL, after0_6, idx3 j]
  exact (codeRows_at m c t (j 1) (j 2)).trans (congrArg (rowCodes (X0 m c)) (emb6 t (j 1) (j 2))).symm

theorem array8 (c : Dev nD) (after : (w' : Fin cfg0.W) → Fin cfg0.N → (cfg0.win w').block.Idx → Elt Ideal (cfg0.win w').elt)
    (hL : ∀ t, after 8 t = (dats m 0 c).after 8 t) : ((rdats m c).withAfter after).arrAt 8 cfg0.N = headCodes (keys (X0 m c) (X1 m c) (X2 m c)) := by
  refine Dat.arrAt_eq_of_cover ((rdats m c).withAfter after) 8 (headCodes (keys (X0 m c) (X1 m c) (X2 m c))) (fun t _ => ?_) covered8
  funext j
  show after 8 t j = (headCodes (keys (X0 m c) (X1 m c) (X2 m c))) (((cfg0.win 8).blk t).view.emb j)
  rw [hL, after0_8, idx4 j]
  exact (kCodes_at m c t (j 1) (j 2) (j 3)).trans (congrArg (headCodes (keys (X0 m c) (X1 m c) (X2 m c))) (emb8 t (j 1) (j 2) (j 3))).symm

theorem array9 (c : Dev nD) (after : (w' : Fin cfg0.W) → Fin cfg0.N → (cfg0.win w').block.Idx → Elt Ideal (cfg0.win w').elt)
    (hL : ∀ t, after 9 t = (dats m 0 c).after 9 t) : ((rdats m c).withAfter after).arrAt 9 cfg0.N = Cert.Quant.headScales (keys (X0 m c) (X1 m c) (X2 m c)) := by
  refine Dat.arrAt_eq_of_cover ((rdats m c).withAfter after) 9 (Cert.Quant.headScales (keys (X0 m c) (X1 m c) (X2 m c))) (fun t _ => ?_) covered9
  funext j
  show after 9 t j = (Cert.Quant.headScales (keys (X0 m c) (X1 m c) (X2 m c))) (((cfg0.win 9).blk t).view.emb j)
  rw [hL, after0_9, idxS j]
  exact (kScales_at m c t (j 1) (j 2)).trans (congrArg (Cert.Quant.headScales (keys (X0 m c) (X1 m c) (X2 m c))) (emb9 t (j 1) (j 2))).symm

theorem array10 (c : Dev nD) (after : (w' : Fin cfg0.W) → Fin cfg0.N → (cfg0.win w').block.Idx → Elt Ideal (cfg0.win w').elt)
    (hL : ∀ t, after 10 t = (dats m 0 c).after 10 t) : ((rdats m c).withAfter after).arrAt 10 cfg0.N = headCodes (vals (X0 m c) (X3 m c) (X4 m c) (X5 m c)) := by
  refine Dat.arrAt_eq_of_cover ((rdats m c).withAfter after) 10 (headCodes (vals (X0 m c) (X3 m c) (X4 m c) (X5 m c))) (fun t _ => ?_) covered10
  funext j
  show after 10 t j = (headCodes (vals (X0 m c) (X3 m c) (X4 m c) (X5 m c))) (((cfg0.win 10).blk t).view.emb j)
  rw [hL, after0_10, idx4 j]
  exact (vCodes_at m c t (j 1) (j 2) (j 3)).trans (congrArg (headCodes (vals (X0 m c) (X3 m c) (X4 m c) (X5 m c))) (emb10 t (j 1) (j 2) (j 3))).symm

theorem array11 (c : Dev nD) (after : (w' : Fin cfg0.W) → Fin cfg0.N → (cfg0.win w').block.Idx → Elt Ideal (cfg0.win w').elt)
    (hL : ∀ t, after 11 t = (dats m 0 c).after 11 t) : ((rdats m c).withAfter after).arrAt 11 cfg0.N = Cert.Quant.headScales (vals (X0 m c) (X3 m c) (X4 m c) (X5 m c)) := by
  refine Dat.arrAt_eq_of_cover ((rdats m c).withAfter after) 11 (Cert.Quant.headScales (vals (X0 m c) (X3 m c) (X4 m c) (X5 m c))) (fun t _ => ?_) covered11
  funext j
  show after 11 t j = (Cert.Quant.headScales (vals (X0 m c) (X3 m c) (X4 m c) (X5 m c))) (((cfg0.win 11).blk t).view.emb j)
  rw [hL, after0_11, idxS j]
  exact (vScales_at m c t (j 1) (j 2)).trans (congrArg (Cert.Quant.headScales (vals (X0 m c) (X3 m c) (X4 m c) (X5 m c))) (emb11 t (j 1) (j 2))).symm

theorem array7 (c : Dev nD) (after : (w' : Fin cfg0.W) → Fin cfg0.N → (cfg0.win w').block.Idx → Elt Ideal (cfg0.win w').elt)
    (hL : ∀ t, (cfg0.win 7).flush t = true → rowsDone m c t (after 7 t)) : ((rdats m c).withAfter after).arrAt 7 cfg0.N = rowScales (X0 m c) := by
  refine Dat.arrAt_eq_of_cover ((rdats m c).withAfter after) 7 (rowScales (X0 m c)) (fun t hf => ?_) covered7
  funext j
  show after 7 t j = rowScales (X0 m c) (((cfg0.win 7).blk t).view.emb j)
  rw [emb7]
  have ht := (flush0_7 t).mp hf
  have hN : t.val < 192 := t.isLt
  have hr := hL t hf (pt (j 0) (j 1)) (by have : (pt (j 0) (j 1)).val < 192 := (pt (j 0) (j 1)).isLt; omega) (ix2 0 (loc (j 1)) : S1x512.Idx)
  have e : (rowRect (pt (j 0) (j 1))).emb (ix2 0 (loc (j 1)) : S1x512.Idx) = j := by
    funext a; apply Fin.ext
    match a with
    | ⟨0, _⟩ => exact (rowRect_emb0 _ _).trans (congrArg Fin.val (bat_pt (j 0) (j 1)))
    | ⟨1, _⟩ => exact (rowRect_emb1 _ _).trans (congrArg Fin.val (row_pt (j 0) (j 1)))
  rw [e] at hr
  exact hr.trans (scaleRow_pt m c (j 0) (j 1))

/-- Every run ends with the arrays at the common value of the arguments, which are unchanged. -/
theorem run (ρ : Dev nD → PrngReg) : θ_run defs (onTc (τ := τ) (main (F := Ideal))) ⟨m, fun _ => 0, ρ⟩ (fun r => ∀ c : Dev nD,
      r.2.mem ((c.tc : Thread nD τ).loc main_v2_0) = rowCodes (X0 m c)
      ∧ r.2.mem ((c.tc : Thread nD τ).loc main_v2_1) = rowScales (X0 m c)
      ∧ r.2.mem ((c.tc : Thread nD τ).loc main_v2_2) = headCodes (keys (X0 m c) (X1 m c) (X2 m c))
      ∧ r.2.mem ((c.tc : Thread nD τ).loc main_v2_3) = Cert.Quant.headScales (keys (X0 m c) (X1 m c) (X2 m c))
      ∧ r.2.mem ((c.tc : Thread nD τ).loc main_v2_4) = headCodes (vals (X0 m c) (X3 m c) (X4 m c) (X5 m c))
      ∧ r.2.mem ((c.tc : Thread nD τ).loc main_v2_5) = Cert.Quant.headScales (vals (X0 m c) (X3 m c) (X4 m c) (X5 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_main_quiescent m ρ)
  obtain ⟨after, hL, hA⟩ := RDat.FramePost.exists_exact h.1 c
  exact ⟨(hA 6).trans (array6 m c after fun t => leaves6 m c t _ (hL 6 t (flush0_6 t))),
    (hA 7).trans (array7 m c after fun t hf => (dats m 0 c).toRRel_leaves (w := 7) rfl (hL 7 t hf)),
    (hA 8).trans (array8 m c after fun t => leaves8 m c t _ (hL 8 t (flush0_8 t))),
    (hA 9).trans (array9 m c after fun t => leaves9 m c t _ (hL 9 t (flush0_9 t))),
    (hA 10).trans (array10 m c after fun t => leaves10 m c t _ (hL 10 t (flush0_10 t))),
    (hA 11).trans (array11 m c after fun t => leaves11 m c t _ (hL 11 t (flush0_11 t))),
    args_of m r h.1 c⟩

end Cert.KernelIdeal.Hand

end
-- ==== Proof.RefRun.lean ====
module

public import proofs.«01_k».proof.Proof.Gen.ReferenceIdeal.Frame
public import Idealize.ShloMosaic.Lib.Pipeline.Value

@[expose] public section

/-!
The reference's run, read: it has one grid point and every block is its whole array, so each result array ends as the
body's value of the arguments.
-/

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_4) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_5) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S12x8192x2560.Idx) : ((cfg0.win 0).blk t).view.emb j = j := by
  obtain ⟨e0, e1, e2⟩ := idx_zero0 t
  funext a; apply Fin.ext
  match a with
  | ⟨0, _⟩ => show win0_0.index t (0 : Fin 3) * 12 + 1 * (j 0).val = (j 0).val; omega
  | ⟨1, _⟩ => show win0_0.index t (1 : Fin 3) * 8192 + 1 * (j 1).val = (j 1).val; omega
  | ⟨2, _⟩ => show win0_0.index t (2 : Fin 3) * 2560 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S2560x20x128.Idx) : ((cfg0.win 1).blk t).view.emb j = j := by
  obtain ⟨e0, e1, e2⟩ := idx_zero1 t
  funext a; apply Fin.ext
  match a with
  | ⟨0, _⟩ => show win0_1.index t (0 : Fin 3) * 2560 + 1 * (j 0).val = (j 0).val; omega
  | ⟨1, _⟩ => show win0_1.index t (1 : Fin 3) * 20 + 1 * (j 1).val = (j 1).val; omega
  | ⟨2, _⟩ => show win0_1.index t (2 : Fin 3) * 128 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S20.Idx) : ((cfg0.win 2).blk t).view.emb j = j := by
  have e0 := idx_zero2 t
  funext a; apply Fin.ext
  match a with
  | ⟨0, _⟩ => show win0_2.index t (0 : Fin 1) * 20 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S2560x20x128.Idx) : ((cfg0.win 3).blk t).view.emb j = j := by
  obtain ⟨e0, e1, e2⟩ := idx_zero3 t
  funext a; apply Fin.ext
  match a with
  | ⟨0, _⟩ => show win0_3.index t (0 : Fin 3) * 2560 + 1 * (j 0).val = (j 0).val; omega
  | ⟨1, _⟩ => show win0_3.index t (1 : Fin 3) * 20 + 1 * (j 1).val = (j 1).val; omega
  | ⟨2, _⟩ => show win0_3.index t (2 : Fin 3) * 128 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S20.Idx) : ((cfg0.win 4).blk t).view.emb j = j := by
  have e0 := idx_zero4 t
  funext a; apply Fin.ext
  match a with
  | ⟨0, _⟩ => show win0_4.index t (0 : Fin 1) * 20 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S20x128.Idx) : ((cfg0.win 5).blk t).view.emb j = j := by
  obtain ⟨e0, e1⟩ := idx_zero5 t
  funext a; apply Fin.ext
  match a with
  | ⟨0, _⟩ => show win0_5.index t (0 : Fin 2) * 20 + 1 * (j 0).val = (j 0).val; omega
  | ⟨1, _⟩ => show win0_5.index t (1 : Fin 2) * 128 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S12x8192x2560.Idx) : ((cfg0.win 6).blk t).view.emb j = j := by
  obtain ⟨e0, e1, e2⟩ := idx_zero6 t
  funext a; apply Fin.ext
  match a with
  | ⟨0, _⟩ => show win0_6.index t (0 : Fin 3) * 12 + 1 * (j 0).val = (j 0).val; omega
  | ⟨1, _⟩ => show win0_6.index t (1 : Fin 3) * 8192 + 1 * (j 1).val = (j 1).val; omega
  | ⟨2, _⟩ => show win0_6.index t (2 : Fin 3) * 2560 + 1 * (j 2).val = (j 2).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S12x8192.Idx) : ((cfg0.win 7).blk t).view.emb j = j := by
  obtain ⟨e0, e1⟩ := idx_zero7 t
  funext a; apply Fin.ext
  match a with
  | ⟨0, _⟩ => show win0_7.index t (0 : Fin 2) * 12 + 1 * (j 0).val = (j 0).val; omega
  | ⟨1, _⟩ => show win0_7.index t (1 : Fin 2) * 8192 + 1 * (j 1).val = (j 1).val; omega

theorem hz8 : (![0, 0, 0, 0] : Fin 4 → Nat) = fun _ => 0 := funext fun a => by fin_cases a <;> rfl

/-- Window 8's block index at the one point is zero on every axis. -/
theorem idx_zero8 : ∀ t : Fin cfg0.N, win0_8.index t (0 : Fin 4) = 0 ∧ win0_8.index t (1 : Fin 4) = 0 ∧ win0_8.index t (2 : Fin 4) = 0 ∧ win0_8.index t (3 : Fin 4) = 0 :=
  (by decide +kernel : ∀ t : Fin grid0.N, _)

/-- An index of window 8's block is the same index of its array. -/
theorem emb8 (t : Fin cfg0.N) (j : S12x20x8192x128.Idx) : ((cfg0.win 8).blk t).view.emb j = j := by
  obtain ⟨e0, e1, e2, e3⟩ := idx_zero8 t
  funext a; apply Fin.ext
  match a with
  | ⟨0, _⟩ => show win0_8.index t (0 : Fin 4) * 12 + 1 * (j 0).val = (j 0).val; omega
  | ⟨1, _⟩ => show win0_8.index t (1 : Fin 4) * 20 + 1 * (j 1).val = (j 1).val; omega
  | ⟨2, _⟩ => show win0_8.index t (2 : Fin 4) * 8192 + 1 * (j 2).val = (j 2).val; omega
  | ⟨3, _⟩ => show win0_8.index t (3 : Fin 4) * 128 + 1 * (j 3).val = (j 3).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S12x20x8192.Idx) : ((cfg0.win 9).blk t).view.emb j = j := by
  obtain ⟨e0, e1, e2⟩ := idx_zero9 t
  funext a; apply Fin.ext
  match a with
  | ⟨0, _⟩ => show win0_9.index t (0 : Fin 3) * 12 + 1 * (j 0).val = (j 0).val; omega
  | ⟨1, _⟩ => show win0_9.index t (1 : Fin 3) * 20 + 1 * (j 1).val = (j 1).val; omega
  | ⟨2, _⟩ => show win0_9.index t (2 : Fin 3) * 8192 + 1 * (j 2).val = (j 2).val; omega

theorem hz10 : (![0, 0, 0, 0] : Fin 4 → Nat) = fun _ => 0 := funext fun a => by fin_cases a <;> rfl

/-- Window 10's block index at the one point is zero on every axis. -/
theorem idx_zero10 : ∀ t : Fin cfg0.N, win0_10.index t (0 : Fin 4) = 0 ∧ win0_10.index t (1 : Fin 4) = 0 ∧ win0_10.index t (2 : Fin 4) = 0 ∧ win0_10.index t (3 : Fin 4) = 0 :=
  (by decide +kernel : ∀ t : Fin grid0.N, _)

/-- An index of window 10's block is the same index of its array. -/
theorem emb10 (t : Fin cfg0.N) (j : S12x20x8192x128.Idx) : ((cfg0.win 10).blk t).view.emb j = j := by
  obtain ⟨e0, e1, e2, e3⟩ := idx_zero10 t
  funext a; apply Fin.ext
  match a with
  | ⟨0, _⟩ => show win0_10.index t (0 : Fin 4) * 12 + 1 * (j 0).val = (j 0).val; omega
  | ⟨1, _⟩ => show win0_10.index t (1 : Fin 4) * 20 + 1 * (j 1).val = (j 1).val; omega
  | ⟨2, _⟩ => show win0_10.index t (2 : Fin 4) * 8192 + 1 * (j 2).val = (j 2).val; omega
  | ⟨3, _⟩ => show win0_10.index t (3 : Fin 4) * 128 + 1 * (j 3).val = (j 3).val; omega

theorem hz11 : (![0, 0, 0] : Fin 3 → Nat) = fun _ => 0 := funext fun a => by fin_cases a <;> rfl

/-- Window 11's block index at the one point is zero on every axis. -/
theorem idx_zero11 : ∀ t : Fin cfg0.N, win0_11.index t (0 : Fin 3) = 0 ∧ win0_11.index t (1 : Fin 3) = 0 ∧ win0_11.index t (2 : Fin 3) = 0 :=
  (by decide +kernel : ∀ t : Fin grid0.N, _)

/-- An index of window 11's block is the same index of its array. -/
theorem emb11 (t : Fin cfg0.N) (j : S12x20x8192.Idx) : ((cfg0.win 11).blk t).view.emb j = j := by
  obtain ⟨e0, e1, e2⟩ := idx_zero11 t
  funext a; apply Fin.ext
  match a with
  | ⟨0, _⟩ => show win0_11.index t (0 : Fin 3) * 12 + 1 * (j 0).val = (j 0).val; omega
  | ⟨1, _⟩ => show win0_11.index t (1 : Fin 3) * 20 + 1 * (j 1).val = (j 1).val; omega
  | ⟨2, _⟩ => show win0_11.index t (2 : Fin 3) * 8192 + 1 * (j 2).val = (j 2).val; omega

/-! ### Output window 6: the array after the run -/

/-- What the window's array ends holding: `out0_6` applied to the argument arrays in place of the input blocks (a value that the
    frame states apart, `kK_payN a…`, keeps its loads inside its own definition). -/
abbrev G6 (a0 : Vec F S12x8192x2560 .bf16) (a1 : Vec F S2560x20x128 .fp8e4m3) (a2 : Vec F S20 .f32) (a3 : Vec F S2560x20x128 .fp8e4m3) (a4 : Vec F S20 .f32) (a5 : Vec F S20x128 .f32) : Vec F S12x8192x2560 .fp8e4m3 :=
  k0_pay16 (k0_pay35 a0 a1 a2 a3 a4 a5) (k0_pay36 a0 a1 a2 a3 a4 a5) (k0_pay38 a0 a1 a2 a3 a4 a5) (k0_pay39 a0 a1 a2 a3 a4 a5) (k0_pay40 a0 a1 a2 a3 a4 a5) (k0_pay41 a0 a1 a2 a3 a4 a5) (k0_pay42 a0 a1 a2 a3 a4 a5)

/-- The one store through the whole rectangle leaves its payload. -/
theorem out6_eq (a0 : Vec F S12x8192x2560 .bf16) (a1 : Vec F S2560x20x128 .fp8e4m3) (a2 : Vec F S20 .f32) (a3 : Vec F S2560x20x128 .fp8e4m3) (a4 : Vec F S20 .f32) (a5 : Vec F S20x128 .f32) : out0_6 (F := F) a0 a1 a2 a3 a4 a5 = G6 a0 a1 a2 a3 a4 a5 := by
  unfold out0_6
  rw [View.canon_unit_zero hz6]

/-- Cutting the point's block out of `X` and reading `X` through the block's view give the same. -/
theorem cut6_eq (t : Fin cfg0.N) (X : Vec F S12x8192x2560 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S12x8192x2560.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S12x8192x2560 .bf16) (a1 : Vec F S2560x20x128 .fp8e4m3) (a2 : Vec F S20 .f32) (a3 : Vec F S2560x20x128 .fp8e4m3) (a4 : Vec F S20 .f32) (a5 : Vec F S20x128 .f32) : Vec F S12x8192 .f32 :=
  k0_pay17 (k0_pay37 a0 a1 a2 a3 a4 a5)

/-- The one store through the whole rectangle leaves its payload. -/
theorem out7_eq (a0 : Vec F S12x8192x2560 .bf16) (a1 : Vec F S2560x20x128 .fp8e4m3) (a2 : Vec F S20 .f32) (a3 : Vec F S2560x20x128 .fp8e4m3) (a4 : Vec F S20 .f32) (a5 : Vec F S20x128 .f32) : out0_7 (F := F) a0 a1 a2 a3 a4 a5 = G7 a0 a1 a2 a3 a4 a5 := by
  unfold out0_7
  rw [View.canon_unit_zero hz7]

/-- Cutting the point's block out of `X` and reading `X` through the block's view give the same. -/
theorem cut7_eq (t : Fin cfg0.N) (X : Vec F S12x8192 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S12x8192.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S12x8192x2560 .bf16) (a1 : Vec F S2560x20x128 .fp8e4m3) (a2 : Vec F S20 .f32) (a3 : Vec F S2560x20x128 .fp8e4m3) (a4 : Vec F S20 .f32) (a5 : Vec F S20x128 .f32) : Vec F S12x20x8192x128 .fp8e4m3 :=
  k0_pay1 (k0_pay24 (k0_pay19 (k0_pay35 a0 a1 a2 a3 a4 a5) (k0_pay36 a0 a1 a2 a3 a4 a5) (k0_pay37 a0 a1 a2 a3 a4 a5) (k0_pay38 a0 a1 a2 a3 a4 a5) (k0_pay39 a0 a1 a2 a3 a4 a5) (k0_pay40 a0 a1 a2 a3 a4 a5) (k0_pay41 a0 a1 a2 a3 a4 a5) (k0_pay42 a0 a1 a2 a3 a4 a5) a1 a2) (k0_pay43 a0 a1 a2 a3 a4 a5) (k0_pay44 a0 a1 a2 a3 a4 a5) (k0_pay45 a0 a1 a2 a3 a4 a5))

/-- A load of the whole of a block reads the block, and the one store through the whole rectangle leaves its payload. -/
theorem out8_eq (a0 : Vec F S12x8192x2560 .bf16) (a1 : Vec F S2560x20x128 .fp8e4m3) (a2 : Vec F S20 .f32) (a3 : Vec F S2560x20x128 .fp8e4m3) (a4 : Vec F S20 .f32) (a5 : Vec F S20x128 .f32) : out0_8 (F := F) a0 a1 a2 a3 a4 a5 = G8 a0 a1 a2 a3 a4 a5 := by
  unfold out0_8
  rw [View.canon_unit_zero hz8, View.ld_unit_zero (S := S2560x20x128) hz1 _ a1, View.ld_unit_zero (S := S20) hz2 _ a2]

/-- Cutting the point's block out of `X` and reading `X` through the block's view give the same. -/
theorem cut8_eq (t : Fin cfg0.N) (X : Vec F S12x20x8192x128 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S12x20x8192x128.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ### Output window 9: the array after the run -/

/-- What the window's array ends holding: `out0_9` applied to the argument arrays in place of the input blocks (a value that the
    frame states apart, `kK_payN a…`, keeps its loads inside its own definition). -/
abbrev G9 (a0 : Vec F S12x8192x2560 .bf16) (a1 : Vec F S2560x20x128 .fp8e4m3) (a2 : Vec F S20 .f32) (a3 : Vec F S2560x20x128 .fp8e4m3) (a4 : Vec F S20 .f32) (a5 : Vec F S20x128 .f32) : Vec F S12x20x8192 .f32 :=
  k0_pay2 (k0_pay23 (k0_pay43 a0 a1 a2 a3 a4 a5) (k0_pay44 a0 a1 a2 a3 a4 a5) (k0_pay45 a0 a1 a2 a3 a4 a5))

/-- The one store through the whole rectangle leaves its payload. -/
theorem out9_eq (a0 : Vec F S12x8192x2560 .bf16) (a1 : Vec F S2560x20x128 .fp8e4m3) (a2 : Vec F S20 .f32) (a3 : Vec F S2560x20x128 .fp8e4m3) (a4 : Vec F S20 .f32) (a5 : Vec F S20x128 .f32) : out0_9 (F := F) a0 a1 a2 a3 a4 a5 = G9 a0 a1 a2 a3 a4 a5 := by
  unfold out0_9
  rw [View.canon_unit_zero hz9]

/-- Cutting the point's block out of `X` and reading `X` through the block's view give the same. -/
theorem cut9_eq (t : Fin cfg0.N) (X : Vec F S12x20x8192 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5)) := by
  show (cfg0.win 9).cut (grid0.coords t) ((dats m 0 c).after 9 t) = _
  rw [after0_9, out9_eq, iblk0_eq, iblk1_eq, iblk2_eq, iblk3_eq, iblk4_eq, iblk5_eq]
  exact cut9_eq t _

/-- Every index of the array is in the point's block. -/
theorem covered9 (i : S12x20x8192.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 9 (G9 (V m c main_arg0) (V m c main_arg1) (V m c main_arg2) (V m c main_arg3) (V m c main_arg4) (V m c main_arg5)) (fun t _ => flushed9_eq m c t) covered9).trans (by rw [V_main_arg0, V_main_arg1, V_main_arg2, V_main_arg3, V_main_arg4, V_main_arg5])

/-! ### Output window 10: the array after the run -/

/-- What the window's array ends holding: `out0_10` applied to the argument arrays in place of the input blocks (a value that the
    frame states apart, `kK_payN a…`, keeps its loads inside its own definition). -/
abbrev G10 (a0 : Vec F S12x8192x2560 .bf16) (a1 : Vec F S2560x20x128 .fp8e4m3) (a2 : Vec F S20 .f32) (a3 : Vec F S2560x20x128 .fp8e4m3) (a4 : Vec F S20 .f32) (a5 : Vec F S20x128 .f32) : Vec F S12x20x8192x128 .fp8e4m3 :=
  k0_pay3 (k0_pay27 (k0_pay46 a0 a1 a2 a3 a4 a5) (k0_pay47 a0 a1 a2 a3 a4 a5) a4 a5) (k0_pay28 (k0_pay46 a0 a1 a2 a3 a4 a5) (k0_pay47 a0 a1 a2 a3 a4 a5) a4 a5) (k0_pay31 (k0_pay46 a0 a1 a2 a3 a4 a5) (k0_pay47 a0 a1 a2 a3 a4 a5) a4 a5) (k0_pay33 (k0_pay46 a0 a1 a2 a3 a4 a5) (k0_pay47 a0 a1 a2 a3 a4 a5) a4 a5) (k0_pay34 (k0_pay46 a0 a1 a2 a3 a4 a5) (k0_pay47 a0 a1 a2 a3 a4 a5) a4 a5)

/-- A load of the whole of a block reads the block, and the one store through the whole rectangle leaves its payload. -/
theorem out10_eq (a0 : Vec F S12x8192x2560 .bf16) (a1 : Vec F S2560x20x128 .fp8e4m3) (a2 : Vec F S20 .f32) (a3 : Vec F S2560x20x128 .fp8e4m3) (a4 : Vec F S20 .f32) (a5 : Vec F S20x128 .f32) : out0_10 (F := F) a0 a1 a2 a3 a4 a5 = G10 a0 a1 a2 a3 a4 a5 := by
  unfold out0_10
  rw [View.canon_unit_zero hz10, View.ld_unit_zero (S := S20) hz4 _ a4, View.ld_unit_zero (S := S20x128) hz5 _ a5]

/-- Cutting the point's block out of `X` and reading `X` through the block's view give the same. -/
theorem cut10_eq (t : Fin cfg0.N) (X : Vec F S12x20x8192x128 .fp8e4m3) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5)) := by
  show (cfg0.win 10).cut (grid0.coords t) ((dats m 0 c).after 10 t) = _
  rw [after0_10, out10_eq, iblk0_eq, iblk1_eq, iblk2_eq, iblk3_eq, iblk4_eq, iblk5_eq]
  exact cut10_eq t _

/-- Every index of the array is in the point's block. -/
theorem covered10 (i : S12x20x8192x128.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 10 (G10 (V m c main_arg0) (V m c main_arg1) (V m c main_arg2) (V m c main_arg3) (V m c main_arg4) (V m c main_arg5)) (fun t _ => flushed10_eq m c t) covered10).trans (by rw [V_main_arg0, V_main_arg1, V_main_arg2, V_main_arg3, V_main_arg4, V_main_arg5])

/-! ### Output window 11: the array after the run -/

/-- What the window's array ends holding: `out0_11` applied to the argument arrays in place of the input blocks (a value that the
    frame states apart, `kK_payN a…`, keeps its loads inside its own definition). -/
abbrev G11 (a0 : Vec F S12x8192x2560 .bf16) (a1 : Vec F S2560x20x128 .fp8e4m3) (a2 : Vec F S20 .f32) (a3 : Vec F S2560x20x128 .fp8e4m3) (a4 : Vec F S20 .f32) (a5 : Vec F S20x128 .f32) : Vec F S12x20x8192 .f32 :=
  k0_pay4 (k0_pay32 (k0_pay46 a0 a1 a2 a3 a4 a5) (k0_pay47 a0 a1 a2 a3 a4 a5) a4 a5)

/-- A load of the whole of a block reads the block, and the one store through the whole rectangle leaves its payload. -/
theorem out11_eq (a0 : Vec F S12x8192x2560 .bf16) (a1 : Vec F S2560x20x128 .fp8e4m3) (a2 : Vec F S20 .f32) (a3 : Vec F S2560x20x128 .fp8e4m3) (a4 : Vec F S20 .f32) (a5 : Vec F S20x128 .f32) : out0_11 (F := F) a0 a1 a2 a3 a4 a5 = G11 a0 a1 a2 a3 a4 a5 := by
  unfold out0_11
  rw [View.canon_unit_zero hz11, View.ld_unit_zero (S := S20) hz4 _ a4, View.ld_unit_zero (S := S20x128) hz5 _ a5]

/-- Cutting the point's block out of `X` and reading `X` through the block's view give the same. -/
theorem cut11_eq (t : Fin cfg0.N) (X : Vec F S12x20x8192 .f32) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5)) := by
  show (cfg0.win 11).cut (grid0.coords t) ((dats m 0 c).after 11 t) = _
  rw [after0_11, out11_eq, iblk0_eq, iblk1_eq, iblk2_eq, iblk3_eq, iblk4_eq, iblk5_eq]
  exact cut11_eq t _

/-- Every index of the array is in the point's block. -/
theorem covered11 (i : S12x20x8192.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 11 (G11 (V m c main_arg0) (V m c main_arg1) (V m c main_arg2) (V m c main_arg3) (V m c main_arg4) (V m c main_arg5)) (fun t _ => flushed11_eq m c t) covered11).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_4) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_5) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      (post9 m r h c).trans (final9 m c),
      (post10 m r h c).trans (final10 m c),
      (post11 m r h c).trans (final11 m c),
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Hand

end
-- ==== Proof.RefValue.lean ====
module

public import proofs.«01_k».proof.Proof.Spec
public import proofs.«01_k».proof.Proof.RefRun
public import Idealize.ShloMosaic.Lib.MatmulPlain

@[expose] public section

/-!
The reference's body read at an index: its results are the common value.
-/

noncomputable section

namespace Cert.ReferenceIdeal.Hand

open Cert.ReferenceIdeal Cert.ReferenceIdeal.Gen Idealize.ShloMosaic.ValueIdx Cert.Quant
open Idealize.ShloMosaic

theorem lift3 (B : Fin 12) (n : Fin 8192) (k : Fin 2560) :
    reduces_S12x8192x2560_S12x8192.lift (ix2 B n) k = ix3 B n k := by
  funext a; apply Fin.ext; refine (Shape.Reduces.lift_val _ _ _ _).trans ?_
  match a with
  | ⟨0, _⟩ => rfl
  | ⟨1, _⟩ => rfl
  | ⟨2, _⟩ => rfl

theorem lift4 (B : Fin 12) (n : Fin 8192) (h : Fin 20) (d : Fin 128) :
    reduces_S12x8192x20x128_S12x8192x20.lift (ix3 B n h) d = ix4 B n h d := by
  funext a; apply Fin.ext; refine (Shape.Reduces.lift_val _ _ _ _).trans ?_
  match a with
  | ⟨0, _⟩ => rfl
  | ⟨1, _⟩ => rfl
  | ⟨2, _⟩ => rfl
  | ⟨3, _⟩ => rfl

section
variable {s : Shape} (t : FVec Ideal s .f32) (i : s.Idx)

/-- The exponent's text read at an index. -/
theorem expo_text : (addf (floor (divf (log t) (log (broadcast s (Scalar.ofBits (F := Ideal) .f32 0x40000000#32)))))
    (broadcast s (Scalar.ofBits (F := Ideal) .f32 0x3F800000#32))) i = expo (t i) := by
  rfl

/-- The scale's text read at an index. -/
theorem scale_text (e : FVec Ideal s .f32) (he : e i = expo (t i)) :
    select (cmpf .olt t (broadcast s (Scalar.ofBits (F := Ideal) .f32 0x7F000000#32)))
      (select (cmpf .olt t (broadcast s (Scalar.ofBits (F := Ideal) .f32 0x00800000#32))) (broadcast s (Scalar.ofBits (F := Ideal) .f32 0x3F800000#32)) (exp2 e))
      (select (cmpf .olt t (broadcast s (Scalar.ofBits (F := Ideal) .f32 0x7F800000#32))) (broadcast s (Scalar.ofBits (F := Ideal) .f32 0x7F800000#32))
        (broadcast s (Scalar.ofBits (F := Ideal) .f32 0x00000000#32))) i = scale (t i) := by
  rw [scale_sel, ← he]
  rfl

/-- The inverse's text read at an index. -/
theorem inv_text (e : FVec Ideal s .f32) (he : e i = expo (t i)) :
    select (cmpf .olt t (broadcast s (Scalar.ofBits (F := Ideal) .f32 0x7E800000#32)))
      (select (cmpf .olt t (broadcast s (Scalar.ofBits (F := Ideal) .f32 0x00800000#32))) (broadcast s (Scalar.ofBits (F := Ideal) .f32 0x3F800000#32))
        (exp2 (subf (broadcast s (Scalar.ofBits (F := Ideal) .f32 0x00000000#32)) e)))
      (select (cmpf .olt t (broadcast s (Scalar.ofBits (F := Ideal) .f32 0x7F000000#32))) (broadcast s (Scalar.ofBits (F := Ideal) .f32 0x00000000#32))
        (select (cmpf .olt t (broadcast s (Scalar.ofBits (F := Ideal) .f32 0x7F800000#32))) (broadcast s (Scalar.ofBits (F := Ideal) .f32 0xFF800000#32))
          (broadcast s (Scalar.ofBits (F := Ideal) .f32 0xFF000000#32)))) i = inv (t i) := by
  rw [inv_sel, ← he]
  rfl

/-- A code's text read at an index. -/
theorem code_text (v : FVec Ideal s .f32) (h : FTy.fp8e4m3.bits < FTy.f32.bits) :
    truncf .fp8e4m3 (minimumf (broadcast s (Scalar.ofBits (F := Ideal) .f32 0x43E00000#32))
      (maximumf (broadcast s (Scalar.ofBits (F := Ideal) .f32 0xC3E00000#32)) (mulf t v))) h i = clip (t i * v i) := by
  rfl

end

/-- A fold of magnitudes. -/
theorem fold_amax {n : ℕ} (f g : Fin n → EReal) (h : ∀ k, g k = max (f k) (-(f k))) :
    (Finset.univ : Finset (Fin n)).fold max (FloatOps.ofBits (F := Ideal) .f32 0xFF800000#32) g = amax f := by
  rw [show g = fun k => max (f k) (-(f k)) from funext h]
  rfl

/-- The greatest magnitude of a row, the reduction's text. -/
theorem red3 (Y : FVec Ideal S12x8192x2560 .f32) (B : Fin 12) (n : Fin 8192) :
    multiReduction .maximumf [2] S12x8192 (absf Y) 0xFF800000#32 reduces_S12x8192x2560_S12x8192 (.inl rfl) rfl (ix2 B n) = amax fun k => Y (ix3 B n k) := by
  have h := Ideal.multiReduction_maximumf_single (absf Y) 0xFF800000#32 reduces_S12x8192x2560_S12x8192 (.inl rfl) rfl (ix2 B n)
  have g : ∀ k, (absf Y ∘ reduces_S12x8192x2560_S12x8192.lift (ix2 B n)) k = max (Y (ix3 B n k)) (-(Y (ix3 B n k))) := fun k => congrArg (absf Y) (lift3 B n k)
  exact h.trans (fold_amax (n := 2560) (fun k => Y (ix3 B n k)) _ g)

theorem cast3 (Z : FVec Ideal S12x8192 .f32) (B : Fin 12) (n : Fin 8192) :
    mulf (shapeCast S12x8192x1 Z shapeCasts_S12x8192_S12x8192x1) (broadcast S12x8192x1 (Scalar.ofBits (F := Ideal) .f32 0x3B124925#32)) (ix3 B n 0)
      = Z (ix2 B n) * Ideal.ofBits .f32 0x3B124925#32 := by
  have e : shapeCast S12x8192x1 Z shapeCasts_S12x8192_S12x8192x1 (ix3 B n 0) = Z (ix2 B n) := by
    refine shapeCast_apply _ _ _ _ ?_
    rw [Shape.rowMajor_val_two, Shape.rowMajor_val_three]
    show B.val * 8192 + n.val = (B.val * 8192 + n.val) * 1 + 0
    omega
  exact congrArg (· * Ideal.ofBits .f32 0x3B124925#32) e

/-- The limit's text of a row. -/
theorem lim3_text (Y : FVec Ideal S12x8192x2560 .f32) (B : Fin 12) (n : Fin 8192) :
    mulf (shapeCast S12x8192x1 (multiReduction .maximumf [2] S12x8192 (absf Y) 0xFF800000#32 reduces_S12x8192x2560_S12x8192 (.inl rfl) rfl) shapeCasts_S12x8192_S12x8192x1)
      (broadcast S12x8192x1 (Scalar.ofBits (F := Ideal) .f32 0x3B124925#32)) (ix3 B n 0) = lim fun k => Y (ix3 B n k) :=
  (cast3 _ B n).trans (congrArg (· * Ideal.ofBits .f32 0x3B124925#32) (red3 Y B n))

/-- The greatest magnitude of a row, the reduction's text. -/
theorem red4 (Y : FVec Ideal S12x8192x20x128 .f32) (B : Fin 12) (n : Fin 8192) (h : Fin 20) :
    multiReduction .maximumf [3] S12x8192x20 (absf Y) 0xFF800000#32 reduces_S12x8192x20x128_S12x8192x20 (.inl rfl) rfl (ix3 B n h) = amax fun k => Y (ix4 B n h k) := by
  have r := Ideal.multiReduction_maximumf_single (absf Y) 0xFF800000#32 reduces_S12x8192x20x128_S12x8192x20 (.inl rfl) rfl (ix3 B n h)
  have g : ∀ k, (absf Y ∘ reduces_S12x8192x20x128_S12x8192x20.lift (ix3 B n h)) k = max (Y (ix4 B n h k)) (-(Y (ix4 B n h k))) := fun k => congrArg (absf Y) (lift4 B n h k)
  exact r.trans (fold_amax (n := 128) (fun k => Y (ix4 B n h k)) _ g)

theorem cast4 (Z : FVec Ideal S12x8192x20 .f32) (B : Fin 12) (n : Fin 8192) (h : Fin 20) :
    mulf (shapeCast S12x8192x20x1 Z shapeCasts_S12x8192x20_S12x8192x20x1) (broadcast S12x8192x20x1 (Scalar.ofBits (F := Ideal) .f32 0x3B124925#32)) (ix4 B n h 0)
      = Z (ix3 B n h) * Ideal.ofBits .f32 0x3B124925#32 := by
  have e : shapeCast S12x8192x20x1 Z shapeCasts_S12x8192x20_S12x8192x20x1 (ix4 B n h 0) = Z (ix3 B n h) := by
    refine shapeCast_apply _ _ _ _ ?_
    rw [Shape.rowMajor_val_three, Shape.rowMajor_val_four]
    show (B.val * 8192 + n.val) * 20 + h.val = ((B.val * 8192 + n.val) * 20 + h.val) * 1 + 0
    omega
  exact congrArg (· * Ideal.ofBits .f32 0x3B124925#32) e

/-- The limit's text of a row. -/
theorem lim4_text (Y : FVec Ideal S12x8192x20x128 .f32) (B : Fin 12) (n : Fin 8192) (h : Fin 20) :
    mulf (shapeCast S12x8192x20x1 (multiReduction .maximumf [3] S12x8192x20 (absf Y) 0xFF800000#32 reduces_S12x8192x20x128_S12x8192x20 (.inl rfl) rfl) shapeCasts_S12x8192x20_S12x8192x20x1)
      (broadcast S12x8192x20x1 (Scalar.ofBits (F := Ideal) .f32 0x3B124925#32)) (ix4 B n h 0) = lim fun k => Y (ix4 B n h k) :=
  (cast4 _ B n h).trans (congrArg (· * Ideal.ofBits .f32 0x3B124925#32) (red4 Y B n h))

/-- A row's greatest magnitude over the limit. -/
theorem pay6_at (X : Vec Ideal S12x8192x2560 .bf16) (B : Fin 12) (n : Fin 8192) :
    k0_pay6 (F := Ideal) X (ix3 B n 0) = lim fun c => X (ix3 B n c) := by
  unfold k0_pay6
  exact lim3_text (k0_pay5 X) B n

theorem pay7_at (X : Vec Ideal S12x8192x2560 .bf16) (i : S12x8192x1.Idx) :
    k0_pay7 (F := Ideal) X i = expo (k0_pay6 (F := Ideal) X i) := by
  unfold k0_pay7
  exact expo_text _ i

/-- The scale of a row. -/
theorem pay10_at (X : Vec Ideal S12x8192x2560 .bf16) (B : Fin 12) (n : Fin 8192) :
    k0_pay10 (F := Ideal) X (ix3 B n 0) = rowScale fun c => X (ix3 B n c) := by
  unfold k0_pay10 k0_pay8
  exact (scale_text _ _ _ (pay7_at X _)).trans (congrArg scale (pay6_at X B n))

/-- The selected inverse of a row. -/
theorem inv_at (X : Vec Ideal S12x8192x2560 .bf16) (B : Fin 12) (n : Fin 8192) :
    select (k0_pay11 X) (k0_pay9 X) (select (k0_pay12 X) (broadcast S12x8192x1 (Scalar.ofBits (F := Ideal) .f32 0x00000000#32)) (select (k0_pay13 X) (k0_pay14 (F := Ideal)) (k0_pay15 (F := Ideal)))) (ix3 B n 0)
      = inv (lim fun c => X (ix3 B n c)) := by
  unfold k0_pay11 k0_pay9 k0_pay12 k0_pay13 k0_pay14 k0_pay15 k0_pay8
  exact (inv_text _ _ _ (pay7_at X _)).trans (congrArg inv (pay6_at X B n))

/-- A row's codes. -/
theorem code_at (X : Vec Ideal S12x8192x2560 .bf16) (B : Fin 12) (n : Fin 8192) (c : Fin 2560) :
    k0_pay16 (F := Ideal) (k0_pay5 X) (k0_pay9 X) (k0_pay11 X) (k0_pay12 X) (k0_pay13 X) (k0_pay14 (F := Ideal)) (k0_pay15 (F := Ideal)) (ix3 B n c)
      = rowCode (fun c => X (ix3 B n c)) c := by
  have e := (broadcastTo_apply (select (k0_pay11 X) (k0_pay9 X) (select (k0_pay12 X) (broadcast S12x8192x1 (Scalar.ofBits (F := Ideal) .f32 0x00000000#32)) (select (k0_pay13 X) (k0_pay14 (F := Ideal)) (k0_pay15 (F := Ideal)))))
    broadcasts_S12x8192x1_S12x8192x2560 (ix3 B n c) (ix3 B n 0) (by
      intro a
      match a with
      | ⟨0, _⟩ => rfl
      | ⟨1, _⟩ => rfl
      | ⟨2, _⟩ => rfl)).trans (inv_at X B n)
  unfold k0_pay16
  exact (code_text _ _ _ _).trans (congrArg (fun z => clip (X (ix3 B n c) * z)) e)

/-- The projection is the sum over the row. -/
theorem proj_at (Q : FVec Ideal S12x8192x2560 .fp8e4m3) (W : Vec Ideal S2560x20x128 .fp8e4m3) (B : Fin 12) (n : Fin 8192) (h : Fin 20) (d : Fin 128) :
    k0_pay25 (F := Ideal) Q W (ix4 B n h d) = ∑ c : Fin 2560, (Q (ix3 B n c) : EReal) * (W (ix3 c h d) : EReal) := by
  unfold k0_pay25
  have hr : B.val * 8192 + n.val < 98304 := by have := B.isLt; have := n.isLt; omega
  have hc : h.val * 128 + d.val < 2560 := by have := h.isLt; have := d.isLt; omega
  refine (shapeCast_apply _ _ (ix4 B n h d) (ix2 ⟨B.val * 8192 + n.val, hr⟩ ⟨h.val * 128 + d.val, hc⟩) ?_).trans ?_
  · rw [Shape.rowMajor_val_two, Shape.rowMajor_val_four]
    show (B.val * 8192 + n.val) * 2560 + (h.val * 128 + d.val) = ((B.val * 8192 + n.val) * 20 + h.val) * 128 + d.val
    omega
  · have e : dot_S98304x2560_S2560x2560_S98304x2560_1_0_0_1_n_n = DotDims.plain 98304 2560 2560 := rfl
    rw [e]
    refine (Ideal.matmul_plain_apply _ _ _ _ _ _).trans ?_
    have z : (constant S98304x2560 .f32 0x00000000#32 : FVec Ideal S98304x2560 .f32) (ix2 ⟨B.val * 8192 + n.val, hr⟩ ⟨h.val * 128 + d.val, hc⟩) = 0 := zero_f32
    rw [z, zero_add]
    refine Finset.sum_congr rfl fun c _ => ?_
    congr 1
    · refine shapeCast_apply _ _ _ (ix3 B n c) ?_
      rw [Shape.rowMajor_val_two, Shape.rowMajor_val_three]
      rfl
    · refine shapeCast_apply _ _ _ (ix3 c h d) ?_
      rw [Shape.rowMajor_val_two, Shape.rowMajor_val_three]
      show (c.val * 20 + h.val) * 128 + d.val = c.val * 2560 + (h.val * 128 + d.val)
      omega

/-- A row's scale, broadcast over the heads. -/
theorem scale4_at (X : Vec Ideal S12x8192x2560 .bf16) (B : Fin 12) (n : Fin 8192) (h : Fin 20) (d : Fin 128) :
    k0_pay26 (F := Ideal) (k0_pay18 (k0_pay10 X)) (ix4 B n h d) = rowScale fun c => X (ix3 B n c) := by
  unfold k0_pay26 k0_pay18
  refine (broadcastTo_apply _ _ (ix4 B n h d) (ix4 B n 0 0) ?_).trans ?_
  · intro a
    match a with
    | ⟨0, _⟩ => rfl
    | ⟨1, _⟩ => rfl
    | ⟨2, _⟩ => rfl
    | ⟨3, _⟩ => rfl
  · refine (shapeCast_apply _ _ (ix4 B n 0 0) (ix3 B n 0) ?_).trans (pay10_at X B n)
    rw [Shape.rowMajor_val_four, Shape.rowMajor_val_three]
    show (B.val * 8192 + n.val) * 1 + 0 = ((B.val * 8192 + n.val) * 1 + 0) * 1 + 0
    omega

/-- A head's weight scale, broadcast. -/
theorem head_at (S : Vec Ideal S20 .f32) (B : Fin 12) (n : Fin 8192) (h : Fin 20) (d : Fin 128) :
    broadcastTo S12x8192x20x128 (shapeCast S1x1x20x1 S shapeCasts_S20_S1x1x20x1) broadcasts_S1x1x20x1_S12x8192x20x128 (ix4 B n h d)
      = S (ix1 h) := by
  refine (broadcastTo_apply _ _ (ix4 B n h d) (ix4 0 0 h 0) ?_).trans ?_
  · intro a
    match a with
    | ⟨0, _⟩ => rfl
    | ⟨1, _⟩ => rfl
    | ⟨2, _⟩ => rfl
    | ⟨3, _⟩ => rfl
  · refine shapeCast_apply _ _ (ix4 0 0 h 0) (ix1 h) ?_
    rw [Shape.rowMajor_val_four, Shape.rowMajor_val_one]
    show h.val = ((0 * 1 + 0) * 20 + h.val) * 1 + 0
    omega

/-- A head's bias, broadcast. -/
theorem bias_at (S : Vec Ideal S20x128 .f32) (B : Fin 12) (n : Fin 8192) (h : Fin 20) (d : Fin 128) :
    broadcastTo S12x8192x20x128 (shapeCast S1x1x20x128 S shapeCasts_S20x128_S1x1x20x128) broadcasts_S1x1x20x128_S12x8192x20x128 (ix4 B n h d)
      = S (ix2 h d) := by
  refine (broadcastTo_apply _ _ (ix4 B n h d) (ix4 0 0 h d) ?_).trans ?_
  · intro a
    match a with
    | ⟨0, _⟩ => rfl
    | ⟨1, _⟩ => rfl
    | ⟨2, _⟩ => rfl
    | ⟨3, _⟩ => rfl
  · refine shapeCast_apply _ _ (ix4 0 0 h d) (ix2 h d) ?_
    rw [Shape.rowMajor_val_four, Shape.rowMajor_val_two]
    show h.val * 128 + d.val = ((0 * 1 + 0) * 20 + h.val) * 128 + d.val
    omega

section
variable (v1 : FVec Ideal S12x8192x2560 .f32) (v23 : FVec Ideal S12x8192x1 .f32) (v31 : FVec Ideal S12x8192x1 .f32) (v33 v35 v37 : IVec S12x8192x1 1)
  (v38 v39 : FVec Ideal S12x8192x1 .f32) (W : Vec Ideal S2560x20x128 .fp8e4m3) (S : Vec Ideal S20 .f32) (B : Fin 12) (n : Fin 8192) (h : Fin 20)

theorem pay19_text (d : Fin 128) : k0_pay19 v1 v23 v31 v33 v35 v37 v38 v39 W S (ix4 B n h d)
    = k0_pay25 (k0_pay16 v1 v23 v33 v35 v37 v38 v39) W (ix4 B n h d) * k0_pay26 (k0_pay18 v31) (ix4 B n h d) * S (ix1 h) := by
  unfold k0_pay19
  exact congrArg (k0_pay25 (k0_pay16 v1 v23 v33 v35 v37 v38 v39) W (ix4 B n h d) * k0_pay26 (k0_pay18 v31) (ix4 B n h d) * ·) (head_at S B n h d)

theorem pay20_at : k0_pay20 v1 v23 v31 v33 v35 v37 v38 v39 W S (ix4 B n h 0)
    = lim fun d => k0_pay19 v1 v23 v31 v33 v35 v37 v38 v39 W S (ix4 B n h d) := by
  unfold k0_pay20
  exact lim4_text _ B n h

theorem pay21_at (i : S12x8192x20x1.Idx) : k0_pay21 v1 v23 v31 v33 v35 v37 v38 v39 W S i
    = expo (k0_pay20 v1 v23 v31 v33 v35 v37 v38 v39 W S i) := by
  unfold k0_pay21
  exact expo_text _ i

/-- The keys' scales. -/
theorem pay23_at : k0_pay23 (k0_pay20 v1 v23 v31 v33 v35 v37 v38 v39 W S) (k0_pay21 v1 v23 v31 v33 v35 v37 v38 v39 W S)
      (k0_pay22 v1 v23 v31 v33 v35 v37 v38 v39 W S) (ix4 B n h 0)
    = rowScale fun d => k0_pay19 v1 v23 v31 v33 v35 v37 v38 v39 W S (ix4 B n h d) := by
  unfold k0_pay23 k0_pay22
  exact (scale_text _ _ _ (pay21_at v1 v23 v31 v33 v35 v37 v38 v39 W S _)).trans (congrArg scale (pay20_at v1 v23 v31 v33 v35 v37 v38 v39 W S B n h))

end

/-- The selection of an inverse, broadcast over a head's features. -/
theorem spread_at (V : FVec Ideal S12x8192x20x1 .f32) (B : Fin 12) (n : Fin 8192) (h : Fin 20) (d : Fin 128) :
    broadcastTo S12x8192x20x128 V broadcasts_S12x8192x20x1_S12x8192x20x128 (ix4 B n h d) = V (ix4 B n h 0) := by
  refine broadcastTo_apply _ _ _ _ ?_
  intro a
  match a with
  | ⟨0, _⟩ => rfl
  | ⟨1, _⟩ => rfl
  | ⟨2, _⟩ => rfl
  | ⟨3, _⟩ => rfl

/-- The keys' codes. -/
theorem pay24_at (v1 : FVec Ideal S12x8192x2560 .f32) (v23 : FVec Ideal S12x8192x1 .f32) (v31 : FVec Ideal S12x8192x1 .f32) (v33 v35 v37 : IVec S12x8192x1 1)
    (v38 v39 : FVec Ideal S12x8192x1 .f32) (W : Vec Ideal S2560x20x128 .fp8e4m3) (S : Vec Ideal S20 .f32) (B : Fin 12) (n : Fin 8192) (h : Fin 20) (d : Fin 128) :
    k0_pay24 (k0_pay19 v1 v23 v31 v33 v35 v37 v38 v39 W S) (k0_pay20 v1 v23 v31 v33 v35 v37 v38 v39 W S) (k0_pay21 v1 v23 v31 v33 v35 v37 v38 v39 W S)
      (k0_pay22 v1 v23 v31 v33 v35 v37 v38 v39 W S) (ix4 B n h d)
    = rowCode (fun d => k0_pay19 v1 v23 v31 v33 v35 v37 v38 v39 W S (ix4 B n h d)) d := by
  have i := inv_text (k0_pay20 v1 v23 v31 v33 v35 v37 v38 v39 W S) (ix4 B n h 0) _ (pay21_at v1 v23 v31 v33 v35 v37 v38 v39 W S _)
  rw [pay20_at] at i
  unfold k0_pay24 k0_pay22
  exact (code_text _ _ _ _).trans (congrArg (fun z => clip (k0_pay19 v1 v23 v31 v33 v35 v37 v38 v39 W S (ix4 B n h d) * z)) ((spread_at _ B n h d).trans i))

section
variable (P Q : FVec Ideal S12x8192x20x128 .f32) (S : Vec Ideal S20 .f32) (b : Vec Ideal S20x128 .f32) (B : Fin 12) (n : Fin 8192) (h : Fin 20)

theorem pay27_text (d : Fin 128) : k0_pay27 P Q S b (ix4 B n h d) = P (ix4 B n h d) * Q (ix4 B n h d) * S (ix1 h) + b (ix2 h d) := by
  unfold k0_pay27
  exact congrArg₂ (fun y z => P (ix4 B n h d) * Q (ix4 B n h d) * y + z) (head_at S B n h d) (bias_at b B n h d)

theorem pay28_at : k0_pay28 P Q S b (ix4 B n h 0) = lim fun d => k0_pay27 P Q S b (ix4 B n h d) := by
  unfold k0_pay28
  exact lim4_text _ B n h

theorem pay29_at (i : S12x8192x20x1.Idx) : k0_pay29 P Q S b i = expo (k0_pay28 P Q S b i) := by
  unfold k0_pay29
  exact expo_text _ i

/-- The values' scales. -/
theorem pay32_at : k0_pay32 P Q S b (ix4 B n h 0) = rowScale fun d => k0_pay27 P Q S b (ix4 B n h d) := by
  unfold k0_pay32 k0_pay30
  exact (scale_text _ _ _ (pay29_at P Q S b _)).trans (congrArg scale (pay28_at P Q S b B n h))

end

/-- Heads ahead of positions, with features. -/
theorem swap4_at (V : FVec Ideal S12x8192x20x128 .fp8e4m3) (B : Fin 12) (n : Fin 8192) (h : Fin 20) (d : Fin 128) :
    transpose S12x20x8192x128 [0, 2, 1, 3] V transposes_S12x8192x20x128_p0_2_1_3_S12x20x8192x128 (ix4 B h n d) = V (ix4 B n h d) := by
  refine transpose_apply _ _ _ _ _ ?_
  intro a
  match a with
  | ⟨0, _⟩ => rfl
  | ⟨1, _⟩ => rfl
  | ⟨2, _⟩ => rfl
  | ⟨3, _⟩ => rfl

/-- Heads ahead of positions, a scale each. -/
theorem swap3_at (V : FVec Ideal S12x8192x20x1 .f32) (B : Fin 12) (n : Fin 8192) (h : Fin 20) :
    transpose S12x20x8192 [0, 2, 1] (shapeCast S12x8192x20 V shapeCasts_S12x8192x20x1_S12x8192x20) transposes_S12x8192x20_p0_2_1_S12x20x8192 (ix3 B h n) = V (ix4 B n h 0) := by
  refine (transpose_apply _ _ _ _ (ix3 B n h) ?_).trans ?_
  · intro a
    match a with
    | ⟨0, _⟩ => rfl
    | ⟨1, _⟩ => rfl
    | ⟨2, _⟩ => rfl
  · refine shapeCast_apply _ _ _ _ ?_
    rw [Shape.rowMajor_val_four, Shape.rowMajor_val_three]
    show ((B.val * 8192 + n.val) * 20 + h.val) * 1 + 0 = (B.val * 8192 + n.val) * 20 + h.val
    omega

/-- The values' codes. -/
theorem pay3_at (P Q : FVec Ideal S12x8192x20x128 .f32) (S : Vec Ideal S20 .f32) (b : Vec Ideal S20x128 .f32) (B : Fin 12) (n : Fin 8192) (h : Fin 20) (d : Fin 128) :
    k0_pay3 (k0_pay27 P Q S b) (k0_pay28 P Q S b) (k0_pay31 P Q S b) (k0_pay33 P Q S b) (k0_pay34 P Q S b) (ix4 B h n d)
      = rowCode (fun d => k0_pay27 P Q S b (ix4 B n h d)) d := by
  have i := inv_text (k0_pay28 P Q S b) (ix4 B n h 0) _ (pay29_at P Q S b _)
  rw [pay28_at] at i
  unfold k0_pay3 k0_pay31 k0_pay33 k0_pay34 k0_pay30
  exact (swap4_at _ B n h d).trans ((code_text _ _ _ _).trans
    (congrArg (fun z => clip (k0_pay27 P Q S b (ix4 B n h d) * z)) ((spread_at _ B n h d).trans i)))

section
variable (X : Vec Ideal S12x8192x2560 .bf16) (W : Vec Ideal S2560x20x128 .fp8e4m3) (S : Vec Ideal S20 .f32) (B : Fin 12) (n : Fin 8192) (h : Fin 20) (d : Fin 128)

theorem proj_text : k0_pay25 (F := Ideal) (k0_pay16 (k0_pay5 X) (k0_pay9 X) (k0_pay11 X) (k0_pay12 X) (k0_pay13 X) (k0_pay14 (F := Ideal)) (k0_pay15 (F := Ideal))) W (ix4 B n h d)
    = ∑ c, rowCode (fun c => X (ix3 B n c)) c * W (ix3 c h d) := by
  refine (proj_at _ W B n h d).trans ?_
  exact Finset.sum_congr rfl fun c _ => congrArg (· * W (ix3 c h d)) (code_at X B n c)

theorem keys_at : k0_pay19 (F := Ideal) (k0_pay5 X) (k0_pay9 X) (k0_pay10 X) (k0_pay11 X) (k0_pay12 X) (k0_pay13 X) (k0_pay14 (F := Ideal)) (k0_pay15 (F := Ideal)) W S (ix4 B n h d)
    = keys X W S B n h d := by
  refine (pay19_text _ _ _ _ _ _ _ _ W S B n h d).trans ?_
  rw [proj_text, scale4_at]
  rfl

theorem vals_at (b : Vec Ideal S20x128 .f32) : k0_pay27 (F := Ideal) (k0_pay25 (k0_pay16 (k0_pay5 X) (k0_pay9 X) (k0_pay11 X) (k0_pay12 X) (k0_pay13 X) (k0_pay14 (F := Ideal)) (k0_pay15 (F := Ideal))) W)
      (k0_pay26 (k0_pay18 (k0_pay10 X))) S b (ix4 B n h d)
    = vals X W S b B n h d := by
  refine (pay27_text _ _ S b B n h d).trans ?_
  rw [proj_text, scale4_at]
  rfl

end

theorem ld0 (X : Vec Ideal S12x8192x2560 .bf16) : View.ld X r0_0 = X := View.ld_unit_zero hz0 _ X

theorem ld2 (W : Vec Ideal S2560x20x128 .fp8e4m3) : View.ld W r0_2 = W := View.ld_unit_zero hz1 _ W

theorem ld3 (S : Vec Ideal S20 .f32) : View.ld S r0_3 = S := View.ld_unit_zero hz2 _ S

section
variable (a0 : Vec Ideal S12x8192x2560 .bf16) (a1 : Vec Ideal S2560x20x128 .fp8e4m3) (a2 : Vec Ideal S20 .f32) (a3 : Vec Ideal S2560x20x128 .fp8e4m3) (a4 : Vec Ideal S20 .f32) (a5 : Vec Ideal S20x128 .f32)

theorem G6_eq : G6 a0 a1 a2 a3 a4 a5 = rowCodes a0 := by
  funext i
  rw [eq_ix3 i]
  show k0_pay16 (k0_pay35 a0 a1 a2 a3 a4 a5) (k0_pay36 a0 a1 a2 a3 a4 a5) (k0_pay38 a0 a1 a2 a3 a4 a5) (k0_pay39 a0 a1 a2 a3 a4 a5) (k0_pay40 a0 a1 a2 a3 a4 a5) (k0_pay41 a0 a1 a2 a3 a4 a5) (k0_pay42 a0 a1 a2 a3 a4 a5) _ = _
  unfold k0_pay35 k0_pay36 k0_pay38 k0_pay39 k0_pay40 k0_pay41 k0_pay42
  rw [ld0]
  exact code_at a0 _ _ _

theorem flat2_at (V : FVec Ideal S12x8192x1 .f32) (B : Fin 12) (n : Fin 8192) :
    shapeCast S12x8192 V shapeCasts_S12x8192x1_S12x8192 (ix2 B n) = V (ix3 B n 0) := by
  refine shapeCast_apply _ _ _ _ ?_
  rw [Shape.rowMajor_val_two, Shape.rowMajor_val_three]
  show (B.val * 8192 + n.val) * 1 + 0 = B.val * 8192 + n.val
  omega

theorem G7_eq : G7 a0 a1 a2 a3 a4 a5 = rowScales a0 := by
  funext i
  rw [eq_ix2 i]
  show k0_pay17 (k0_pay37 a0 a1 a2 a3 a4 a5) _ = _
  unfold k0_pay37 k0_pay17
  rw [ld0]
  exact (flat2_at _ _ _).trans (pay10_at a0 _ _)

theorem G8_eq : G8 a0 a1 a2 a3 a4 a5 = headCodes (keys a0 a1 a2) := by
  funext i
  rw [eq_ix4 i]
  show k0_pay1 (k0_pay24 (k0_pay19 (k0_pay35 a0 a1 a2 a3 a4 a5) (k0_pay36 a0 a1 a2 a3 a4 a5) (k0_pay37 a0 a1 a2 a3 a4 a5) (k0_pay38 a0 a1 a2 a3 a4 a5) (k0_pay39 a0 a1 a2 a3 a4 a5) (k0_pay40 a0 a1 a2 a3 a4 a5) (k0_pay41 a0 a1 a2 a3 a4 a5) (k0_pay42 a0 a1 a2 a3 a4 a5) a1 a2) (k0_pay43 a0 a1 a2 a3 a4 a5) (k0_pay44 a0 a1 a2 a3 a4 a5) (k0_pay45 a0 a1 a2 a3 a4 a5)) _ = _
  unfold k0_pay43 k0_pay44 k0_pay45 k0_pay35 k0_pay36 k0_pay37 k0_pay38 k0_pay39 k0_pay40 k0_pay41 k0_pay42 k0_pay1
  rw [ld0, ld2, ld3]
  refine (swap4_at _ _ _ _ _).trans ((pay24_at _ _ _ _ _ _ _ _ a1 a2 _ _ _ _).trans ?_)
  exact congrArg (fun f => rowCode f (i 3)) (funext fun d => keys_at a0 a1 a2 _ _ _ d)

theorem G9_eq : G9 a0 a1 a2 a3 a4 a5 = headScales (keys a0 a1 a2) := by
  funext i
  rw [eq_ix3 i]
  show k0_pay2 (k0_pay23 (k0_pay43 a0 a1 a2 a3 a4 a5) (k0_pay44 a0 a1 a2 a3 a4 a5) (k0_pay45 a0 a1 a2 a3 a4 a5)) _ = _
  unfold k0_pay43 k0_pay44 k0_pay45 k0_pay35 k0_pay36 k0_pay37 k0_pay38 k0_pay39 k0_pay40 k0_pay41 k0_pay42 k0_pay2
  rw [ld0, ld2, ld3]
  refine (swap3_at _ _ _ _).trans ((pay23_at _ _ _ _ _ _ _ _ a1 a2 _ _ _).trans ?_)
  exact congrArg (fun f => rowScale f) (funext fun d => keys_at a0 a1 a2 _ _ _ d)

theorem G10_eq : G10 a0 a1 a2 a3 a4 a5 = headCodes (vals a0 a3 a4 a5) := by
  funext i
  rw [eq_ix4 i]
  show k0_pay3 (k0_pay27 (k0_pay46 a0 a1 a2 a3 a4 a5) (k0_pay47 a0 a1 a2 a3 a4 a5) a4 a5) (k0_pay28 (k0_pay46 a0 a1 a2 a3 a4 a5) (k0_pay47 a0 a1 a2 a3 a4 a5) a4 a5) (k0_pay31 (k0_pay46 a0 a1 a2 a3 a4 a5) (k0_pay47 a0 a1 a2 a3 a4 a5) a4 a5) (k0_pay33 (k0_pay46 a0 a1 a2 a3 a4 a5) (k0_pay47 a0 a1 a2 a3 a4 a5) a4 a5) (k0_pay34 (k0_pay46 a0 a1 a2 a3 a4 a5) (k0_pay47 a0 a1 a2 a3 a4 a5) a4 a5) _ = _
  unfold k0_pay46 k0_pay47 k0_pay35 k0_pay36 k0_pay37 k0_pay38 k0_pay39 k0_pay40 k0_pay41 k0_pay42
  rw [ld0, ld2]
  refine (pay3_at _ _ a4 a5 _ _ _ _).trans ?_
  exact congrArg (fun f => rowCode f (i 3)) (funext fun d => vals_at a0 a3 a4 _ _ _ d a5)

theorem G11_eq : G11 a0 a1 a2 a3 a4 a5 = headScales (vals a0 a3 a4 a5) := by
  funext i
  rw [eq_ix3 i]
  show k0_pay4 (k0_pay32 (k0_pay46 a0 a1 a2 a3 a4 a5) (k0_pay47 a0 a1 a2 a3 a4 a5) a4 a5) _ = _
  unfold k0_pay46 k0_pay47 k0_pay35 k0_pay36 k0_pay37 k0_pay38 k0_pay39 k0_pay40 k0_pay41 k0_pay42 k0_pay4
  rw [ld0, ld2]
  refine (swap3_at _ _ _ _).trans ((pay32_at _ _ a4 a5 _ _ _).trans ?_)
  exact congrArg (fun f => rowScale f) (funext fun d => vals_at a0 a3 a4 _ _ _ d a5)

end

end Cert.ReferenceIdeal.Hand

end
-- ==== Proof.Rows.lean ====
module

public import proofs.«01_k».proof.Proof.Tiles

@[expose] public section

/-!
The quantiser of 288 rows of any width in exact arithmetic: the kernel's operations and the reference's give the same
scales and codes.
-/

noncomputable section

namespace Cert.Rows

open Idealize.ShloMosaic Idealize.ShloMosaic.ValueIdx Cert.Quant
open Cert.KernelIdeal.Hand (fieldOf scaleOf invOf scaleOf_at invOf_at fold_amax)

/-- 288 rows of width `n`. -/
abbrev Mat (n : ℕ) : Shape := ⟨2, ![288, n]⟩
/-- One value for each row. -/
abbrev Col : Shape := ⟨1, ![288]⟩

/-- The codes of the rows of `x`. -/
def codes {n : ℕ} (x : (Mat n).Idx → EReal) : (Mat n).Idx → EReal := fun i => rowCode (fun c => x (ix2 (i 0) c)) (i 1)

/-- The scales of the rows of `x`, as a column. -/
def scales {n : ℕ} (x : (Mat n).Idx → EReal) : (Mat 1).Idx → EReal := fun i => rowScale fun c => x (ix2 (i 0) c)

variable {n : ℕ} (hr : (Mat n).Reduces [1] Col) (hc : Col.ShapeCasts (Mat 1)) (hb : (Mat 1).Broadcasts (Mat n))

theorem lift_at (r : Fin 288) (k : Fin n) : hr.lift (ix1 r) k = ix2 r k := by
  funext a; apply Fin.ext; refine (Shape.Reduces.lift_val _ _ _ _).trans ?_
  match a with
  | ⟨0, _⟩ => rfl
  | ⟨1, _⟩ => rfl

/-- The rows' largest magnitudes over 448, as both programs write them. -/
def limits (Y : FVec Ideal (Mat n) .f32) : FVec Ideal (Mat 1) .f32 :=
  mulf (shapeCast (Mat 1) (multiReduction .maximumf [1] Col (absf Y) 0xFF800000#32 hr (.inl rfl) rfl) hc)
    (broadcast (Mat 1) (Scalar.ofBits .f32 0x3B124925#32))

theorem limits_at (Y : FVec Ideal (Mat n) .f32) (r : Fin 288) : limits hr hc Y (ix2 r 0) = lim fun k => Y (ix2 r k) := by
  have e : ∀ Z : FVec Ideal Col .f32, shapeCast (Mat 1) Z hc (ix2 r 0) = Z (ix1 r) := fun Z => by
    refine shapeCast_apply _ _ _ _ ?_
    rw [Shape.rowMajor_val_one, Shape.rowMajor_val_two]
    show r.val = r.val * 1 + 0
    omega
  have q := Ideal.multiReduction_maximumf_single (absf Y) 0xFF800000#32 hr (.inl rfl) rfl (ix1 r)
  have g : ∀ k, (absf Y ∘ hr.lift (ix1 r)) k = max (Y (ix2 r k)) (-(Y (ix2 r k))) := fun k => congrArg (absf Y) (lift_at hr r k)
  exact congrArg (· * Ideal.ofBits .f32 0x3B124925#32) ((e _).trans (q.trans (fold_amax (n := n) (fun k => Y (ix2 r k)) _ g)))

/-- The rows times a column, clipped and cast. -/
def codesBy (h : FTy.fp8e4m3.bits < FTy.f32.bits) (Y : FVec Ideal (Mat n) .f32) (v : FVec Ideal (Mat 1) .f32) : FVec Ideal (Mat n) .fp8e4m3 :=
  truncf .fp8e4m3 (minimumf (broadcast (Mat n) (Scalar.ofBits .f32 0x43E00000#32))
    (maximumf (broadcast (Mat n) (Scalar.ofBits .f32 0xC3E00000#32)) (mulf Y (broadcastTo (Mat n) v hb)))) h

theorem codesBy_at (h : FTy.fp8e4m3.bits < FTy.f32.bits) (Y : FVec Ideal (Mat n) .f32) (v : FVec Ideal (Mat 1) .f32)
    (hv : ∀ r, v (ix2 r 0) = inv (lim fun k => Y (ix2 r k))) : codesBy hb h Y v = codes Y := by
  funext i
  obtain ⟨r, k, rfl⟩ : ∃ (r : Fin 288) (k : Fin n), i = ix2 r k := ⟨i 0, i 1, eq_ix2 i⟩
  have e : broadcastTo (Mat n) v hb (ix2 r k) = v (ix2 r 0) := by
    refine broadcastTo_apply _ _ _ _ ?_
    intro a
    match a with
    | ⟨0, _⟩ => rfl
    | ⟨1, _⟩ => rfl
  exact congrArg (fun z => clip (Y (ix2 r k) * z)) (e.trans (hv r))

/-- The kernel's codes. -/
theorem kernel_codes (h : FTy.fp8e4m3.bits < FTy.f32.bits) (Y : FVec Ideal (Mat n) .f32) :
    codesBy hb h Y (invOf (limits hr hc Y)) = codes Y :=
  codesBy_at hb h Y _ fun r => (invOf_at _ _).trans (congrArg inv (limits_at hr hc Y r))

theorem col_ext (u : FVec Ideal (Mat 1) .f32) (Y : FVec Ideal (Mat n) .f32) (h : ∀ r, u (ix2 r 0) = rowScale fun k => Y (ix2 r k)) : u = scales Y := by
  funext i
  obtain ⟨r, k, rfl⟩ : ∃ (r : Fin 288) (k : Fin 1), i = ix2 r k := ⟨i 0, i 1, eq_ix2 i⟩
  obtain rfl : k = 0 := Subsingleton.elim _ _
  exact h r

/-- The kernel's scales. -/
theorem kernel_scales (Y : FVec Ideal (Mat n) .f32) : scaleOf (limits hr hc Y) = scales Y :=
  col_ext _ Y fun r => (scaleOf_at _ _).trans (congrArg scale (limits_at hr hc Y r))

/-- The reference's exponents, -/
def expOf (t : FVec Ideal (Mat 1) .f32) : FVec Ideal (Mat 1) .f32 :=
  addf (floor (divf (log t) (log (broadcast (Mat 1) (Scalar.ofBits (F := Ideal) .f32 0x40000000#32)))))
    (broadcast (Mat 1) (Scalar.ofBits (F := Ideal) .f32 0x3F800000#32))

/-- its scales, -/
def refScale (t : FVec Ideal (Mat 1) .f32) : FVec Ideal (Mat 1) .f32 :=
  select (cmpf .olt t (broadcast (Mat 1) (Scalar.ofBits (F := Ideal) .f32 0x7F000000#32)))
    (select (cmpf .olt t (broadcast (Mat 1) (Scalar.ofBits (F := Ideal) .f32 0x00800000#32))) (broadcast (Mat 1) (Scalar.ofBits (F := Ideal) .f32 0x3F800000#32)) (exp2 (expOf t)))
    (select (cmpf .olt t (broadcast (Mat 1) (Scalar.ofBits (F := Ideal) .f32 0x7F800000#32))) (broadcast (Mat 1) (Scalar.ofBits (F := Ideal) .f32 0x7F800000#32))
      (broadcast (Mat 1) (Scalar.ofBits (F := Ideal) .f32 0x00000000#32)))

/-- and its inverses. -/
def refInv (t : FVec Ideal (Mat 1) .f32) : FVec Ideal (Mat 1) .f32 :=
  select (cmpf .olt t (broadcast (Mat 1) (Scalar.ofBits (F := Ideal) .f32 0x7E800000#32)))
    (select (cmpf .olt t (broadcast (Mat 1) (Scalar.ofBits (F := Ideal) .f32 0x00800000#32))) (broadcast (Mat 1) (Scalar.ofBits (F := Ideal) .f32 0x3F800000#32))
      (exp2 (subf (broadcast (Mat 1) (Scalar.ofBits (F := Ideal) .f32 0x00000000#32)) (expOf t))))
    (select (cmpf .olt t (broadcast (Mat 1) (Scalar.ofBits (F := Ideal) .f32 0x7F000000#32))) (broadcast (Mat 1) (Scalar.ofBits (F := Ideal) .f32 0x00000000#32))
      (select (cmpf .olt t (broadcast (Mat 1) (Scalar.ofBits (F := Ideal) .f32 0x7F800000#32))) (broadcast (Mat 1) (Scalar.ofBits (F := Ideal) .f32 0xFF800000#32))
        (broadcast (Mat 1) (Scalar.ofBits (F := Ideal) .f32 0xFF000000#32))))

theorem refScale_at (t : FVec Ideal (Mat 1) .f32) (i : (Mat 1).Idx) : refScale t i = scale (t i) := by
  rw [scale_sel]
  rfl

theorem refInv_at (t : FVec Ideal (Mat 1) .f32) (i : (Mat 1).Idx) : refInv t i = inv (t i) := by
  rw [inv_sel]
  rfl

/-- The reference's codes. -/
theorem ref_codes (h : FTy.fp8e4m3.bits < FTy.f32.bits) (Y : FVec Ideal (Mat n) .f32) :
    codesBy hb h Y (refInv (limits hr hc Y)) = codes Y :=
  codesBy_at hb h Y _ fun r => (refInv_at _ _).trans (congrArg inv (limits_at hr hc Y r))

/-- The reference's scales. -/
theorem ref_scales (Y : FVec Ideal (Mat n) .f32) : refScale (limits hr hc Y) = scales Y :=
  col_ext _ Y fun r => (refScale_at _ _).trans (congrArg scale (limits_at hr hc Y r))

end Cert.Rows

end
-- ==== Proof.CtxRows.lean ====
module

public import proofs.«01_k».proof.Defs
public import proofs.«01_k».proof.Proof.Rows
public import proofs.«01_k».proof.Proof.Gen.CtxIdeal.Frame
public import proofs.«01_k».proof.Proof.Gen.CtxReferenceIdeal.Frame
public import Idealize.ShloMosaic.Lib.Pipeline.Value

@[expose] public section

/-!
The quantiser of the attention's rows against its reference: both runs read, and the claim.
-/

set_option maxRecDepth 65536

noncomputable section

namespace Cert.CtxIdeal.Hand

open Cert.CtxIdeal Cert.CtxIdeal.Gen Idealize.ShloMosaic Idealize.ShloMosaic.TcCoe Idealize.SL.Sem
open Cert.Rows

variable (m : (ℓ : Loc nD τ sig) → Buf (Elt Ideal) ℓ) (ρ : Dev nD → PrngReg)

theorem hz : (![0, 0] : Fin 2 → Nat) = fun _ => 0 := funext fun a => by fin_cases a <;> rfl

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

/-- Each window's block is its whole array. -/
theorem emb0 (t : Fin cfg0.N) (j : S288x2560.Idx) : ((cfg0.win 0).blk t).view.emb j = j := by
  obtain ⟨e0, e1⟩ := idx0 t
  funext a; apply Fin.ext
  match a with
  | ⟨0, _⟩ => show win0_0.index t (0 : Fin 2) * 288 + 1 * (j 0).val = (j 0).val; omega
  | ⟨1, _⟩ => show win0_0.index t (1 : Fin 2) * 2560 + 1 * (j 1).val = (j 1).val; omega
theorem emb1 (t : Fin cfg0.N) (j : S288x2560.Idx) : ((cfg0.win 1).blk t).view.emb j = j := by
  obtain ⟨e0, e1⟩ := idx1 t
  funext a; apply Fin.ext
  match a with
  | ⟨0, _⟩ => show win0_1.index t (0 : Fin 2) * 288 + 1 * (j 0).val = (j 0).val; omega
  | ⟨1, _⟩ => show win0_1.index t (1 : Fin 2) * 2560 + 1 * (j 1).val = (j 1).val; omega
theorem emb2 (t : Fin cfg0.N) (j : S288x1.Idx) : ((cfg0.win 2).blk t).view.emb j = j := by
  obtain ⟨e0, e1⟩ := idx2 t
  funext a; apply Fin.ext
  match a with
  | ⟨0, _⟩ => show win0_2.index t (0 : Fin 2) * 288 + 1 * (j 0).val = (j 0).val; omega
  | ⟨1, _⟩ => show win0_2.index t (1 : Fin 2) * 1 + 1 * (j 1).val = (j 1).val; omega

theorem iblk0_eq (c : Dev nD) (t : Fin cfg0.N) : iblk m c 0 t = V m c main_arg0 := by
  funext j; show V m c main_arg0 (((cfg0.win 0).blk t).view.emb j) = V m c main_arg0 j; rw [emb0]

theorem ld0 (X : Vec Ideal S288x2560 .f32) : View.ld X r0_0 = X := View.ld_unit_zero hz _ X

/-- The body's search is the named one, -/
theorem field_eq (X : Vec Ideal S288x2560 .f32) : k0_pay4 (F := Ideal) X = Cert.KernelIdeal.Hand.fieldOf (limits reduces_S288x2560_S288 shapeCasts_S288_S288x1 X) := rfl

/-- so it leaves the rows' codes -/
theorem out1_eq (X : Vec Ideal S288x2560 .f32) : out0_1 (F := Ideal) X = codes X := by
  unfold out0_1 k0_pay5
  rw [View.canon_unit_zero hz, ld0, field_eq]
  exact kernel_codes reduces_S288x2560_S288 shapeCasts_S288_S288x1 broadcasts_S288x1_S288x2560 bitsLt_fp8e4m3_f32 X

/-- and scales. -/
theorem out2_eq (X : Vec Ideal S288x2560 .f32) : out0_2 (F := Ideal) X = scales X := by
  unfold out0_2 k0_pay5
  rw [View.canon_unit_zero hz, ld0, field_eq]
  exact kernel_scales reduces_S288x2560_S288 shapeCasts_S288_S288x1 X

/-- The array of codes after the run. -/
theorem final1 (c : Dev nD) : (dats m 0 c).arrAt 1 cfg0.N = codes (m ((c : Thread nD τ).loc main_arg0)) := by
  refine (dats m 0 c).arrAt_eq_of_cover 1 (codes (V m c main_arg0)) (fun t _ => ?_) fun i => ?_
  · show (cfg0.win 1).cut (grid0.coords t) ((dats m 0 c).after 1 t) = _
    rw [after0_1, out1_eq, iblk0_eq]
    funext j
    show codes (V m c main_arg0) j = codes (V m c main_arg0) (((cfg0.win 1).blk t).view.emb j)
    rw [emb1]
  · exact ⟨(⟨0, by decide⟩ : Fin cfg0.N), flush0_1 _, by have h := ((cfg0.win 1).blk (⟨0, by decide⟩ : Fin cfg0.N)).view.emb_mem_set i; rwa [emb1] at h⟩

/-- The array of scales after the run. -/
theorem final2 (c : Dev nD) : (dats m 0 c).arrAt 2 cfg0.N = scales (n := 2560) (m ((c : Thread nD τ).loc main_arg0)) := by
  refine (dats m 0 c).arrAt_eq_of_cover 2 (scales (n := 2560) (V m c main_arg0)) (fun t _ => ?_) fun i => ?_
  · show (cfg0.win 2).cut (grid0.coords t) ((dats m 0 c).after 2 t) = _
    rw [after0_2, out2_eq, iblk0_eq]
    funext j
    show scales (n := 2560) (V m c main_arg0) j = scales (n := 2560) (V m c main_arg0) (((cfg0.win 2).blk t).view.emb j)
    rw [emb2]
  · exact ⟨(⟨0, by decide⟩ : Fin cfg0.N), flush0_2 _, by have h := ((cfg0.win 2).blk (⟨0, by decide⟩ : Fin cfg0.N)).view.emb_mem_set i; rwa [emb2] at h⟩

/-- The run: the two result arrays are the codes and the scales of the argument's rows, and the argument is unchanged. -/
theorem run : θ_run defs (onTc (τ := τ) (main (F := Ideal))) ⟨m, fun _ => 0, ρ⟩ fun r => ∀ c : Dev nD,
      r.2.mem ((c : Thread nD τ).loc main_v0_0) = codes (m ((c : Thread nD τ).loc main_arg0))
      ∧ r.2.mem ((c : Thread nD τ).loc main_v0_1) = scales (n := 2560) (m ((c : Thread nD τ).loc main_arg0))
      ∧ r.2.mem ((c : Thread nD τ).loc main_arg0) = m ((c : Thread nD τ).loc main_arg0) :=
  (θ_run defs _ _).mono (fun r h c => ⟨((h c).1 1).trans (final1 m c), ((h c).1 2).trans (final2 m c),
    ((h c).1 0).trans (((dats m 0 c).arrAt_in 0 rfl _).trans ((A_eq m c 0).trans (V_main_arg0 m c)))⟩) (run_main m ρ)

end Cert.CtxIdeal.Hand

namespace Cert.CtxReferenceIdeal.Hand

open Cert.CtxReferenceIdeal Cert.CtxReferenceIdeal.Gen Idealize.ShloMosaic Idealize.ShloMosaic.TcCoe Idealize.SL.Sem
open Cert.Rows

variable (m : (ℓ : Loc nD τ sig) → Buf (Elt Ideal) ℓ) (ρ : Dev nD → PrngReg)

theorem hz : (![0, 0] : Fin 2 → Nat) = fun _ => 0 := funext fun a => by fin_cases a <;> rfl

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

/-- Each window's block is its whole array. -/
theorem emb0 (t : Fin cfg0.N) (j : S288x2560.Idx) : ((cfg0.win 0).blk t).view.emb j = j := by
  obtain ⟨e0, e1⟩ := idx0 t
  funext a; apply Fin.ext
  match a with
  | ⟨0, _⟩ => show win0_0.index t (0 : Fin 2) * 288 + 1 * (j 0).val = (j 0).val; omega
  | ⟨1, _⟩ => show win0_0.index t (1 : Fin 2) * 2560 + 1 * (j 1).val = (j 1).val; omega
theorem emb1 (t : Fin cfg0.N) (j : S288x2560.Idx) : ((cfg0.win 1).blk t).view.emb j = j := by
  obtain ⟨e0, e1⟩ := idx1 t
  funext a; apply Fin.ext
  match a with
  | ⟨0, _⟩ => show win0_1.index t (0 : Fin 2) * 288 + 1 * (j 0).val = (j 0).val; omega
  | ⟨1, _⟩ => show win0_1.index t (1 : Fin 2) * 2560 + 1 * (j 1).val = (j 1).val; omega
theorem emb2 (t : Fin cfg0.N) (j : S288x1.Idx) : ((cfg0.win 2).blk t).view.emb j = j := by
  obtain ⟨e0, e1⟩ := idx2 t
  funext a; apply Fin.ext
  match a with
  | ⟨0, _⟩ => show win0_2.index t (0 : Fin 2) * 288 + 1 * (j 0).val = (j 0).val; omega
  | ⟨1, _⟩ => show win0_2.index t (1 : Fin 2) * 1 + 1 * (j 1).val = (j 1).val; omega

theorem iblk0_eq (c : Dev nD) (t : Fin cfg0.N) : iblk m c 0 t = V m c main_arg0 := by
  funext j; show V m c main_arg0 (((cfg0.win 0).blk t).view.emb j) = V m c main_arg0 j; rw [emb0]

theorem ld0 (X : Vec Ideal S288x2560 .f32) : View.ld X r0_0 = X := View.ld_unit_zero hz _ X

/-- The body leaves the rows' codes -/
theorem out1_eq (X : Vec Ideal S288x2560 .f32) : out0_1 (F := Ideal) X = codes X := by
  unfold out0_1
  rw [View.canon_unit_zero hz, ld0]
  exact ref_codes reduces_S288x2560_S288 shapeCasts_S288_S288x1 broadcasts_S288x1_S288x2560 bitsLt_fp8e4m3_f32 X

/-- and scales. -/
theorem out2_eq (X : Vec Ideal S288x2560 .f32) : out0_2 (F := Ideal) X = scales X := by
  unfold out0_2
  rw [View.canon_unit_zero hz, ld0]
  exact ref_scales reduces_S288x2560_S288 shapeCasts_S288_S288x1 X

/-- The array of codes after the run. -/
theorem final1 (c : Dev nD) : (dats m 0 c).arrAt 1 cfg0.N = codes (m ((c : Thread nD τ).loc main_arg0)) := by
  refine (dats m 0 c).arrAt_eq_of_cover 1 (codes (V m c main_arg0)) (fun t _ => ?_) fun i => ?_
  · show (cfg0.win 1).cut (grid0.coords t) ((dats m 0 c).after 1 t) = _
    rw [after0_1, out1_eq, iblk0_eq]
    funext j
    show codes (V m c main_arg0) j = codes (V m c main_arg0) (((cfg0.win 1).blk t).view.emb j)
    rw [emb1]
  · exact ⟨(⟨0, by decide⟩ : Fin cfg0.N), flush0_1 _, by have h := ((cfg0.win 1).blk (⟨0, by decide⟩ : Fin cfg0.N)).view.emb_mem_set i; rwa [emb1] at h⟩

/-- The array of scales after the run. -/
theorem final2 (c : Dev nD) : (dats m 0 c).arrAt 2 cfg0.N = scales (n := 2560) (m ((c : Thread nD τ).loc main_arg0)) := by
  refine (dats m 0 c).arrAt_eq_of_cover 2 (scales (n := 2560) (V m c main_arg0)) (fun t _ => ?_) fun i => ?_
  · show (cfg0.win 2).cut (grid0.coords t) ((dats m 0 c).after 2 t) = _
    rw [after0_2, out2_eq, iblk0_eq]
    funext j
    show scales (n := 2560) (V m c main_arg0) j = scales (n := 2560) (V m c main_arg0) (((cfg0.win 2).blk t).view.emb j)
    rw [emb2]
  · exact ⟨(⟨0, by decide⟩ : Fin cfg0.N), flush0_2 _, by have h := ((cfg0.win 2).blk (⟨0, by decide⟩ : Fin cfg0.N)).view.emb_mem_set i; rwa [emb2] at h⟩

/-- The run: the two result arrays are the codes and the scales of the argument's rows, and the argument is unchanged. -/
theorem run : θ_run defs (onTc (τ := τ) (main (F := Ideal))) ⟨m, fun _ => 0, ρ⟩ fun r => ∀ c : Dev nD,
      r.2.mem ((c : Thread nD τ).loc main_v0_0) = codes (m ((c : Thread nD τ).loc main_arg0))
      ∧ r.2.mem ((c : Thread nD τ).loc main_v0_1) = scales (n := 2560) (m ((c : Thread nD τ).loc main_arg0))
      ∧ r.2.mem ((c : Thread nD τ).loc main_arg0) = m ((c : Thread nD τ).loc main_arg0) :=
  (θ_run defs _ _).mono (fun r h c => ⟨((h c).1 1).trans (final1 m c), ((h c).1 2).trans (final2 m c),
    ((h c).1 0).trans (((dats m 0 c).arrAt_in 0 rfl _).trans ((A_eq m c 0).trans (V_main_arg0 m c)))⟩) (run_main m ρ)

end Cert.CtxReferenceIdeal.Hand

open Idealize.ShloMosaic Idealize.SL.Sem in
/-- Over the same argument the quantiser and its reference end with the same arrays. -/
theorem Cert.Proof.algebraicCtx : Cert.algebraic_CtxIdeal_CtxReferenceIdeal (hCtxIdeal := Cert.CtxIdeal.Gen.facts) (hCtxReferenceIdeal := Cert.CtxReferenceIdeal.Gen.facts) := by
  intro m g m' g' _ hargs
  refine ⟨_, _, Cert.CtxIdeal.Hand.run m g, ?_⟩
  refine (θ_run _ _ _).mono (fun r h c => ?_) (Cert.CtxReferenceIdeal.Hand.run m' g')
  obtain ⟨h0, h1, hk⟩ := h c
  have e := hargs c
  exact ⟨h0.trans (by rw [e]), h1.trans (by rw [e]), hk⟩

end
-- ==== Proof.FfnRows.lean ====
module

public import proofs.«01_k».proof.Defs
public import proofs.«01_k».proof.Proof.Rows
public import proofs.«01_k».proof.Proof.Gen.FfnIdeal.Frame
public import proofs.«01_k».proof.Proof.Gen.FfnReferenceIdeal.Frame
public import Idealize.ShloMosaic.Lib.Pipeline.Value

@[expose] public section

/-!
The quantiser of the feed-forward rows against its reference: both runs read, and the claim.
-/

set_option maxRecDepth 65536

noncomputable section

namespace Cert.FfnIdeal.Hand

open Cert.FfnIdeal Cert.FfnIdeal.Gen Idealize.ShloMosaic Idealize.ShloMosaic.TcCoe Idealize.SL.Sem
open Cert.Rows

variable (m : (ℓ : Loc nD τ sig) → Buf (Elt Ideal) ℓ) (ρ : Dev nD → PrngReg)

theorem hz : (![0, 0] : Fin 2 → Nat) = fun _ => 0 := funext fun a => by fin_cases a <;> rfl

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

/-- Each window's block is its whole array. -/
theorem emb0 (t : Fin cfg0.N) (j : S288x10240.Idx) : ((cfg0.win 0).blk t).view.emb j = j := by
  obtain ⟨e0, e1⟩ := idx0 t
  funext a; apply Fin.ext
  match a with
  | ⟨0, _⟩ => show win0_0.index t (0 : Fin 2) * 288 + 1 * (j 0).val = (j 0).val; omega
  | ⟨1, _⟩ => show win0_0.index t (1 : Fin 2) * 10240 + 1 * (j 1).val = (j 1).val; omega
theorem emb1 (t : Fin cfg0.N) (j : S288x10240.Idx) : ((cfg0.win 1).blk t).view.emb j = j := by
  obtain ⟨e0, e1⟩ := idx1 t
  funext a; apply Fin.ext
  match a with
  | ⟨0, _⟩ => show win0_1.index t (0 : Fin 2) * 288 + 1 * (j 0).val = (j 0).val; omega
  | ⟨1, _⟩ => show win0_1.index t (1 : Fin 2) * 10240 + 1 * (j 1).val = (j 1).val; omega
theorem emb2 (t : Fin cfg0.N) (j : S288x1.Idx) : ((cfg0.win 2).blk t).view.emb j = j := by
  obtain ⟨e0, e1⟩ := idx2 t
  funext a; apply Fin.ext
  match a with
  | ⟨0, _⟩ => show win0_2.index t (0 : Fin 2) * 288 + 1 * (j 0).val = (j 0).val; omega
  | ⟨1, _⟩ => show win0_2.index t (1 : Fin 2) * 1 + 1 * (j 1).val = (j 1).val; omega

theorem iblk0_eq (c : Dev nD) (t : Fin cfg0.N) : iblk m c 0 t = V m c main_arg0 := by
  funext j; show V m c main_arg0 (((cfg0.win 0).blk t).view.emb j) = V m c main_arg0 j; rw [emb0]

theorem ld0 (X : Vec Ideal S288x10240 .f32) : View.ld X r0_0 = X := View.ld_unit_zero hz _ X

/-- The body's search is the named one, -/
theorem field_eq (X : Vec Ideal S288x10240 .f32) : k0_pay4 (F := Ideal) X = Cert.KernelIdeal.Hand.fieldOf (limits reduces_S288x10240_S288 shapeCasts_S288_S288x1 X) := rfl

/-- so it leaves the rows' codes -/
theorem out1_eq (X : Vec Ideal S288x10240 .f32) : out0_1 (F := Ideal) X = codes X := by
  unfold out0_1 k0_pay5
  rw [View.canon_unit_zero hz, ld0, field_eq]
  exact kernel_codes reduces_S288x10240_S288 shapeCasts_S288_S288x1 broadcasts_S288x1_S288x10240 bitsLt_fp8e4m3_f32 X

/-- and scales. -/
theorem out2_eq (X : Vec Ideal S288x10240 .f32) : out0_2 (F := Ideal) X = scales X := by
  unfold out0_2 k0_pay5
  rw [View.canon_unit_zero hz, ld0, field_eq]
  exact kernel_scales reduces_S288x10240_S288 shapeCasts_S288_S288x1 X

/-- The array of codes after the run. -/
theorem final1 (c : Dev nD) : (dats m 0 c).arrAt 1 cfg0.N = codes (m ((c : Thread nD τ).loc main_arg0)) := by
  refine (dats m 0 c).arrAt_eq_of_cover 1 (codes (V m c main_arg0)) (fun t _ => ?_) fun i => ?_
  · show (cfg0.win 1).cut (grid0.coords t) ((dats m 0 c).after 1 t) = _
    rw [after0_1, out1_eq, iblk0_eq]
    funext j
    show codes (V m c main_arg0) j = codes (V m c main_arg0) (((cfg0.win 1).blk t).view.emb j)
    rw [emb1]
  · exact ⟨(⟨0, by decide⟩ : Fin cfg0.N), flush0_1 _, by have h := ((cfg0.win 1).blk (⟨0, by decide⟩ : Fin cfg0.N)).view.emb_mem_set i; rwa [emb1] at h⟩

/-- The array of scales after the run. -/
theorem final2 (c : Dev nD) : (dats m 0 c).arrAt 2 cfg0.N = scales (n := 10240) (m ((c : Thread nD τ).loc main_arg0)) := by
  refine (dats m 0 c).arrAt_eq_of_cover 2 (scales (n := 10240) (V m c main_arg0)) (fun t _ => ?_) fun i => ?_
  · show (cfg0.win 2).cut (grid0.coords t) ((dats m 0 c).after 2 t) = _
    rw [after0_2, out2_eq, iblk0_eq]
    funext j
    show scales (n := 10240) (V m c main_arg0) j = scales (n := 10240) (V m c main_arg0) (((cfg0.win 2).blk t).view.emb j)
    rw [emb2]
  · exact ⟨(⟨0, by decide⟩ : Fin cfg0.N), flush0_2 _, by have h := ((cfg0.win 2).blk (⟨0, by decide⟩ : Fin cfg0.N)).view.emb_mem_set i; rwa [emb2] at h⟩

/-- The run: the two result arrays are the codes and the scales of the argument's rows, and the argument is unchanged. -/
theorem run : θ_run defs (onTc (τ := τ) (main (F := Ideal))) ⟨m, fun _ => 0, ρ⟩ fun r => ∀ c : Dev nD,
      r.2.mem ((c : Thread nD τ).loc main_v0_0) = codes (m ((c : Thread nD τ).loc main_arg0))
      ∧ r.2.mem ((c : Thread nD τ).loc main_v0_1) = scales (n := 10240) (m ((c : Thread nD τ).loc main_arg0))
      ∧ r.2.mem ((c : Thread nD τ).loc main_arg0) = m ((c : Thread nD τ).loc main_arg0) :=
  (θ_run defs _ _).mono (fun r h c => ⟨((h c).1 1).trans (final1 m c), ((h c).1 2).trans (final2 m c),
    ((h c).1 0).trans (((dats m 0 c).arrAt_in 0 rfl _).trans ((A_eq m c 0).trans (V_main_arg0 m c)))⟩) (run_main m ρ)

end Cert.FfnIdeal.Hand

namespace Cert.FfnReferenceIdeal.Hand

open Cert.FfnReferenceIdeal Cert.FfnReferenceIdeal.Gen Idealize.ShloMosaic Idealize.ShloMosaic.TcCoe Idealize.SL.Sem
open Cert.Rows

variable (m : (ℓ : Loc nD τ sig) → Buf (Elt Ideal) ℓ) (ρ : Dev nD → PrngReg)

theorem hz : (![0, 0] : Fin 2 → Nat) = fun _ => 0 := funext fun a => by fin_cases a <;> rfl

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

/-- Each window's block is its whole array. -/
theorem emb0 (t : Fin cfg0.N) (j : S288x10240.Idx) : ((cfg0.win 0).blk t).view.emb j = j := by
  obtain ⟨e0, e1⟩ := idx0 t
  funext a; apply Fin.ext
  match a with
  | ⟨0, _⟩ => show win0_0.index t (0 : Fin 2) * 288 + 1 * (j 0).val = (j 0).val; omega
  | ⟨1, _⟩ => show win0_0.index t (1 : Fin 2) * 10240 + 1 * (j 1).val = (j 1).val; omega
theorem emb1 (t : Fin cfg0.N) (j : S288x10240.Idx) : ((cfg0.win 1).blk t).view.emb j = j := by
  obtain ⟨e0, e1⟩ := idx1 t
  funext a; apply Fin.ext
  match a with
  | ⟨0, _⟩ => show win0_1.index t (0 : Fin 2) * 288 + 1 * (j 0).val = (j 0).val; omega
  | ⟨1, _⟩ => show win0_1.index t (1 : Fin 2) * 10240 + 1 * (j 1).val = (j 1).val; omega
theorem emb2 (t : Fin cfg0.N) (j : S288x1.Idx) : ((cfg0.win 2).blk t).view.emb j = j := by
  obtain ⟨e0, e1⟩ := idx2 t
  funext a; apply Fin.ext
  match a with
  | ⟨0, _⟩ => show win0_2.index t (0 : Fin 2) * 288 + 1 * (j 0).val = (j 0).val; omega
  | ⟨1, _⟩ => show win0_2.index t (1 : Fin 2) * 1 + 1 * (j 1).val = (j 1).val; omega

theorem iblk0_eq (c : Dev nD) (t : Fin cfg0.N) : iblk m c 0 t = V m c main_arg0 := by
  funext j; show V m c main_arg0 (((cfg0.win 0).blk t).view.emb j) = V m c main_arg0 j; rw [emb0]

theorem ld0 (X : Vec Ideal S288x10240 .f32) : View.ld X r0_0 = X := View.ld_unit_zero hz _ X

/-- The body leaves the rows' codes -/
theorem out1_eq (X : Vec Ideal S288x10240 .f32) : out0_1 (F := Ideal) X = codes X := by
  unfold out0_1
  rw [View.canon_unit_zero hz, ld0]
  exact ref_codes reduces_S288x10240_S288 shapeCasts_S288_S288x1 broadcasts_S288x1_S288x10240 bitsLt_fp8e4m3_f32 X

/-- and scales. -/
theorem out2_eq (X : Vec Ideal S288x10240 .f32) : out0_2 (F := Ideal) X = scales X := by
  unfold out0_2
  rw [View.canon_unit_zero hz, ld0]
  exact ref_scales reduces_S288x10240_S288 shapeCasts_S288_S288x1 X

/-- The array of codes after the run. -/
theorem final1 (c : Dev nD) : (dats m 0 c).arrAt 1 cfg0.N = codes (m ((c : Thread nD τ).loc main_arg0)) := by
  refine (dats m 0 c).arrAt_eq_of_cover 1 (codes (V m c main_arg0)) (fun t _ => ?_) fun i => ?_
  · show (cfg0.win 1).cut (grid0.coords t) ((dats m 0 c).after 1 t) = _
    rw [after0_1, out1_eq, iblk0_eq]
    funext j
    show codes (V m c main_arg0) j = codes (V m c main_arg0) (((cfg0.win 1).blk t).view.emb j)
    rw [emb1]
  · exact ⟨(⟨0, by decide⟩ : Fin cfg0.N), flush0_1 _, by have h := ((cfg0.win 1).blk (⟨0, by decide⟩ : Fin cfg0.N)).view.emb_mem_set i; rwa [emb1] at h⟩

/-- The array of scales after the run. -/
theorem final2 (c : Dev nD) : (dats m 0 c).arrAt 2 cfg0.N = scales (n := 10240) (m ((c : Thread nD τ).loc main_arg0)) := by
  refine (dats m 0 c).arrAt_eq_of_cover 2 (scales (n := 10240) (V m c main_arg0)) (fun t _ => ?_) fun i => ?_
  · show (cfg0.win 2).cut (grid0.coords t) ((dats m 0 c).after 2 t) = _
    rw [after0_2, out2_eq, iblk0_eq]
    funext j
    show scales (n := 10240) (V m c main_arg0) j = scales (n := 10240) (V m c main_arg0) (((cfg0.win 2).blk t).view.emb j)
    rw [emb2]
  · exact ⟨(⟨0, by decide⟩ : Fin cfg0.N), flush0_2 _, by have h := ((cfg0.win 2).blk (⟨0, by decide⟩ : Fin cfg0.N)).view.emb_mem_set i; rwa [emb2] at h⟩

/-- The run: the two result arrays are the codes and the scales of the argument's rows, and the argument is unchanged. -/
theorem run : θ_run defs (onTc (τ := τ) (main (F := Ideal))) ⟨m, fun _ => 0, ρ⟩ fun r => ∀ c : Dev nD,
      r.2.mem ((c : Thread nD τ).loc main_v0_0) = codes (m ((c : Thread nD τ).loc main_arg0))
      ∧ r.2.mem ((c : Thread nD τ).loc main_v0_1) = scales (n := 10240) (m ((c : Thread nD τ).loc main_arg0))
      ∧ r.2.mem ((c : Thread nD τ).loc main_arg0) = m ((c : Thread nD τ).loc main_arg0) :=
  (θ_run defs _ _).mono (fun r h c => ⟨((h c).1 1).trans (final1 m c), ((h c).1 2).trans (final2 m c),
    ((h c).1 0).trans (((dats m 0 c).arrAt_in 0 rfl _).trans ((A_eq m c 0).trans (V_main_arg0 m c)))⟩) (run_main m ρ)

end Cert.FfnReferenceIdeal.Hand

open Idealize.ShloMosaic Idealize.SL.Sem in
/-- Over the same argument the quantiser and its reference end with the same arrays. -/
theorem Cert.Proof.algebraicFfn : Cert.algebraic_FfnIdeal_FfnReferenceIdeal (hFfnIdeal := Cert.FfnIdeal.Gen.facts) (hFfnReferenceIdeal := Cert.FfnReferenceIdeal.Gen.facts) := by
  intro m g m' g' _ hargs
  refine ⟨_, _, Cert.FfnIdeal.Hand.run m g, ?_⟩
  refine (θ_run _ _ _).mono (fun r h c => ?_) (Cert.FfnReferenceIdeal.Hand.run m' g')
  obtain ⟨h0, h1, hk⟩ := h c
  have e := hargs c
  exact ⟨h0.trans (by rw [e]), h1.trans (by rw [e]), hk⟩

end
-- ==== Proof.NormRows.lean ====
module

public import proofs.«01_k».proof.Defs
public import proofs.«01_k».proof.Proof.Rows
public import proofs.«01_k».proof.Proof.Gen.NormIdeal.Frame
public import proofs.«01_k».proof.Proof.Gen.NormReferenceIdeal.Frame
public import Idealize.ShloMosaic.Lib.Pipeline.Value

@[expose] public section

/-!
The norm of the query rows with its quantiser against its reference: both runs read, and the claim.
-/

set_option maxRecDepth 65536

noncomputable section

namespace Cert.NormIdeal.Hand

open Cert.NormIdeal Cert.NormIdeal.Gen Idealize.ShloMosaic Idealize.ShloMosaic.TcCoe Idealize.SL.Sem
open Cert.Rows

variable (m : (ℓ : Loc nD τ sig) → Buf (Elt Ideal) ℓ) (ρ : Dev nD → PrngReg)

theorem hz : (![0, 0] : Fin 2 → Nat) = fun _ => 0 := funext fun a => by fin_cases a <;> rfl

/-! Each window's block is its whole array. -/

theorem idx0 : ∀ t : Fin cfg0.N, win0_0.index t (0 : Fin 2) = 0 ∧ win0_0.index t (1 : Fin 2) = 0 :=
  (by decide +kernel : ∀ t : Fin grid0.N, _)
theorem emb0 (t : Fin cfg0.N) (j : S288x2560.Idx) : ((cfg0.win 0).blk t).view.emb j = j := by
  obtain ⟨e0, e1⟩ := idx0 t
  funext a; apply Fin.ext
  match a with
  | ⟨0, _⟩ => show win0_0.index t (0 : Fin 2) * 288 + 1 * (j 0).val = (j 0).val; omega
  | ⟨1, _⟩ => show win0_0.index t (1 : Fin 2) * 2560 + 1 * (j 1).val = (j 1).val; omega
theorem idx1 : ∀ t : Fin cfg0.N, win0_1.index t (0 : Fin 2) = 0 ∧ win0_1.index t (1 : Fin 2) = 0 :=
  (by decide +kernel : ∀ t : Fin grid0.N, _)
theorem emb1 (t : Fin cfg0.N) (j : S288x2560.Idx) : ((cfg0.win 1).blk t).view.emb j = j := by
  obtain ⟨e0, e1⟩ := idx1 t
  funext a; apply Fin.ext
  match a with
  | ⟨0, _⟩ => show win0_1.index t (0 : Fin 2) * 288 + 1 * (j 0).val = (j 0).val; omega
  | ⟨1, _⟩ => show win0_1.index t (1 : Fin 2) * 2560 + 1 * (j 1).val = (j 1).val; omega
theorem idx2 : ∀ t : Fin cfg0.N, win0_2.index t (0 : Fin 2) = 0 ∧ win0_2.index t (1 : Fin 2) = 0 :=
  (by decide +kernel : ∀ t : Fin grid0.N, _)
theorem emb2 (t : Fin cfg0.N) (j : S1x2560.Idx) : ((cfg0.win 2).blk t).view.emb j = j := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 2560 + 1 * (j 1).val = (j 1).val; omega
theorem idx3 : ∀ t : Fin cfg0.N, win0_3.index t (0 : Fin 2) = 0 ∧ win0_3.index t (1 : Fin 2) = 0 :=
  (by decide +kernel : ∀ t : Fin grid0.N, _)
theorem emb3 (t : Fin cfg0.N) (j : S1x2560.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 2560 + 1 * (j 1).val = (j 1).val; omega
theorem idx4 : ∀ t : Fin cfg0.N, win0_4.index t (0 : Fin 2) = 0 ∧ win0_4.index t (1 : Fin 2) = 0 :=
  (by decide +kernel : ∀ t : Fin grid0.N, _)
theorem emb4 (t : Fin cfg0.N) (j : S288x2560.Idx) : ((cfg0.win 4).blk t).view.emb j = j := by
  obtain ⟨e0, e1⟩ := idx4 t
  funext a; apply Fin.ext
  match a with
  | ⟨0, _⟩ => show win0_4.index t (0 : Fin 2) * 288 + 1 * (j 0).val = (j 0).val; omega
  | ⟨1, _⟩ => show win0_4.index t (1 : Fin 2) * 2560 + 1 * (j 1).val = (j 1).val; omega
theorem idx5 : ∀ t : Fin cfg0.N, win0_5.index t (0 : Fin 2) = 0 ∧ win0_5.index t (1 : Fin 2) = 0 :=
  (by decide +kernel : ∀ t : Fin grid0.N, _)
theorem emb5 (t : Fin cfg0.N) (j : S288x2560.Idx) : ((cfg0.win 5).blk t).view.emb j = j := by
  obtain ⟨e0, e1⟩ := idx5 t
  funext a; apply Fin.ext
  match a with
  | ⟨0, _⟩ => show win0_5.index t (0 : Fin 2) * 288 + 1 * (j 0).val = (j 0).val; omega
  | ⟨1, _⟩ => show win0_5.index t (1 : Fin 2) * 2560 + 1 * (j 1).val = (j 1).val; omega
theorem idx6 : ∀ t : Fin cfg0.N, win0_6.index t (0 : Fin 2) = 0 ∧ win0_6.index t (1 : Fin 2) = 0 :=
  (by decide +kernel : ∀ t : Fin grid0.N, _)
theorem emb6 (t : Fin cfg0.N) (j : S288x1.Idx) : ((cfg0.win 6).blk t).view.emb j = j := by
  obtain ⟨e0, e1⟩ := idx6 t
  funext a; apply Fin.ext
  match a with
  | ⟨0, _⟩ => show win0_6.index t (0 : Fin 2) * 288 + 1 * (j 0).val = (j 0).val; omega
  | ⟨1, _⟩ => show win0_6.index t (1 : Fin 2) * 1 + 1 * (j 1).val = (j 1).val; omega

theorem iblk0_eq (c : Dev nD) (t : Fin cfg0.N) : iblk m c 0 t = V m c main_arg0 := by
  funext j; show V m c main_arg0 (((cfg0.win 0).blk t).view.emb j) = V m c main_arg0 j; rw [emb0]
theorem iblk1_eq (c : Dev nD) (t : Fin cfg0.N) : iblk m c 1 t = V m c main_arg1 := by
  funext j; show V m c main_arg1 (((cfg0.win 1).blk t).view.emb j) = V m c main_arg1 j; rw [emb1]
theorem iblk2_eq (c : Dev nD) (t : Fin cfg0.N) : iblk m c 2 t = V m c main_v0 := by
  funext j; show V m c main_v0 (((cfg0.win 2).blk t).view.emb j) = V m c main_v0 j; rw [emb2]
theorem iblk3_eq (c : Dev nD) (t : Fin cfg0.N) : iblk m c 3 t = V m c main_v1 := by
  funext j; show V m c main_v1 (((cfg0.win 3).blk t).view.emb j) = V m c main_v1 j; rw [emb3]

/-- A vector of parameters as a matrix of one row. -/
def asRow (g : Vec Ideal S2560 .f32) : Vec Ideal S1x2560 .f32 := broadcastInDim S1x2560 ![1] bcast_S2560_S1x2560_1 g

theorem V_main_v0 (c : Dev nD) : V m c main_v0 = asRow (m ((c : Thread nD τ).loc main_arg2)) := by
  show StableHlo.after hostOps0 (fun b => m (c, b)) (Proc.devRef .tc main_v0) = _
  unfold hostOps0
  rw [StableHlo.after_cons, StableHlo.after_cons, StableHlo.after_nil, StableHlo.unary_result_ne _ _ _ _ _ _ (by decide), StableHlo.unary_result]
  rfl
theorem V_main_v1 (c : Dev nD) : V m c main_v1 = asRow (m ((c : Thread nD τ).loc main_arg3)) := by
  show StableHlo.after hostOps0 (fun b => m (c, b)) (Proc.devRef .tc main_v1) = _
  unfold hostOps0
  rw [StableHlo.after_cons, StableHlo.after_cons, StableHlo.after_nil, StableHlo.unary_result, StableHlo.unary_result_ne _ _ _ _ _ _ (by decide)]
  rfl

theorem ld0 (X : Vec Ideal S288x2560 .f32) : View.ld X r0_0 = X := View.ld_unit_zero hz _ X
theorem ld1 (G : Vec Ideal S1x2560 .f32) : View.ld G r0_1 = G := View.ld_unit_zero hz _ G

/-- The normed rows, as the body computes them. -/
def normed (X A : Vec Ideal S288x2560 .f32) (G B : Vec Ideal S1x2560 .f32) : Vec Ideal S288x2560 .f32 := k0_pay2 (F := Ideal) X A G B

/-- The body leaves the normed rows, -/
theorem out4_eq (X A : Vec Ideal S288x2560 .f32) (G B : Vec Ideal S1x2560 .f32) : out0_4 (F := Ideal) X A G B = normed X A G B := by
  unfold out0_4
  rw [View.canon_unit_zero hz, ld0, ld0, ld1, ld1]
  rfl

/-- The body's search is the named one, -/
theorem field_eq (X A : Vec Ideal S288x2560 .f32) (G B : Vec Ideal S1x2560 .f32) : k0_pay5 (F := Ideal) (k0_pay3 X A G B) (k0_pay4 X A G B) 536870912#32
    = Cert.KernelIdeal.Hand.fieldOf (limits reduces_S288x2560_S288 shapeCasts_S288_S288x1 (normed X A G B)) := rfl

/-- so it leaves the rows' codes -/
theorem out5_eq (X A : Vec Ideal S288x2560 .f32) (G B : Vec Ideal S1x2560 .f32) : out0_5 (F := Ideal) X A G B = codes (n := 2560) (normed X A G B) := by
  unfold out0_5 k0_pay10 k0_pay9
  rw [View.canon_unit_zero hz, ld0, ld0, ld1, ld1]
  unfold k0_pay8 k0_pay6
  rw [field_eq]
  exact kernel_codes reduces_S288x2560_S288 shapeCasts_S288_S288x1 broadcasts_S288x1_S288x2560 bitsLt_fp8e4m3_f32 (normed X A G B)

/-- and scales. -/
theorem out6_eq (X A : Vec Ideal S288x2560 .f32) (G B : Vec Ideal S1x2560 .f32) : out0_6 (F := Ideal) X A G B = scales (n := 2560) (normed X A G B) := by
  unfold out0_6 k0_pay10 k0_pay9
  rw [View.canon_unit_zero hz, ld0, ld0, ld1, ld1]
  unfold k0_pay7 k0_pay6
  rw [field_eq]
  exact kernel_scales reduces_S288x2560_S288 shapeCasts_S288_S288x1 (normed X A G B)

/-- The normed rows of the arguments. -/
def rowsOf (c : Dev nD) : Vec Ideal S288x2560 .f32 :=
  normed (m ((c : Thread nD τ).loc main_arg0)) (m ((c : Thread nD τ).loc main_arg1)) (asRow (m ((c : Thread nD τ).loc main_arg2))) (asRow (m ((c : Thread nD τ).loc main_arg3)))

/-- The array of normed rows after the run. -/
theorem final4 (c : Dev nD) : (dats m 0 c).arrAt 4 cfg0.N = (rowsOf m c) := by
  refine (dats m 0 c).arrAt_eq_of_cover 4 ((rowsOf m c)) (fun t _ => ?_) fun i => ?_
  · show (cfg0.win 4).cut (grid0.coords t) ((dats m 0 c).after 4 t) = _
    rw [after0_4, out4_eq, iblk0_eq, iblk1_eq, iblk2_eq, iblk3_eq, V_main_arg0, V_main_arg1, V_main_v0, V_main_v1]
    funext j
    show (rowsOf m c) j = (rowsOf m c) (((cfg0.win 4).blk t).view.emb j)
    rw [emb4]
  · exact ⟨(⟨0, by decide⟩ : Fin cfg0.N), flush0_4 _, by have h := ((cfg0.win 4).blk (⟨0, by decide⟩ : Fin cfg0.N)).view.emb_mem_set i; rwa [emb4] at h⟩

/-- The array of codes after the run. -/
theorem final5 (c : Dev nD) : (dats m 0 c).arrAt 5 cfg0.N = codes (n := 2560) (rowsOf m c) := by
  refine (dats m 0 c).arrAt_eq_of_cover 5 (codes (n := 2560) (rowsOf m c)) (fun t _ => ?_) fun i => ?_
  · show (cfg0.win 5).cut (grid0.coords t) ((dats m 0 c).after 5 t) = _
    rw [after0_5, out5_eq, iblk0_eq, iblk1_eq, iblk2_eq, iblk3_eq, V_main_arg0, V_main_arg1, V_main_v0, V_main_v1]
    funext j
    show codes (n := 2560) (rowsOf m c) j = codes (n := 2560) (rowsOf m c) (((cfg0.win 5).blk t).view.emb j)
    rw [emb5]
  · exact ⟨(⟨0, by decide⟩ : Fin cfg0.N), flush0_5 _, by have h := ((cfg0.win 5).blk (⟨0, by decide⟩ : Fin cfg0.N)).view.emb_mem_set i; rwa [emb5] at h⟩

/-- The array of scales after the run. -/
theorem final6 (c : Dev nD) : (dats m 0 c).arrAt 6 cfg0.N = scales (n := 2560) (rowsOf m c) := by
  refine (dats m 0 c).arrAt_eq_of_cover 6 (scales (n := 2560) (rowsOf m c)) (fun t _ => ?_) fun i => ?_
  · show (cfg0.win 6).cut (grid0.coords t) ((dats m 0 c).after 6 t) = _
    rw [after0_6, out6_eq, iblk0_eq, iblk1_eq, iblk2_eq, iblk3_eq, V_main_arg0, V_main_arg1, V_main_v0, V_main_v1]
    funext j
    show scales (n := 2560) (rowsOf m c) j = scales (n := 2560) (rowsOf m c) (((cfg0.win 6).blk t).view.emb j)
    rw [emb6]
  · exact ⟨(⟨0, by decide⟩ : Fin cfg0.N), flush0_6 _, by have h := ((cfg0.win 6).blk (⟨0, by decide⟩ : Fin cfg0.N)).view.emb_mem_set i; rwa [emb6] at h⟩

/-- The run: the result arrays are the normed rows, their codes and their scales, and the arguments are unchanged. -/
theorem run : θ_run defs (onTc (τ := τ) (main (F := Ideal))) ⟨m, fun _ => 0, ρ⟩ fun r => ∀ c : Dev nD,
      r.2.mem ((c : Thread nD τ).loc main_v2_0) = rowsOf m c
      ∧ r.2.mem ((c : Thread nD τ).loc main_v2_1) = codes (n := 2560) (rowsOf m c)
      ∧ r.2.mem ((c : Thread nD τ).loc main_v2_2) = scales (n := 2560) (rowsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c), ((h c).1 6).trans (final6 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

end Cert.NormIdeal.Hand

namespace Cert.NormReferenceIdeal.Hand

open Cert.NormReferenceIdeal Cert.NormReferenceIdeal.Gen Idealize.ShloMosaic Idealize.ShloMosaic.TcCoe Idealize.SL.Sem
open Cert.Rows

variable (m : (ℓ : Loc nD τ sig) → Buf (Elt Ideal) ℓ) (ρ : Dev nD → PrngReg)

theorem hz : (![0, 0] : Fin 2 → Nat) = fun _ => 0 := funext fun a => by fin_cases a <;> rfl

/-! Each window's block is its whole array. -/

theorem idx0 : ∀ t : Fin cfg0.N, win0_0.index t (0 : Fin 2) = 0 ∧ win0_0.index t (1 : Fin 2) = 0 :=
  (by decide +kernel : ∀ t : Fin grid0.N, _)
theorem emb0 (t : Fin cfg0.N) (j : S288x2560.Idx) : ((cfg0.win 0).blk t).view.emb j = j := by
  obtain ⟨e0, e1⟩ := idx0 t
  funext a; apply Fin.ext
  match a with
  | ⟨0, _⟩ => show win0_0.index t (0 : Fin 2) * 288 + 1 * (j 0).val = (j 0).val; omega
  | ⟨1, _⟩ => show win0_0.index t (1 : Fin 2) * 2560 + 1 * (j 1).val = (j 1).val; omega
theorem idx1 : ∀ t : Fin cfg0.N, win0_1.index t (0 : Fin 2) = 0 ∧ win0_1.index t (1 : Fin 2) = 0 :=
  (by decide +kernel : ∀ t : Fin grid0.N, _)
theorem emb1 (t : Fin cfg0.N) (j : S288x2560.Idx) : ((cfg0.win 1).blk t).view.emb j = j := by
  obtain ⟨e0, e1⟩ := idx1 t
  funext a; apply Fin.ext
  match a with
  | ⟨0, _⟩ => show win0_1.index t (0 : Fin 2) * 288 + 1 * (j 0).val = (j 0).val; omega
  | ⟨1, _⟩ => show win0_1.index t (1 : Fin 2) * 2560 + 1 * (j 1).val = (j 1).val; omega
theorem idx2 : ∀ t : Fin cfg0.N, win0_2.index t (0 : Fin 2) = 0 ∧ win0_2.index t (1 : Fin 2) = 0 :=
  (by decide +kernel : ∀ t : Fin grid0.N, _)
theorem emb2 (t : Fin cfg0.N) (j : S1x2560.Idx) : ((cfg0.win 2).blk t).view.emb j = j := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 2560 + 1 * (j 1).val = (j 1).val; omega
theorem idx3 : ∀ t : Fin cfg0.N, win0_3.index t (0 : Fin 2) = 0 ∧ win0_3.index t (1 : Fin 2) = 0 :=
  (by decide +kernel : ∀ t : Fin grid0.N, _)
theorem emb3 (t : Fin cfg0.N) (j : S1x2560.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 2560 + 1 * (j 1).val = (j 1).val; omega
theorem idx4 : ∀ t : Fin cfg0.N, win0_4.index t (0 : Fin 2) = 0 ∧ win0_4.index t (1 : Fin 2) = 0 :=
  (by decide +kernel : ∀ t : Fin grid0.N, _)
theorem emb4 (t : Fin cfg0.N) (j : S288x2560.Idx) : ((cfg0.win 4).blk t).view.emb j = j := by
  obtain ⟨e0, e1⟩ := idx4 t
  funext a; apply Fin.ext
  match a with
  | ⟨0, _⟩ => show win0_4.index t (0 : Fin 2) * 288 + 1 * (j 0).val = (j 0).val; omega
  | ⟨1, _⟩ => show win0_4.index t (1 : Fin 2) * 2560 + 1 * (j 1).val = (j 1).val; omega
theorem idx5 : ∀ t : Fin cfg0.N, win0_5.index t (0 : Fin 2) = 0 ∧ win0_5.index t (1 : Fin 2) = 0 :=
  (by decide +kernel : ∀ t : Fin grid0.N, _)
theorem emb5 (t : Fin cfg0.N) (j : S288x2560.Idx) : ((cfg0.win 5).blk t).view.emb j = j := by
  obtain ⟨e0, e1⟩ := idx5 t
  funext a; apply Fin.ext
  match a with
  | ⟨0, _⟩ => show win0_5.index t (0 : Fin 2) * 288 + 1 * (j 0).val = (j 0).val; omega
  | ⟨1, _⟩ => show win0_5.index t (1 : Fin 2) * 2560 + 1 * (j 1).val = (j 1).val; omega
theorem idx6 : ∀ t : Fin cfg0.N, win0_6.index t (0 : Fin 2) = 0 ∧ win0_6.index t (1 : Fin 2) = 0 :=
  (by decide +kernel : ∀ t : Fin grid0.N, _)
theorem emb6 (t : Fin cfg0.N) (j : S288x1.Idx) : ((cfg0.win 6).blk t).view.emb j = j := by
  obtain ⟨e0, e1⟩ := idx6 t
  funext a; apply Fin.ext
  match a with
  | ⟨0, _⟩ => show win0_6.index t (0 : Fin 2) * 288 + 1 * (j 0).val = (j 0).val; omega
  | ⟨1, _⟩ => show win0_6.index t (1 : Fin 2) * 1 + 1 * (j 1).val = (j 1).val; omega

theorem iblk0_eq (c : Dev nD) (t : Fin cfg0.N) : iblk m c 0 t = V m c main_arg0 := by
  funext j; show V m c main_arg0 (((cfg0.win 0).blk t).view.emb j) = V m c main_arg0 j; rw [emb0]
theorem iblk1_eq (c : Dev nD) (t : Fin cfg0.N) : iblk m c 1 t = V m c main_arg1 := by
  funext j; show V m c main_arg1 (((cfg0.win 1).blk t).view.emb j) = V m c main_arg1 j; rw [emb1]
theorem iblk2_eq (c : Dev nD) (t : Fin cfg0.N) : iblk m c 2 t = V m c main_v0 := by
  funext j; show V m c main_v0 (((cfg0.win 2).blk t).view.emb j) = V m c main_v0 j; rw [emb2]
theorem iblk3_eq (c : Dev nD) (t : Fin cfg0.N) : iblk m c 3 t = V m c main_v1 := by
  funext j; show V m c main_v1 (((cfg0.win 3).blk t).view.emb j) = V m c main_v1 j; rw [emb3]

/-- A vector of parameters as a matrix of one row. -/
def asRow (g : Vec Ideal S2560 .f32) : Vec Ideal S1x2560 .f32 := broadcastInDim S1x2560 ![1] bcast_S2560_S1x2560_1 g

theorem V_main_v0 (c : Dev nD) : V m c main_v0 = asRow (m ((c : Thread nD τ).loc main_arg2)) := by
  show StableHlo.after hostOps0 (fun b => m (c, b)) (Proc.devRef .tc main_v0) = _
  unfold hostOps0
  rw [StableHlo.after_cons, StableHlo.after_cons, StableHlo.after_nil, StableHlo.unary_result_ne _ _ _ _ _ _ (by decide), StableHlo.unary_result]
  rfl
theorem V_main_v1 (c : Dev nD) : V m c main_v1 = asRow (m ((c : Thread nD τ).loc main_arg3)) := by
  show StableHlo.after hostOps0 (fun b => m (c, b)) (Proc.devRef .tc main_v1) = _
  unfold hostOps0
  rw [StableHlo.after_cons, StableHlo.after_cons, StableHlo.after_nil, StableHlo.unary_result, StableHlo.unary_result_ne _ _ _ _ _ _ (by decide)]
  rfl

theorem ld0 (X : Vec Ideal S288x2560 .f32) : View.ld X r0_0 = X := View.ld_unit_zero hz _ X
theorem ld1 (G : Vec Ideal S1x2560 .f32) : View.ld G r0_1 = G := View.ld_unit_zero hz _ G

/-- The normed rows, as the body computes them. -/
def normed (X A : Vec Ideal S288x2560 .f32) (G B : Vec Ideal S1x2560 .f32) : Vec Ideal S288x2560 .f32 := k0_pay1 (F := Ideal) X A G B

/-- The body leaves the normed rows, -/
theorem out4_eq (X A : Vec Ideal S288x2560 .f32) (G B : Vec Ideal S1x2560 .f32) : out0_4 (F := Ideal) X A G B = normed X A G B := by
  unfold out0_4
  rw [View.canon_unit_zero hz, ld0, ld0, ld1, ld1]
  rfl

/-- the rows' codes -/
theorem out5_eq (X A : Vec Ideal S288x2560 .f32) (G B : Vec Ideal S1x2560 .f32) : out0_5 (F := Ideal) X A G B = codes (n := 2560) (normed X A G B) := by
  unfold out0_5 k0_pay9 k0_pay8
  rw [View.canon_unit_zero hz, ld0, ld0, ld1, ld1]
  exact ref_codes reduces_S288x2560_S288 shapeCasts_S288_S288x1 broadcasts_S288x1_S288x2560 bitsLt_fp8e4m3_f32 (normed X A G B)

/-- and scales. -/
theorem out6_eq (X A : Vec Ideal S288x2560 .f32) (G B : Vec Ideal S1x2560 .f32) : out0_6 (F := Ideal) X A G B = scales (n := 2560) (normed X A G B) := by
  unfold out0_6 k0_pay9 k0_pay8
  rw [View.canon_unit_zero hz, ld0, ld0, ld1, ld1]
  exact ref_scales reduces_S288x2560_S288 shapeCasts_S288_S288x1 (normed X A G B)

/-- The normed rows of the arguments. -/
def rowsOf (c : Dev nD) : Vec Ideal S288x2560 .f32 :=
  normed (m ((c : Thread nD τ).loc main_arg0)) (m ((c : Thread nD τ).loc main_arg1)) (asRow (m ((c : Thread nD τ).loc main_arg2))) (asRow (m ((c : Thread nD τ).loc main_arg3)))

/-- The array of normed rows after the run. -/
theorem final4 (c : Dev nD) : (dats m 0 c).arrAt 4 cfg0.N = (rowsOf m c) := by
  refine (dats m 0 c).arrAt_eq_of_cover 4 ((rowsOf m c)) (fun t _ => ?_) fun i => ?_
  · show (cfg0.win 4).cut (grid0.coords t) ((dats m 0 c).after 4 t) = _
    rw [after0_4, out4_eq, iblk0_eq, iblk1_eq, iblk2_eq, iblk3_eq, V_main_arg0, V_main_arg1, V_main_v0, V_main_v1]
    funext j
    show (rowsOf m c) j = (rowsOf m c) (((cfg0.win 4).blk t).view.emb j)
    rw [emb4]
  · exact ⟨(⟨0, by decide⟩ : Fin cfg0.N), flush0_4 _, by have h := ((cfg0.win 4).blk (⟨0, by decide⟩ : Fin cfg0.N)).view.emb_mem_set i; rwa [emb4] at h⟩

/-- The array of codes after the run. -/
theorem final5 (c : Dev nD) : (dats m 0 c).arrAt 5 cfg0.N = codes (n := 2560) (rowsOf m c) := by
  refine (dats m 0 c).arrAt_eq_of_cover 5 (codes (n := 2560) (rowsOf m c)) (fun t _ => ?_) fun i => ?_
  · show (cfg0.win 5).cut (grid0.coords t) ((dats m 0 c).after 5 t) = _
    rw [after0_5, out5_eq, iblk0_eq, iblk1_eq, iblk2_eq, iblk3_eq, V_main_arg0, V_main_arg1, V_main_v0, V_main_v1]
    funext j
    show codes (n := 2560) (rowsOf m c) j = codes (n := 2560) (rowsOf m c) (((cfg0.win 5).blk t).view.emb j)
    rw [emb5]
  · exact ⟨(⟨0, by decide⟩ : Fin cfg0.N), flush0_5 _, by have h := ((cfg0.win 5).blk (⟨0, by decide⟩ : Fin cfg0.N)).view.emb_mem_set i; rwa [emb5] at h⟩

/-- The array of scales after the run. -/
theorem final6 (c : Dev nD) : (dats m 0 c).arrAt 6 cfg0.N = scales (n := 2560) (rowsOf m c) := by
  refine (dats m 0 c).arrAt_eq_of_cover 6 (scales (n := 2560) (rowsOf m c)) (fun t _ => ?_) fun i => ?_
  · show (cfg0.win 6).cut (grid0.coords t) ((dats m 0 c).after 6 t) = _
    rw [after0_6, out6_eq, iblk0_eq, iblk1_eq, iblk2_eq, iblk3_eq, V_main_arg0, V_main_arg1, V_main_v0, V_main_v1]
    funext j
    show scales (n := 2560) (rowsOf m c) j = scales (n := 2560) (rowsOf m c) (((cfg0.win 6).blk t).view.emb j)
    rw [emb6]
  · exact ⟨(⟨0, by decide⟩ : Fin cfg0.N), flush0_6 _, by have h := ((cfg0.win 6).blk (⟨0, by decide⟩ : Fin cfg0.N)).view.emb_mem_set i; rwa [emb6] at h⟩

/-- The run: the result arrays are the normed rows, their codes and their scales, and the arguments are unchanged. -/
theorem run : θ_run defs (onTc (τ := τ) (main (F := Ideal))) ⟨m, fun _ => 0, ρ⟩ fun r => ∀ c : Dev nD,
      r.2.mem ((c : Thread nD τ).loc main_v2_0) = rowsOf m c
      ∧ r.2.mem ((c : Thread nD τ).loc main_v2_1) = codes (n := 2560) (rowsOf m c)
      ∧ r.2.mem ((c : Thread nD τ).loc main_v2_2) = scales (n := 2560) (rowsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c), ((h c).1 6).trans (final6 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

end Cert.NormReferenceIdeal.Hand

/-- Kernel and reference norm the rows by the same operations. -/
theorem Cert.NormReferenceIdeal.Hand.normed_eq : @Cert.NormReferenceIdeal.Hand.normed = @Cert.NormIdeal.Hand.normed := rfl

open Idealize.ShloMosaic Idealize.SL.Sem in
/-- Over the same arguments the norm with its quantiser and its reference end with the same arrays. -/
theorem Cert.Proof.algebraicNorm : Cert.algebraic_NormIdeal_NormReferenceIdeal (hNormIdeal := Cert.NormIdeal.Gen.facts) (hNormReferenceIdeal := Cert.NormReferenceIdeal.Gen.facts) := by
  intro m g m' g' _ hargs
  refine ⟨_, _, _, Cert.NormIdeal.Hand.run m g, ?_⟩
  refine (θ_run _ _ _).mono (fun r h c => ?_) (Cert.NormReferenceIdeal.Hand.run m' g')
  obtain ⟨h0, h1, h2, hk⟩ := h c
  obtain ⟨e0, e1, e2, e3⟩ := hargs c
  have e : Cert.NormReferenceIdeal.Hand.rowsOf m' c = Cert.NormIdeal.Hand.rowsOf m c := by
    unfold Cert.NormReferenceIdeal.Hand.rowsOf Cert.NormIdeal.Hand.rowsOf
    rw [Cert.NormReferenceIdeal.Hand.normed_eq, e0, e1, e2, e3]
    rfl
  exact ⟨h0.trans e, h1.trans (by rw [e]), h2.trans (by rw [e]), hk⟩

end
-- ==== Proof.lean ====
module

public import proofs.«01_k».proof.Defs
public import proofs.«01_k».proof.Proof.Gen.Kernel.Frame
public import proofs.«01_k».proof.Proof.Gen.ReferenceIdeal.Frame
public import proofs.«01_k».proof.Proof.Points
public import proofs.«01_k».proof.Proof.PrintedPoints
public import proofs.«01_k».proof.Proof.Arrays
public import proofs.«01_k».proof.Proof.RefValue
public import proofs.«01_k».proof.Proof.Gen.Ctx.Frame
public import proofs.«01_k».proof.Proof.Gen.Ffn.Frame
public import proofs.«01_k».proof.Proof.Gen.Norm.Frame
public import proofs.«01_k».proof.Proof.CtxRows
public import proofs.«01_k».proof.Proof.FfnRows
public import proofs.«01_k».proof.Proof.NormRows

@[expose] public section

open Idealize.ShloMosaic Idealize.SL.Sem in
/-- Over the same arguments the kernel and the reference end with the same arrays. -/
theorem Cert.Proof.algebraic : Cert.algebraic_KernelIdeal_ReferenceIdeal (hKernelIdeal := Cert.KernelIdeal.Gen.facts) (hReferenceIdeal := Cert.ReferenceIdeal.Gen.facts) := by
  intro m g m' g' _ hargs
  refine ⟨_, _, _, _, _, _, Cert.KernelIdeal.Hand.run m g, ?_⟩
  refine (θ_run _ _ _).mono (fun r h c => ?_) (Cert.ReferenceIdeal.Hand.run (F := Ideal) m' g')
  obtain ⟨h0, h1, h2, h3, h4, h5, hk⟩ := h c
  obtain ⟨e0, e1, e2, e3, e4, e5⟩ := hargs c
  rw [Cert.ReferenceIdeal.Hand.G6_eq] at h0
  rw [Cert.ReferenceIdeal.Hand.G7_eq] at h1
  rw [Cert.ReferenceIdeal.Hand.G8_eq] at h2
  rw [Cert.ReferenceIdeal.Hand.G9_eq] at h3
  rw [Cert.ReferenceIdeal.Hand.G10_eq] at h4
  rw [Cert.ReferenceIdeal.Hand.G11_eq] at h5
  exact ⟨h0.trans (by rw [e0]), h1.trans (by rw [e0]), h2.trans (by rw [e0, e1, e2]), h3.trans (by rw [e0, e1, e2]),
    h4.trans (by rw [e0, e3, e4, e5]), h5.trans (by rw [e0, e3, e4, e5]), hk⟩

theorem Cert.Proof.claim : Cert.Claim :=
  ⟨Cert.Kernel.Gen.facts, Cert.KernelIdeal.Gen.facts, Cert.ReferenceIdeal.Gen.facts,
    Cert.Ctx.Gen.facts, Cert.CtxIdeal.Gen.facts, Cert.CtxReferenceIdeal.Gen.facts, Cert.Ffn.Gen.facts, Cert.FfnIdeal.Gen.facts, Cert.FfnReferenceIdeal.Gen.facts, Cert.Norm.Gen.facts, Cert.NormIdeal.Gen.facts, Cert.NormReferenceIdeal.Gen.facts,
    fun m ρ _ => Cert.Kernel.Hand.frame m ρ, fun m ρ _ => Cert.KernelIdeal.Hand.frame m ρ,
    fun m ρ _ => Cert.ReferenceIdeal.Gen.frame m ρ,
    fun m ρ _ => Cert.Ctx.Gen.frame m ρ, fun m ρ _ => Cert.CtxIdeal.Gen.frame m ρ, fun m ρ _ => Cert.CtxReferenceIdeal.Gen.frame m ρ,
    fun m ρ _ => Cert.Ffn.Gen.frame m ρ, fun m ρ _ => Cert.FfnIdeal.Gen.frame m ρ, fun m ρ _ => Cert.FfnReferenceIdeal.Gen.frame m ρ,
    fun m ρ _ => Cert.Norm.Gen.frame m ρ, fun m ρ _ => Cert.NormIdeal.Gen.frame m ρ, fun m ρ _ => Cert.NormReferenceIdeal.Gen.frame m ρ,
    trivial, Cert.Proof.algebraic, trivial, Cert.Proof.algebraicCtx, trivial, Cert.Proof.algebraicFfn,
    trivial, Cert.Proof.algebraicNorm⟩
